-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qk [hPre_finite_qk : Cert.Pre_finite_qk.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qk.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_in_range [hPre_in_range : Cert.Pre_in_range.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_in_range.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_in_range [hPre_in_range : Cert.Pre_in_range.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_in_range.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_qk [hKernel2Ideal : Cert.Kernel2Ideal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qk m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_in_range [hKernel8Ideal : Cert.Kernel8Ideal.Facts] [hPre_in_range : Cert.Pre_in_range.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_in_range m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_in_range [hReference8Ideal : Cert.Reference8Ideal.Facts] [hPre_in_range : Cert.Pre_in_range.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_in_range m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_ReferenceIdeal_pre_finite_qk [hKernel2Ideal : Cert.Kernel2Ideal.Facts] [hReferenceIdeal : Cert.ReferenceIdeal.Facts] [hPre_finite_qk : Cert.Pre_finite_qk.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_Kernel2Ideal_finite_qk m →
    (∀ c : Dev Cert.Kernel2Ideal.nD,
      m' ((c.tc : Thread Cert.ReferenceIdeal.nD Cert.ReferenceIdeal.τ).loc Cert.ReferenceIdeal.main_arg0) = m ((c.tc : Thread Cert.Kernel2Ideal.nD Cert.Kernel2Ideal.τ).loc Cert.Kernel2Ideal.main_arg0)
      ∧ m' ((c.tc : Thread Cert.ReferenceIdeal.nD Cert.ReferenceIdeal.τ).loc Cert.ReferenceIdeal.main_arg1) = m ((c.tc : Thread Cert.Kernel2Ideal.nD Cert.Kernel2Ideal.τ).loc Cert.Kernel2Ideal.main_arg1)
      ∧ m' ((c.tc : Thread Cert.ReferenceIdeal.nD Cert.ReferenceIdeal.τ).loc Cert.ReferenceIdeal.main_arg2) = m ((c.tc : Thread Cert.Kernel2Ideal.nD Cert.Kernel2Ideal.τ).loc Cert.Kernel2Ideal.main_arg2)
      ∧ m' ((c.tc : Thread Cert.ReferenceIdeal.nD Cert.ReferenceIdeal.τ).loc Cert.ReferenceIdeal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel3_Kernel3Ideal : Prop :=
  IdealRules.named_const.Statement Cert.Kernel3Ideal.κ "query_scale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v47_0)) (v1 : (c : Dev Cert.Kernel3Ideal.nD) → Buf (Elt Ideal) ((c.tc : Thread Cert.Kernel3Ideal.nD Cert.Kernel3Ideal.τ).loc Cert.Kernel3Ideal.main_v47_1)) (v2 : (c : Dev Cert.Kernel3Ideal.nD) → Buf (Elt Ideal) ((c.tc : Thread Cert.Kernel3Ideal.nD Cert.Kernel3Ideal.τ).loc Cert.Kernel3Ideal.main_v47_2)) (v3 : (c : Dev Cert.Kernel3Ideal.nD) → Buf (Elt Ideal) ((c.tc : Thread Cert.Kernel3Ideal.nD Cert.Kernel3Ideal.τ).loc Cert.Kernel3Ideal.main_v47_3)) (v4 : (c : Dev Cert.Kernel3Ideal.nD) → Buf (Elt Ideal) ((c.tc : Thread Cert.Kernel3Ideal.nD Cert.Kernel3Ideal.τ).loc Cert.Kernel3Ideal.main_v47_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v47_0) = v0 c
          ∧ r.2.mem ((c.tc : Thread Cert.Kernel3Ideal.nD Cert.Kernel3Ideal.τ).loc Cert.Kernel3Ideal.main_v47_1) = v1 c
          ∧ r.2.mem ((c.tc : Thread Cert.Kernel3Ideal.nD Cert.Kernel3Ideal.τ).loc Cert.Kernel3Ideal.main_v47_2) = v2 c
          ∧ r.2.mem ((c.tc : Thread Cert.Kernel3Ideal.nD Cert.Kernel3Ideal.τ).loc Cert.Kernel3Ideal.main_v47_3) = v3 c
          ∧ r.2.mem ((c.tc : Thread Cert.Kernel3Ideal.nD Cert.Kernel3Ideal.τ).loc Cert.Kernel3Ideal.main_v47_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v196) = v0 c
          ∧ r.2.mem ((c.tc : Thread Cert.Reference3Ideal.nD Cert.Reference3Ideal.τ).loc Cert.Reference3Ideal.main_v198) = v1 c
          ∧ r.2.mem ((c.tc : Thread Cert.Reference3Ideal.nD Cert.Reference3Ideal.τ).loc Cert.Reference3Ideal.main_v200) = v2 c
          ∧ r.2.mem ((c.tc : Thread Cert.Reference3Ideal.nD Cert.Reference3Ideal.τ).loc Cert.Reference3Ideal.main_v202) = v3 c
          ∧ r.2.mem ((c.tc : Thread Cert.Reference3Ideal.nD Cert.Reference3Ideal.τ).loc Cert.Reference3Ideal.main_v203) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "alpha" .f32 0x3F9837F0#32 ((Real.sqrt (Real.sqrt 2) : ℝ) : EReal)
  ∧ IdealRules.bf16_pair.PackStatement Cert.Kernel4Ideal.S256x512
  ∧ IdealRules.bf16_pair.Statement Cert.Kernel4Ideal.S1x512x128 Cert.Kernel4Ideal.S1x256x128

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  IdealRules.named_const.Statement Cert.Kernel5Ideal.κ "alpha" .f32 0x3F9837F0#32 ((Real.sqrt (Real.sqrt 2) : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v51)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v51) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v11)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal_pre_in_range [hKernel8Ideal : Cert.Kernel8Ideal.Facts] [hReference8Ideal : Cert.Reference8Ideal.Facts] [hPre_in_range : Cert.Pre_in_range.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_in_range m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_qk : Cert.Pre_finite_qk.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_qk (hKernel2Ideal := hKernel2Ideal) (hPre_finite_qk := hPre_finite_qk)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_in_range (hKernel8Ideal := hKernel8Ideal) (hPre_in_range := hPre_in_range)
    ∧ quiescent_Reference8Ideal (hReference8Ideal := hReference8Ideal)
    ∧ quiescent_Reference8Ideal_pre_in_range (hReference8Ideal := hReference8Ideal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_ReferenceIdeal_pre_finite_qk (hKernel2Ideal := hKernel2Ideal) (hReferenceIdeal := hReferenceIdeal) (hPre_finite_qk := hPre_finite_qk)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_in_range (hKernel8Ideal := hKernel8Ideal) (hReference8Ideal := hReference8Ideal) (hPre_in_range := hPre_in_range)
-- ==== Pre_finite.lean ====
abbrev S1 : Shape := ⟨1, ![1]⟩
abbrev S16x16x2048x64 : Shape := ⟨4, ![16, 16, 2048, 64]⟩
abbrev S16x4x2048x64 : Shape := ⟨4, ![16, 4, 2048, 64]⟩
abbrev S16x4x64x2048 : Shape := ⟨4, ![16, 4, 64, 2048]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bitsLt_bf16_f32 : FTy.bits .bf16 < FTy.bits .f32
  bcast_S_S16x16x2048x64 : S_.BroadcastsInDim S16x16x2048x64 (![] : Fin 0 → Fin S16x16x2048x64.rank)
  reducesTo_S16x16x2048x64_S_d0_1_2_3 : S16x16x2048x64.ReducesTo [0, 1, 2, 3] S_
  bcast_S_S16x4x2048x64 : S_.BroadcastsInDim S16x4x2048x64 (![] : Fin 0 → Fin S16x4x2048x64.rank)
  reducesTo_S16x4x2048x64_S_d0_1_2_3 : S16x4x2048x64.ReducesTo [0, 1, 2, 3] S_

variable [Facts]

def fn {F : FTy → Type} [FloatOps F] (main_arg0 : FVec F S1 .f32) (main_arg1 : FVec F S16x16x2048x64 .bf16) (main_arg2 : FVec F S16x4x2048x64 .bf16) (main_arg3 : FVec F S16x4x64x2048 .bf16) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S16x16x2048x64 .f32 := (extf .f32 · bitsLt_bf16_f32) main_arg1
  let main_v5 : FVec F S16x16x2048x64 .f32 := Host.absf main_v4
  let main_cst_0 : FVec F S_ .f32 := constant S_ .f32 0x7F800000#32
  let main_v6 : FVec F S16x16x2048x64 .f32 := broadcastInDim S16x16x2048x64 ![] bcast_S_S16x16x2048x64 main_cst_0
  let main_v7 : IVec S16x16x2048x64 1 := cmpf .olt main_v5 main_v6
  let main_c_1 : IVec S_ 1 := constantI S_ 1 1#1
  let main_v8 : IVec S_ 1 := (fun x v => Host.reduce IntOp.andi x v reducesTo_S16x16x2048x64_S_d0_1_2_3 h_S_) main_v7 main_c_1
  let main_v9 : FVec F S16x4x2048x64 .f32 := (extf .f32 · bitsLt_bf16_f32) main_arg2
  let main_v10 : FVec F S16x4x2048x64 .f32 := Host.absf main_v9
  let main_cst_2 : FVec F S_ .f32 := constant S_ .f32 0x7F800000#32
  let main_v11 : FVec F S16x4x2048x64 .f32 := broadcastInDim S16x4x2048x64 ![] bcast_S_S16x4x2048x64 main_cst_2
  let main_v12 : IVec S16x4x2048x64 1 := cmpf .olt main_v10 main_v11
  let main_c_3 : IVec S_ 1 := constantI S_ 1 1#1
  let main_v13 : IVec S_ 1 := (fun x v => Host.reduce IntOp.andi x v reducesTo_S16x4x2048x64_S_d0_1_2_3 h_S_) main_v12 main_c_3
  let main_v14 : IVec S_ 1 := andi main_v8 main_v13
  let main_v15 : IVec S_ 1 := andi main_v3 main_v14
  main_v15
-- ==== Pre_finite_qk.lean ====
abbrev S1 : Shape := ⟨1, ![1]⟩
abbrev S16x16x2048x64 : Shape := ⟨4, ![16, 16, 2048, 64]⟩
abbrev S16x4x2048x64 : Shape := ⟨4, ![16, 4, 2048, 64]⟩
abbrev S16x4x64x2048 : Shape := ⟨4, ![16, 4, 64, 2048]⟩
abbrev S_ : Shape := ⟨0, ![]⟩

class Facts : Prop where
  bitsLt_bf16_f32 : FTy.bits .bf16 < FTy.bits .f32
  bcast_S_S16x16x2048x64 : S_.BroadcastsInDim S16x16x2048x64 (![] : Fin 0 → Fin S16x16x2048x64.rank)
  reducesTo_S16x16x2048x64_S_d0_1_2_3 : S16x16x2048x64.ReducesTo [0, 1, 2, 3] S_
  h_S_ : 0 < S_.numel
  bcast_S_S16x4x2048x64 : S_.BroadcastsInDim S16x4x2048x64 (![] : Fin 0 → Fin S16x4x2048x64.rank)
  reducesTo_S16x4x2048x64_S_d0_1_2_3 : S16x4x2048x64.ReducesTo [0, 1, 2, 3] S_

variable [Facts]

def fn {F : FTy → Type} [FloatOps F] (main_arg0 : FVec F S1 .f32) (main_arg1 : FVec F S16x16x2048x64 .bf16) (main_arg2 : FVec F S16x4x2048x64 .bf16) (main_arg3 : FVec F S16x4x64x2048 .bf16) : IVec S_ 1 :=
  let main_v0 : FVec F S16x16x2048x64 .f32 := (extf .f32 · bitsLt_bf16_f32) main_arg1
  let main_v1 : FVec F S16x16x2048x64 .f32 := Host.absf main_v0
  let main_cst : FVec F S_ .f32 := constant S_ .f32 0x7F800000#32
  let main_v2 : FVec F S16x16x2048x64 .f32 := broadcastInDim S16x16x2048x64 ![] bcast_S_S16x16x2048x64 main_cst
  let main_v3 : IVec S16x16x2048x64 1 := cmpf .olt main_v1 main_v2
  let main_c : IVec S_ 1 := constantI S_ 1 1#1
  let main_v4 : IVec S_ 1 := (fun x v => Host.reduce IntOp.andi x v reducesTo_S16x16x2048x64_S_d0_1_2_3 h_S_) main_v3 main_c
  let main_v5 : FVec F S16x4x2048x64 .f32 := (extf .f32 · bitsLt_bf16_f32) main_arg2
  let main_v6 : FVec F S16x4x2048x64 .f32 := Host.absf main_v5
  let main_cst_0 : FVec F S_ .f32 := constant S_ .f32 0x7F800000#32
  let main_v7 : FVec F S16x4x2048x64 .f32 := broadcastInDim S16x4x2048x64 ![] bcast_S_S16x4x2048x64 main_cst_0
  let main_v8 : IVec S16x4x2048x64 1 := cmpf .olt main_v6 main_v7
  let main_c_1 : IVec S_ 1 := constantI S_ 1 1#1
  let main_v9 : IVec S_ 1 := (fun x v => Host.reduce IntOp.andi x v reducesTo_S16x4x2048x64_S_d0_1_2_3 h_S_) main_v8 main_c_1
  let main_v10 : IVec S_ 1 := andi main_v4 main_v9
  main_v10
-- ==== Pre_in_range.lean ====
abbrev S8x32768 : Shape := ⟨2, ![8, 32768]⟩
abbrev S256 : Shape := ⟨1, ![256]⟩
abbrev S_ : Shape := ⟨0, ![]⟩

class Facts : Prop where
  bcast_S_S8x32768 : S_.BroadcastsInDim S8x32768 (![] : Fin 0 → Fin S8x32768.rank)
  reducesTo_S8x32768_S_d0_1 : S8x32768.ReducesTo [0, 1] S_
  h_S_ : 0 < S_.numel

variable [Facts]

def fn {F : FTy → Type} [FloatOps F] (main_arg0 : IVec S8x32768 32) (main_arg1 : IVec S8x32768 32) (main_arg2 : IVec S256 32) : IVec S_ 1 :=
  let main_c : IVec S_ 32 := constantI S_ 32 0#32
  let main_v0 : IVec S8x32768 32 := broadcastInDim S8x32768 ![] bcast_S_S8x32768 main_c
  let main_v1 : IVec S8x32768 1 := cmpi .sge main_arg0 main_v0
  let main_c_0 : IVec S_ 32 := constantI S_ 32 256#32
  let main_v2 : IVec S8x32768 32 := broadcastInDim S8x32768 ![] bcast_S_S8x32768 main_c_0
  let main_v3 : IVec S8x32768 1 := cmpi .slt main_arg0 main_v2
  let main_v4 : IVec S8x32768 1 := andi main_v1 main_v3
  let main_c_1 : IVec S_ 1 := constantI S_ 1 1#1
  let main_v5 : IVec S_ 1 := (fun x v => Host.reduce IntOp.andi x v reducesTo_S8x32768_S_d0_1 h_S_) main_v4 main_c_1
  main_v5
-- ==== Kernel.lean ====
abbrev S1 : Shape := ⟨1, ![1]⟩
abbrev S16x16x2048x64 : Shape := ⟨4, ![16, 16, 2048, 64]⟩
abbrev S16x4x2048x64 : Shape := ⟨4, ![16, 4, 2048, 64]⟩
abbrev S16x4x64x2048 : Shape := ⟨4, ![16, 4, 64, 2048]⟩
abbrev S16x2048x1024 : Shape := ⟨3, ![16, 2048, 1024]⟩
abbrev S1x4x2048x64 : Shape := ⟨4, ![1, 4, 2048, 64]⟩
abbrev S1x1x2048x64 : Shape := ⟨4, ![1, 1, 2048, 64]⟩
abbrev S1x1x64x2048 : Shape := ⟨4, ![1, 1, 64, 2048]⟩
abbrev S1x2048x256 : Shape := ⟨3, ![1, 2048, 256]⟩
abbrev S128x2048 : Shape := ⟨2, ![128, 2048]⟩
abbrev S64x2048 : Shape := ⟨2, ![64, 2048]⟩
abbrev S2048x64 : Shape := ⟨2, ![2048, 64]⟩
abbrev S2048x2048 : Shape := ⟨2, ![2048, 2048]⟩
abbrev S1x2048 : Shape := ⟨2, ![1, 2048]⟩
abbrev S2048x256 : Shape := ⟨2, ![2048, 256]⟩

abbrev nBuf : Space → Nat
  | .hbm => 5
  | .vmem => 9
  | .smem => 1
  | _ => 0

abbrev bufTy : (tb : Table) → Fin (tcTables nBuf tb) → BufTy
  | .hbm, ⟨0, _⟩ => ⟨S1, .f32⟩
  | .hbm, ⟨1, _⟩ => ⟨S16x16x2048x64, .bf16⟩
  | .hbm, ⟨2, _⟩ => ⟨S16x4x2048x64, .bf16⟩
  | .hbm, ⟨3, _⟩ => ⟨S16x4x64x2048, .bf16⟩
  | .hbm, ⟨4, _⟩ => ⟨S16x2048x1024, .bf16⟩
  | .local _ .vmem, ⟨0, _⟩ => ⟨S1x4x2048x64, .bf16⟩
  | .local _ .vmem, ⟨1, _⟩ => ⟨S1x4x2048x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x64x2048, .bf16⟩
  | .local _ .vmem, ⟨5, _⟩ => ⟨S1x1x64x2048, .bf16⟩
  | .local _ .vmem, ⟨6, _⟩ => ⟨S1x2048x256, .bf16⟩
  | .local _ .vmem, ⟨7, _⟩ => ⟨S1x2048x256, .bf16⟩
  | .local _ .vmem, ⟨8, _⟩ => ⟨S128x2048, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S1 : Shape := ⟨1, ![1]⟩
abbrev S16x16x2048x64 : Shape := ⟨4, ![16, 16, 2048, 64]⟩
abbrev S16x4x2048x64 : Shape := ⟨4, ![16, 4, 2048, 64]⟩
abbrev S16x4x64x2048 : Shape := ⟨4, ![16, 4, 64, 2048]⟩
abbrev S16x4x4x2048x64 : Shape := ⟨5, ![16, 4, 4, 2048, 64]⟩
abbrev S16x4x4x2048x2048 : Shape := ⟨5, ![16, 4, 4, 2048, 2048]⟩
abbrev S_ : Shape := ⟨0, ![]⟩
abbrev S16x4x4x2048 : Shape := ⟨4, ![16, 4, 4, 2048]⟩
abbrev S16x4x4x2048x1 : Shape := ⟨5, ![16, 4, 4, 2048, 1]⟩
abbrev S16x4x64x4x2048 : Shape := ⟨5, ![16, 4, 64, 4, 2048]⟩
abbrev S16x2048x4x4x64 : Shape := ⟨5, ![16, 2048, 4, 4, 64]⟩
abbrev S16x2048x1024 : Shape := ⟨3, ![16, 2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1, .f32⟩
  | .hbm, ⟨1, _⟩ => ⟨S16x16x2048x64, .bf16⟩
  | .hbm, ⟨2, _⟩ => ⟨S16x4x2048x64, .bf16⟩
  | .hbm, ⟨3, _⟩ => ⟨S16x4x64x2048, .bf16⟩
  | .hbm, ⟨4, _⟩ => ⟨S16x16x2048x64, .f32⟩
  | .hbm, ⟨5, _⟩ => ⟨S16x4x4x2048x64, .f32⟩
  | .hbm, ⟨6, _⟩ => ⟨S16x4x2048x64, .f32⟩
  | .hbm, ⟨7, _⟩ => ⟨S16x4x64x2048, .f32⟩
  | .hbm, ⟨8, _⟩ => ⟨S16x4x4x2048x2048, .f32⟩
  | .hbm, ⟨9, _⟩ => ⟨S_, .f32⟩
  | .hbm, ⟨10, _⟩ => ⟨S_, .f32⟩
  | .hbm, ⟨11, _⟩ => ⟨S16x4x4x2048x2048, .f32⟩
  | .hbm, ⟨12, _⟩ => ⟨S16x4x4x2048x2048, .f32⟩
  | .hbm, ⟨13, _⟩ => ⟨S_, .f32⟩
  | .hbm, ⟨14, _⟩ => ⟨S16x4x4x2048, .f32⟩
  | .hbm, ⟨15, _⟩ => ⟨S_, .f32⟩
  | .hbm, ⟨16, _⟩ => ⟨S16x4x4x2048, .f32⟩
  | .hbm, ⟨17, _⟩ => ⟨S16x4x4x2048, .f32⟩
  | .hbm, ⟨18, _⟩ => ⟨S16x4x4x2048x1, .f32⟩
  | .hbm, ⟨19, _⟩ => ⟨S16x4x4x2048x2048, .f32⟩
  | .hbm, ⟨20, _⟩ => ⟨S16x4x4x2048x2048, .f32⟩
  | .hbm, ⟨21, _⟩ => ⟨S16x4x4x2048x2048, .f32⟩
  | .hbm, ⟨22, _⟩ => ⟨S_, .f32⟩
  | .hbm, ⟨23, _⟩ => ⟨S16x4x4x2048, .f32⟩
  | .hbm, ⟨24, _⟩ => ⟨S16x4x4x2048x1, .f32⟩
  | .hbm, ⟨25, _⟩ => ⟨S16x4x4x2048x2048, .f32⟩
  | .hbm, ⟨26, _⟩ => ⟨S16x4x4x2048x2048, .f32⟩
  | .hbm, ⟨27, _⟩ => ⟨S16x4x4x2048x2048, .bf16⟩
  | .hbm, ⟨28, _⟩ => ⟨S16x4x4x2048x2048, .f32⟩
  | .hbm, ⟨29, _⟩ => ⟨S16x4x64x4x2048, .f32⟩
  | .hbm, ⟨30, _⟩ => ⟨S16x2048x4x4x64, .f32⟩
  | .hbm, ⟨31, _⟩ => ⟨S16x2048x1024, .f32⟩
  | .hbm, ⟨32, _⟩ => ⟨S16x2048x1024, .bf16⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel2.lean ====
abbrev S1 : Shape := ⟨1, ![1]⟩
abbrev S16x16x2048x64 : Shape := ⟨4, ![16, 16, 2048, 64]⟩
abbrev S16x4x2048x64 : Shape := ⟨4, ![16, 4, 2048, 64]⟩
abbrev S16x4x64x2048 : Shape := ⟨4, ![16, 4, 64, 2048]⟩
abbrev S16x2048x1024 : Shape := ⟨3, ![16, 2048, 1024]⟩
abbrev S1x4x2048x64 : Shape := ⟨4, ![1, 4, 2048, 64]⟩
abbrev S1x1x2048x64 : Shape := ⟨4, ![1, 1, 2048, 64]⟩
abbrev S1x1x64x2048 : Shape := ⟨4, ![1, 1, 64, 2048]⟩
abbrev S1x2048x256 : Shape := ⟨3, ![1, 2048, 256]⟩
abbrev S128x2048 : Shape := ⟨2, ![128, 2048]⟩
abbrev S64x2048 : Shape := ⟨2, ![64, 2048]⟩
abbrev S2048x64 : Shape := ⟨2, ![2048, 64]⟩
abbrev S2048x2048 : Shape := ⟨2, ![2048, 2048]⟩
abbrev S2048 : Shape := ⟨1, ![2048]⟩
abbrev S1x2048 : Shape := ⟨2, ![1, 2048]⟩
abbrev S2048x256 : Shape := ⟨2, ![2048, 256]⟩

abbrev nBuf : Space → Nat
  | .hbm => 5
  | .vmem => 9
  | .smem => 1
  | _ => 0

abbrev bufTy : (tb : Table) → Fin (tcTables nBuf tb) → BufTy
  | .hbm, ⟨0, _⟩ => ⟨S1, .f32⟩
  | .hbm, ⟨1, _⟩ => ⟨S16x16x2048x64, .bf16⟩
  | .hbm, ⟨2, _⟩ => ⟨S16x4x2048x64, .bf16⟩
  | .hbm, ⟨3, _⟩ => ⟨S16x4x64x2048, .bf16⟩
  | .hbm, ⟨4, _⟩ => ⟨S16x2048x1024, .bf16⟩
  | .local _ .vmem, ⟨0, _⟩ => ⟨S1x4x2048x64, .bf16⟩
  | .local _ .vmem, ⟨1, _⟩ => ⟨S1x4x2048x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x64x2048, .bf16⟩
  | .local _ .vmem, ⟨5, _⟩ => ⟨S1x1x64x2048, .bf16⟩
  | .local _ .vmem, ⟨6, _⟩ => ⟨S1x2048x256, .bf16⟩
  | .local _ .vmem, ⟨7, _⟩ => ⟨S1x2048x256, .bf16⟩
  | .local _ .vmem, ⟨8, _⟩ => ⟨S128x2048, .bf16⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel3.lean ====
abbrev S16x2048x1024 : Shape := ⟨3, ![16, 2048, 1024]⟩
abbrev S1024x4096 : Shape := ⟨2, ![1024, 4096]⟩
abbrev S2048 : Shape := ⟨1, ![2048]⟩
abbrev S64 : Shape := ⟨1, ![64]⟩
abbrev S32768x1024 : Shape := ⟨2, ![32768, 1024]⟩
abbrev S32x64x8x2x16 : Shape := ⟨5, ![32, 64, 8, 2, 16]⟩
abbrev S_ : Shape := ⟨0, ![]⟩
abbrev S2048x256 : Shape := ⟨2, ![2048, 256]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x64 : Shape := ⟨2, ![1, 64]⟩
abbrev S1x2048 : Shape := ⟨2, ![1, 2048]⟩
abbrev S32768x512 : Shape := ⟨2, ![32768, 512]⟩
abbrev S16x16x2048x64 : Shape := ⟨4, ![16, 16, 2048, 64]⟩
abbrev S16x4x2048x64 : Shape := ⟨4, ![16, 4, 2048, 64]⟩
abbrev S16x4x64x2048 : Shape := ⟨4, ![16, 4, 64, 2048]⟩
abbrev S32768x2048 : Shape := ⟨2, ![32768, 2048]⟩
abbrev S512x1024 : Shape := ⟨2, ![512, 1024]⟩
abbrev S512x256 : Shape := ⟨2, ![512, 256]⟩
abbrev S512x512 : Shape := ⟨2, ![512, 512]⟩
abbrev S1x16x512x64 : Shape := ⟨4, ![1, 16, 512, 64]⟩
abbrev S1x4x512x64 : Shape := ⟨4, ![1, 4, 512, 64]⟩
abbrev S1x4x64x512 : Shape := ⟨4, ![1, 4, 64, 512]⟩
abbrev S512x2048 : Shape := ⟨2, ![512, 2048]⟩
abbrev S1x128 : Shape := ⟨2, ![1, 128]⟩
abbrev S1024x512 : Shape := ⟨2, ![1024, 512]⟩
abbrev S1024x256 : Shape := ⟨2, ![1024, 256]⟩
abbrev S512x128 : Shape := ⟨2, ![512, 128]⟩
abbrev S512x64 : Shape := ⟨2, ![512, 64]⟩
abbrev S1x1x512x64 : Shape := ⟨4, ![1, 1, 512, 64]⟩
abbrev S256x512 : Shape := ⟨2, ![256, 512]⟩
abbrev S64x512 : Shape := ⟨2, ![64, 512]⟩
abbrev S1x1x64x512 : Shape := ⟨4, ![1, 1, 64, 512]⟩
abbrev S1x512 : Shape := ⟨2, ![1, 512]⟩

abbrev nBuf : Space → Nat
  | .hbm => 70
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S1024x4096, .f32⟩
  | .hbm, ⟨2, _⟩ => ⟨S2048, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S32x64x8x2x16, .i32⟩
  | .hbm, ⟨7, _⟩ => ⟨S32x64x8x2x16, .i32⟩
  | .hbm, ⟨8, _⟩ => ⟨S32x64x8x2x16, .i32⟩
  | .hbm, ⟨9, _⟩ => ⟨S32x64x8x2x16, .i32⟩
  | .hbm, ⟨10, _⟩ => ⟨S32x64x8x2x16, .i32⟩
  | .hbm, ⟨11, _⟩ => ⟨S_, .i32⟩
  | .hbm, ⟨12, _⟩ => ⟨S32x64x8x2x16, .i32⟩
  | .hbm, ⟨13, _⟩ => ⟨S32x64x8x2x16, .i32⟩
  | .hbm, ⟨14, _⟩ => ⟨S_, .i32⟩
  | .hbm, ⟨15, _⟩ => ⟨S32x64x8x2x16, .i32⟩
  | .hbm, ⟨16, _⟩ => ⟨S32x64x8x2x16, .i1⟩
  | .hbm, ⟨17, _⟩ => ⟨S32x64x8x2x16, .i32⟩
  | .hbm, ⟨18, _⟩ => ⟨S32x64x8x2x16, .f32⟩
  | .hbm, ⟨19, _⟩ => ⟨S32x64x8x2x16, .f32⟩
  | .hbm, ⟨20, _⟩ => ⟨S32x64x8x2x16, .f32⟩
  | .hbm, ⟨21, _⟩ => ⟨S_, .f32⟩
  | .hbm, ⟨22, _⟩ => ⟨S32x64x8x2x16, .f32⟩
  | .hbm, ⟨23, _⟩ => ⟨S32x64x8x2x16, .f32⟩
  | .hbm, ⟨24, _⟩ => ⟨S_, .f32⟩
  | .hbm, ⟨25, _⟩ => ⟨S32x64x8x2x16, .f32⟩
  | .hbm, ⟨26, _⟩ => ⟨S32x64x8x2x16, .f32⟩
  | .hbm, ⟨27, _⟩ => ⟨S32x64x8x2x16, .f32⟩
  | .hbm, ⟨28, _⟩ => ⟨S32x64x8x2x16, .f32⟩
  | .hbm, ⟨29, _⟩ => ⟨S32x64x8x2x16, .f32⟩
  | .hbm, ⟨30, _⟩ => ⟨S_, .i32⟩
  | .hbm, ⟨31, _⟩ => ⟨S32x64x8x2x16, .i32⟩
  | .hbm, ⟨32, _⟩ => ⟨S32x64x8x2x16, .i1⟩
  | .hbm, ⟨33, _⟩ => ⟨S_, .f32⟩
  | .hbm, ⟨34, _⟩ => ⟨S_, .f32⟩
  | .hbm, ⟨35, _⟩ => ⟨S32x64x8x2x16, .f32⟩
  | .hbm, ⟨36, _⟩ => ⟨S32x64x8x2x16, .f32⟩
  | .hbm, ⟨37, _⟩ => ⟨S32x64x8x2x16, .f32⟩
  | .hbm, ⟨38, _⟩ => ⟨S32x64x8x2x16, .f32⟩
  | .hbm, ⟨39, _⟩ => ⟨S32x64x8x2x16, .f32⟩
  | .hbm, ⟨40, _⟩ => ⟨S2048x256, .f32⟩
  | .hbm, ⟨41, _⟩ => ⟨S2048x256, .f32⟩
  | .hbm, ⟨42, _⟩ => ⟨S4x64, .i32⟩
  | .hbm, ⟨43, _⟩ => ⟨S256, .i32⟩
  | .hbm, ⟨44, _⟩ => ⟨S256x1, .i32⟩
  | .hbm, ⟨45, _⟩ => ⟨S1x256, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S_, .f32⟩
  | .hbm, ⟨50, _⟩ => ⟨S_, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S256x256, .bf16⟩
  | .hbm, ⟨55, _⟩ => ⟨S1x64, .f32⟩
  | .hbm, ⟨56, _⟩ => ⟨S4x64, .f32⟩
  | .hbm, ⟨57, _⟩ => ⟨S256, .f32⟩
  | .hbm, ⟨58, _⟩ => ⟨S1x256, .f32⟩
  | .hbm, ⟨59, _⟩ => ⟨S1x64, .f32⟩
  | .hbm, ⟨60, _⟩ => ⟨S4x64, .f32⟩
  | .hbm, ⟨61, _⟩ => ⟨S256, .f32⟩
  | .hbm, ⟨62, _⟩ => ⟨S1x256, .f32⟩
  | .hbm, ⟨63, _⟩ => ⟨S1024x4096, .bf16⟩
  | .hbm, ⟨64, _⟩ => ⟨S1x2048, .f32⟩
  | .hbm, ⟨65, _⟩ => ⟨S32768x512, .bf16⟩
  | .hbm, ⟨66, _⟩ => ⟨S16x16x2048x64, .bf16⟩
  | .hbm, ⟨67, _⟩ => ⟨S16x4x2048x64, .bf16⟩
  | .hbm, ⟨68, _⟩ => ⟨S16x4x64x2048, .bf16⟩
  | .hbm, ⟨69, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x2048, .f32⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x512, .bf16⟩
  | .local _ .vmem, ⟨12, _⟩ => ⟨S512x512, .bf16⟩
  | .local _ .vmem, ⟨13, _⟩ => ⟨S1x16x512x64, .bf16⟩
  | .local _ .vmem, ⟨14, _⟩ => ⟨S1x16x512x64, .bf16⟩
  | .local _ .vmem, ⟨15, _⟩ => ⟨S1x4x512x64, .bf16⟩
  | .local _ .vmem, ⟨16, _⟩ => ⟨S1x4x512x64, .bf16⟩
  | .local _ .vmem, ⟨17, _⟩ => ⟨S1x4x64x512, .bf16⟩
  | .local _ .vmem, ⟨18, _⟩ => ⟨S1x4x64x512, .bf16⟩
  | .local _ .vmem, ⟨19, _⟩ => ⟨S512x2048, .bf16⟩
  | .local _ .vmem, ⟨20, _⟩ => ⟨S512x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_cst_6 : Ref sig .tc := ⟨.hbm, 50, rfl⟩
abbrev main_call2_v0 : Ref sig .tc := ⟨.hbm, 51, rfl⟩
abbrev main_call2_v1 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v47_2 : Ref sig .tc := ⟨.hbm, 67, rfl⟩
abbrev main_v47_3 : Ref sig .tc := ⟨.hbm, 68, rfl⟩
abbrev main_v47_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x16x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel3Ideal.lean ====
variable {F : FTy → Type} [FloatOps F] [Named F]
def κ : String → Option EReal := fun
  | "query_scale" => some (((8 * (Real.log 2))⁻¹ : ℝ) : EReal)
  | _ => none
-- ==== Reference3Ideal.lean ====
abbrev S16x2048x1024 : Shape := ⟨3, ![16, 2048, 1024]⟩
abbrev S1024x4096 : Shape := ⟨2, ![1024, 4096]⟩
abbrev S2048 : Shape := ⟨1, ![2048]⟩
abbrev S64 : Shape := ⟨1, ![64]⟩
abbrev S32 : Shape := ⟨1, ![32]⟩
abbrev S32x64 : Shape := ⟨2, ![32, 64]⟩
abbrev S1x64 : Shape := ⟨2, ![1, 64]⟩
abbrev S16x2048x4096 : Shape := ⟨3, ![16, 2048, 4096]⟩
abbrev S16x2048x512 : Shape := ⟨3, ![16, 2048, 512]⟩
abbrev S32768x512 : Shape := ⟨2, ![32768, 512]⟩
abbrev S16x2048x16x64 : Shape := ⟨4, ![16, 2048, 16, 64]⟩
abbrev S_ : Shape := ⟨0, ![]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S16x2048x16x32 : Shape := ⟨4, ![16, 2048, 16, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x16x16 : Shape := ⟨4, ![16, 2048, 16, 16]⟩
abbrev S1x2048x1x16 : Shape := ⟨4, ![1, 2048, 1, 16]⟩
abbrev S16x2048x256 : Shape := ⟨3, ![16, 2048, 256]⟩
abbrev S16x2048x4x64 : Shape := ⟨4, ![16, 2048, 4, 64]⟩
abbrev S16x2048x4 : Shape := ⟨3, ![16, 2048, 4]⟩
abbrev S16x2048x4x1 : Shape := ⟨4, ![16, 2048, 4, 1]⟩
abbrev S16x2048x4x32 : Shape := ⟨4, ![16, 2048, 4, 32]⟩
abbrev S16x2048x4x16 : Shape := ⟨4, ![16, 2048, 4, 16]⟩
abbrev S16x2048x2048 : Shape := ⟨3, ![16, 2048, 2048]⟩
abbrev S1x1x2048 : Shape := ⟨3, ![1, 1, 2048]⟩
abbrev S32768x2048 : Shape := ⟨2, ![32768, 2048]⟩
abbrev S16x16x2048x64 : Shape := ⟨4, ![16, 16, 2048, 64]⟩
abbrev S16x4x2048x64 : Shape := ⟨4, ![16, 4, 2048, 64]⟩
abbrev S16x4x64x2048 : Shape := ⟨4, ![16, 4, 64, 2048]⟩

abbrev nBuf : Space → Nat
  | .hbm => 227
  | .vmem => 0
  | .smem => 0
  | _ => 0

abbrev hbmTy0_0 (i : Nat) : BufTy := match i % 128 with
  | 0 => ⟨S16x2048x1024, .f32⟩
  | 1 => ⟨S1024x4096, .f32⟩
  | 2 => ⟨S2048, .f32⟩
  | 3 => ⟨S64, .f32⟩
  | 4 => ⟨S64, .f32⟩
  | 5 => ⟨S32, .i32⟩
  | 6 => ⟨S32x64, .i32⟩
  | 7 => ⟨S2048, .i32⟩
  | 8 => ⟨S64, .i32⟩
  | 9 => ⟨S1x64, .i32⟩
  | 10 => ⟨S32x64, .i32⟩
  | 11 => ⟨S2048, .i32⟩
  | 12 => ⟨S16x2048x4096, .f32⟩
  | 13 => ⟨S16x2048x512, .f32⟩
  | 14 => ⟨S32768x512, .f32⟩
  | 15 => ⟨S16x2048x1024, .f32⟩
  | 16 => ⟨S16x2048x16x64, .f32⟩
  | 17 => ⟨S16x2048x16x64, .f32⟩
  | 18 => ⟨S_, .f32⟩
  | 19 => ⟨S16x2048x16, .f32⟩
  | 20 => ⟨S16x2048x16x1, .f32⟩
  | 21 => ⟨S_, .f32⟩
  | 22 => ⟨S16x2048x16x1, .f32⟩
  | 23 => ⟨S16x2048x16x1, .f32⟩
  | 24 => ⟨S_, .f32⟩
  | 25 => ⟨S16x2048x16x1, .f32⟩
  | 26 => ⟨S16x2048x16x1, .f32⟩
  | 27 => ⟨S16x2048x16x1, .f32⟩
  | 28 => ⟨S16x2048x16x64, .f32⟩
  | 29 => ⟨S16x2048x16x64, .f32⟩
  | 30 => ⟨S1x1x1x64, .f32⟩
  | 31 => ⟨S16x2048x16x64, .f32⟩
  | 32 => ⟨S16x2048x16x64, .f32⟩
  | 33 => ⟨S16x2048x16x32, .f32⟩
  | 34 => ⟨S16, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S2048, .f32⟩
  | 43 => ⟨S2048x1, .f32⟩
  | 44 => ⟨S1x16, .f32⟩
  | 45 => ⟨S2048x16, .f32⟩
  | 46 => ⟨S2048x16, .f32⟩
  | 47 => ⟨S2048x16, .f32⟩
  | 48 => ⟨S2048x16, .f32⟩
  | 49 => ⟨S2048x1x16, .f32⟩
  | 50 => ⟨S2048x16, .f32⟩
  | 51 => ⟨S2048x1x16, .f32⟩
  | 52 => ⟨S16x2048x16x16, .f32⟩
  | 53 => ⟨S16x2048x16x16, .f32⟩
  | 54 => ⟨S1x2048x1x16, .f32⟩
  | 55 => ⟨S16x2048x16x16, .f32⟩
  | 56 => ⟨S16x2048x16x16, .f32⟩
  | 57 => ⟨S1x2048x1x16, .f32⟩
  | 58 => ⟨S16x2048x16x16, .f32⟩
  | 59 => ⟨S16x2048x16x16, .f32⟩
  | 60 => ⟨S16x2048x16x16, .f32⟩
  | 61 => ⟨S1x2048x1x16, .f32⟩
  | 62 => ⟨S16x2048x16x16, .f32⟩
  | 63 => ⟨S16x2048x16x16, .f32⟩
  | 64 => ⟨S1x2048x1x16, .f32⟩
  | 65 => ⟨S16x2048x16x16, .f32⟩
  | 66 => ⟨S16x2048x16x16, .f32⟩
  | 67 => ⟨S16x2048x16x16, .f32⟩
  | 68 => ⟨S16x2048x16x32, .f32⟩
  | 69 => ⟨S16x2048x16x32, .f32⟩
  | 70 => ⟨S16, .f32⟩
  | 71 => ⟨S16, .f32⟩
  | 72 => ⟨S_, .f32⟩
  | 73 => ⟨S16, .f32⟩
  | 74 => ⟨S16, .f32⟩
  | 75 => ⟨S_, .f32⟩
  | 76 => ⟨S16, .f32⟩
  | 77 => ⟨S16, .f32⟩
  | 78 => ⟨S2048, .f32⟩
  | 79 => ⟨S2048x1, .f32⟩
  | 80 => ⟨S1x16, .f32⟩
  | 81 => ⟨S2048x16, .f32⟩
  | 82 => ⟨S2048x16, .f32⟩
  | 83 => ⟨S2048x16, .f32⟩
  | 84 => ⟨S2048x16, .f32⟩
  | 85 => ⟨S2048x1x16, .f32⟩
  | 86 => ⟨S2048x16, .f32⟩
  | 87 => ⟨S2048x1x16, .f32⟩
  | 88 => ⟨S16x2048x16x16, .f32⟩
  | 89 => ⟨S16x2048x16x16, .f32⟩
  | 90 => ⟨S1x2048x1x16, .f32⟩
  | 91 => ⟨S16x2048x16x16, .f32⟩
  | 92 => ⟨S16x2048x16x16, .f32⟩
  | 93 => ⟨S1x2048x1x16, .f32⟩
  | 94 => ⟨S16x2048x16x16, .f32⟩
  | 95 => ⟨S16x2048x16x16, .f32⟩
  | 96 => ⟨S16x2048x16x16, .f32⟩
  | 97 => ⟨S1x2048x1x16, .f32⟩
  | 98 => ⟨S16x2048x16x16, .f32⟩
  | 99 => ⟨S16x2048x16x16, .f32⟩
  | 100 => ⟨S1x2048x1x16, .f32⟩
  | 101 => ⟨S16x2048x16x16, .f32⟩
  | 102 => ⟨S16x2048x16x16, .f32⟩
  | 103 => ⟨S16x2048x16x16, .f32⟩
  | 104 => ⟨S16x2048x16x32, .f32⟩
  | 105 => ⟨S16x2048x16x64, .f32⟩
  | 106 => ⟨S16x2048x256, .f32⟩
  | 107 => ⟨S16x2048x4x64, .f32⟩
  | 108 => ⟨S16x2048x4x64, .f32⟩
  | 109 => ⟨S_, .f32⟩
  | 110 => ⟨S16x2048x4, .f32⟩
  | 111 => ⟨S16x2048x4x1, .f32⟩
  | 112 => ⟨S_, .f32⟩
  | 113 => ⟨S16x2048x4x1, .f32⟩
  | 114 => ⟨S16x2048x4x1, .f32⟩
  | 115 => ⟨S_, .f32⟩
  | 116 => ⟨S16x2048x4x1, .f32⟩
  | 117 => ⟨S16x2048x4x1, .f32⟩
  | 118 => ⟨S16x2048x4x1, .f32⟩
  | 119 => ⟨S16x2048x4x64, .f32⟩
  | 120 => ⟨S16x2048x4x64, .f32⟩
  | 121 => ⟨S1x1x1x64, .f32⟩
  | 122 => ⟨S16x2048x4x64, .f32⟩
  | 123 => ⟨S16x2048x4x64, .f32⟩
  | 124 => ⟨S16x2048x4x32, .f32⟩
  | 125 => ⟨S16, .f32⟩
  | 126 => ⟨S16, .f32⟩
  | 127 => ⟨S_, .f32⟩
  | _ => ⟨S16x2048x1024, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S2048, .f32⟩
  | 6 => ⟨S2048x1, .f32⟩
  | 7 => ⟨S1x16, .f32⟩
  | 8 => ⟨S2048x16, .f32⟩
  | 9 => ⟨S2048x16, .f32⟩
  | 10 => ⟨S2048x16, .f32⟩
  | 11 => ⟨S2048x16, .f32⟩
  | 12 => ⟨S2048x1x16, .f32⟩
  | 13 => ⟨S2048x16, .f32⟩
  | 14 => ⟨S2048x1x16, .f32⟩
  | 15 => ⟨S16x2048x4x16, .f32⟩
  | 16 => ⟨S16x2048x4x16, .f32⟩
  | 17 => ⟨S1x2048x1x16, .f32⟩
  | 18 => ⟨S16x2048x4x16, .f32⟩
  | 19 => ⟨S16x2048x4x16, .f32⟩
  | 20 => ⟨S1x2048x1x16, .f32⟩
  | 21 => ⟨S16x2048x4x16, .f32⟩
  | 22 => ⟨S16x2048x4x16, .f32⟩
  | 23 => ⟨S16x2048x4x16, .f32⟩
  | 24 => ⟨S1x2048x1x16, .f32⟩
  | 25 => ⟨S16x2048x4x16, .f32⟩
  | 26 => ⟨S16x2048x4x16, .f32⟩
  | 27 => ⟨S1x2048x1x16, .f32⟩
  | 28 => ⟨S16x2048x4x16, .f32⟩
  | 29 => ⟨S16x2048x4x16, .f32⟩
  | 30 => ⟨S16x2048x4x16, .f32⟩
  | 31 => ⟨S16x2048x4x32, .f32⟩
  | 32 => ⟨S16x2048x4x32, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S2048, .f32⟩
  | 42 => ⟨S2048x1, .f32⟩
  | 43 => ⟨S1x16, .f32⟩
  | 44 => ⟨S2048x16, .f32⟩
  | 45 => ⟨S2048x16, .f32⟩
  | 46 => ⟨S2048x16, .f32⟩
  | 47 => ⟨S2048x16, .f32⟩
  | 48 => ⟨S2048x1x16, .f32⟩
  | 49 => ⟨S2048x16, .f32⟩
  | 50 => ⟨S2048x1x16, .f32⟩
  | 51 => ⟨S16x2048x4x16, .f32⟩
  | 52 => ⟨S16x2048x4x16, .f32⟩
  | 53 => ⟨S1x2048x1x16, .f32⟩
  | 54 => ⟨S16x2048x4x16, .f32⟩
  | 55 => ⟨S16x2048x4x16, .f32⟩
  | 56 => ⟨S1x2048x1x16, .f32⟩
  | 57 => ⟨S16x2048x4x16, .f32⟩
  | 58 => ⟨S16x2048x4x16, .f32⟩
  | 59 => ⟨S16x2048x4x16, .f32⟩
  | 60 => ⟨S1x2048x1x16, .f32⟩
  | 61 => ⟨S16x2048x4x16, .f32⟩
  | 62 => ⟨S16x2048x4x16, .f32⟩
  | 63 => ⟨S1x2048x1x16, .f32⟩
  | 64 => ⟨S16x2048x4x16, .f32⟩
  | 65 => ⟨S16x2048x4x16, .f32⟩
  | 66 => ⟨S16x2048x4x16, .f32⟩
  | 67 => ⟨S16x2048x4x32, .f32⟩
  | 68 => ⟨S16x2048x4x64, .f32⟩
  | 69 => ⟨S16x2048x256, .f32⟩
  | 70 => ⟨S16x2048x4x64, .f32⟩
  | 71 => ⟨S_, .f32⟩
  | 72 => ⟨S16x2048x16x64, .f32⟩
  | 73 => ⟨S16x2048x16x64, .f32⟩
  | 74 => ⟨S_, .f32⟩
  | 75 => ⟨S_, .f32⟩
  | 76 => ⟨S16x2048x16x64, .f32⟩
  | 77 => ⟨S16x2048x16x64, .f32⟩
  | 78 => ⟨S16x2048x2048, .f32⟩
  | 79 => ⟨S1x1x2048, .f32⟩
  | 80 => ⟨S16x2048x2048, .f32⟩
  | 81 => ⟨S16x2048x2048, .f32⟩
  | 82 => ⟨S16x2048x2048, .f32⟩
  | 83 => ⟨S16x2048x2048, .f32⟩
  | 84 => ⟨S_, .f32⟩
  | 85 => ⟨S16x2048x2048, .f32⟩
  | 86 => ⟨S16x2048x2048, .f32⟩
  | 87 => ⟨S_, .f32⟩
  | 88 => ⟨S16x2048x2048, .f32⟩
  | 89 => ⟨S16x2048x2048, .f32⟩
  | 90 => ⟨S32768x2048, .f32⟩
  | 91 => ⟨S32768x512, .bf16⟩
  | 92 => ⟨S16x16x2048x64, .f32⟩
  | 93 => ⟨S16x16x2048x64, .bf16⟩
  | 94 => ⟨S16x4x2048x64, .f32⟩
  | 95 => ⟨S16x4x2048x64, .bf16⟩
  | 96 => ⟨S16x4x64x2048, .f32⟩
  | 97 => ⟨S16x4x64x2048, .bf16⟩
  | 98 => ⟨S32768x2048, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_4 : Ref sig .tc := ⟨.hbm, 72, rfl⟩
abbrev main_v62 : Ref sig .tc := ⟨.hbm, 73, rfl⟩
abbrev main_v63 : Ref sig .tc := ⟨.hbm, 74, rfl⟩
abbrev main_cst_5 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_6 : Ref sig .tc := ⟨.hbm, 109, rfl⟩
abbrev main_v97 : Ref sig .tc := ⟨.hbm, 110, rfl⟩
abbrev main_v98 : Ref sig .tc := ⟨.hbm, 111, rfl⟩
abbrev main_cst_7 : Ref sig .tc := ⟨.hbm, 112, rfl⟩
abbrev main_v99 : Ref sig .tc := ⟨.hbm, 113, rfl⟩
abbrev main_v100 : Ref sig .tc := ⟨.hbm, 114, rfl⟩
abbrev main_cst_8 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_cst_9 : Ref sig .tc := ⟨.hbm, 127, rfl⟩
abbrev main_v112 : Ref sig .tc := ⟨.hbm, 128, rfl⟩
abbrev main_v113 : Ref sig .tc := ⟨.hbm, 129, rfl⟩
abbrev main_cst_10 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_cst_11 : Ref sig .tc := ⟨.hbm, 163, rfl⟩
abbrev main_v146 : Ref sig .tc := ⟨.hbm, 164, rfl⟩
abbrev main_v147 : Ref sig .tc := ⟨.hbm, 165, rfl⟩
abbrev main_cst_12 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_cst_13 : Ref sig .tc := ⟨.hbm, 199, rfl⟩
abbrev main_v180 : Ref sig .tc := ⟨.hbm, 200, rfl⟩
abbrev main_v181 : Ref sig .tc := ⟨.hbm, 201, rfl⟩
abbrev main_cst_14 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_cst_15 : Ref sig .tc := ⟨.hbm, 212, rfl⟩
abbrev main_v191 : Ref sig .tc := ⟨.hbm, 213, rfl⟩
abbrev main_v192 : Ref sig .tc := ⟨.hbm, 214, rfl⟩
abbrev main_cst_16 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩

abbrev nD : Nat := 1
abbrev τ : Topo := Topo.v7x

variable {F : FTy → Type} [FloatOps F]
-- ==== Kernel4.lean ====
abbrev S32768x1024 : Shape := ⟨2, ![32768, 1024]⟩
abbrev S32768x2048 : Shape := ⟨2, ![32768, 2048]⟩
abbrev S1024x1024 : Shape := ⟨2, ![1024, 1024]⟩
abbrev S1024 : Shape := ⟨1, ![1024]⟩
abbrev S1x1024 : Shape := ⟨2, ![1, 1024]⟩
abbrev S4x65536x128 : Shape := ⟨3, ![4, 65536, 128]⟩
abbrev S512x1024 : Shape := ⟨2, ![512, 1024]⟩
abbrev S4x1024x128 : Shape := ⟨3, ![4, 1024, 128]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S4x512x128 : Shape := ⟨3, ![4, 512, 128]⟩
abbrev S1x256x128 : Shape := ⟨3, ![1, 256, 128]⟩
abbrev S1x512x128 : Shape := ⟨3, ![1, 512, 128]⟩

abbrev nBuf : Space → Nat
  | .hbm => 14
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S32768x1024, .f32⟩
  | .hbm, ⟨13, _⟩ => ⟨S4x65536x128, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S4x1024x128, .bf16⟩
  | .local _ .vmem, ⟨15, _⟩ => ⟨S4x1024x128, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel4Ideal.lean ====
variable {F : FTy → Type} [FloatOps F] [Named F]
def κ : String → Option EReal := fun
  | "alpha" => some ((Real.sqrt (Real.sqrt 2) : ℝ) : EReal)
  | _ => none
-- ==== Reference4Ideal.lean ====
abbrev S32768x1024 : Shape := ⟨2, ![32768, 1024]⟩
abbrev S32768x2048 : Shape := ⟨2, ![32768, 2048]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2x4x128 : Shape := ⟨4, ![32768, 2, 4, 128]⟩
abbrev S4x32768x2x128 : Shape := ⟨4, ![4, 32768, 2, 128]⟩
abbrev S4x65536x128 : Shape := ⟨3, ![4, 65536, 128]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .bf16⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .bf16⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x1024, .bf16⟩
  | .hbm, ⟨52, _⟩ => ⟨S32768x2x4x128, .bf16⟩
  | .hbm, ⟨53, _⟩ => ⟨S4x32768x2x128, .bf16⟩
  | .hbm, ⟨54, _⟩ => ⟨S4x65536x128, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel5.lean ====
abbrev S32768x1024 : Shape := ⟨2, ![32768, 1024]⟩
abbrev S1024x512 : Shape := ⟨2, ![1024, 512]⟩
abbrev S256x1024 : Shape := ⟨2, ![256, 1024]⟩
abbrev S512x1024 : Shape := ⟨2, ![512, 1024]⟩
abbrev S512x512 : Shape := ⟨2, ![512, 512]⟩
abbrev S512x256 : Shape := ⟨2, ![512, 256]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x512, .f32⟩
  | .hbm, ⟨2, _⟩ => ⟨S256x1024, .f32⟩
  | .hbm, ⟨3, _⟩ => ⟨S1024x512, .bf16⟩
  | .hbm, ⟨4, _⟩ => ⟨S256x1024, .bf16⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel5Ideal.lean ====
variable {F : FTy → Type} [FloatOps F] [Named F]
def κ : String → Option EReal := fun
  | "alpha" => some ((Real.sqrt (Real.sqrt 2) : ℝ) : EReal)
  | _ => none
-- ==== Reference5Ideal.lean ====
abbrev S32768x1024 : Shape := ⟨2, ![32768, 1024]⟩
abbrev S1024x512 : Shape := ⟨2, ![1024, 512]⟩
abbrev S256x1024 : Shape := ⟨2, ![256, 1024]⟩
abbrev S_ : Shape := ⟨0, ![]⟩
abbrev S32768x512 : Shape := ⟨2, ![32768, 512]⟩
abbrev S32768x256 : Shape := ⟨2, ![32768, 256]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x512, .f32⟩
  | .hbm, ⟨2, _⟩ => ⟨S256x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S32768x512, .f32⟩
  | .hbm, ⟨7, _⟩ => ⟨S32768x256, .f32⟩
  | .hbm, ⟨8, _⟩ => ⟨S32768x256, .f32⟩
  | .hbm, ⟨9, _⟩ => ⟨S32768x1024, .f32⟩
  | .hbm, ⟨10, _⟩ => ⟨S32768x1024, .f32⟩
  | .hbm, ⟨11, _⟩ => ⟨S32768x256, .f32⟩
  | .hbm, ⟨12, _⟩ => ⟨S32768x256, .f32⟩
  | .hbm, ⟨13, _⟩ => ⟨S_, .f32⟩
  | .hbm, ⟨14, _⟩ => ⟨S32768x256, .f32⟩
  | .hbm, ⟨15, _⟩ => ⟨S32768x256, .f32⟩
  | .hbm, ⟨16, _⟩ => ⟨S_, .f32⟩
  | .hbm, ⟨17, _⟩ => ⟨S32768x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S32768x1024, .f32⟩
  | .hbm, ⟨22, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel6.lean ====
abbrev S16x2048x512 : Shape := ⟨3, ![16, 2048, 512]⟩
abbrev S16x2048x2048 : Shape := ⟨3, ![16, 2048, 2048]⟩
abbrev S512x1024 : Shape := ⟨2, ![512, 1024]⟩
abbrev S2x4x64x2x4x64 : Shape := ⟨6, ![2, 4, 64, 2, 4, 64]⟩
abbrev S_ : Shape := ⟨0, ![]⟩
abbrev S2048x2x2048 : Shape := ⟨3, ![2048, 2, 2048]⟩
abbrev S2x256x512 : Shape := ⟨3, ![2, 256, 512]⟩
abbrev S2048x4096 : Shape := ⟨2, ![2048, 4096]⟩
abbrev S16x2048x1024 : Shape := ⟨3, ![16, 2048, 1024]⟩
abbrev S1x2048x512 : Shape := ⟨3, ![1, 2048, 512]⟩
abbrev S512x4096 : Shape := ⟨2, ![512, 4096]⟩
abbrev S1x512x1024 : Shape := ⟨3, ![1, 512, 1024]⟩
abbrev S4096x512 : Shape := ⟨2, ![4096, 512]⟩
abbrev S1x2048x256 : Shape := ⟨3, ![1, 2048, 256]⟩
abbrev S2048x256 : Shape := ⟨2, ![2048, 256]⟩
abbrev S1x256x512 : Shape := ⟨3, ![1, 256, 512]⟩
abbrev S256x512 : Shape := ⟨2, ![256, 512]⟩
abbrev S2048x512 : Shape := ⟨2, ![2048, 512]⟩
abbrev S512x512 : Shape := ⟨2, ![512, 512]⟩

abbrev nBuf : Space → Nat
  | .hbm => 111
  | .vmem => 11
  | .smem => 0
  | _ => 0

abbrev bufTy : (tb : Table) → Fin (tcTables nBuf tb) → BufTy
  | .hbm, ⟨0, _⟩ => ⟨S16x2048x512, .bf16⟩
  | .hbm, ⟨1, _⟩ => ⟨S16x2048x2048, .bf16⟩
  | .hbm, ⟨2, _⟩ => ⟨S512x1024, .f32⟩
  | .hbm, ⟨3, _⟩ => ⟨S2x4x64x2x4x64, .i32⟩
  | .hbm, ⟨4, _⟩ => ⟨S2x4x64x2x4x64, .i32⟩
  | .hbm, ⟨5, _⟩ => ⟨S2x4x64x2x4x64, .i32⟩
  | .hbm, ⟨6, _⟩ => ⟨S2x4x64x2x4x64, .i32⟩
  | .hbm, ⟨7, _⟩ => ⟨S2x4x64x2x4x64, .i32⟩
  | .hbm, ⟨8, _⟩ => ⟨S2x4x64x2x4x64, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x4x64x2x4x64, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S2x4x64x2x4x64, .i32⟩
  | .hbm, ⟨21, _⟩ => ⟨S2x4x64x2x4x64, .i32⟩
  | .hbm, ⟨22, _⟩ => ⟨S_, .i32⟩
  | .hbm, ⟨23, _⟩ => ⟨S2x4x64x2x4x64, .i32⟩
  | .hbm, ⟨24, _⟩ => ⟨S2x4x64x2x4x64, .i1⟩
  | .hbm, ⟨25, _⟩ => ⟨S_, .i32⟩
  | .hbm, ⟨26, _⟩ => ⟨S2x4x64x2x4x64, .i32⟩
  | .hbm, ⟨27, _⟩ => ⟨S2x4x64x2x4x64, .i1⟩
  | .hbm, ⟨28, _⟩ => ⟨S_, .i32⟩
  | .hbm, ⟨29, _⟩ => ⟨S_, .i1⟩
  | .hbm, ⟨30, _⟩ => ⟨S2x4x64x2x4x64, .i1⟩
  | .hbm, ⟨31, _⟩ => ⟨S2x4x64x2x4x64, .i1⟩
  | .hbm, ⟨32, _⟩ => ⟨S2x4x64x2x4x64, .i1⟩
  | .hbm, ⟨33, _⟩ => ⟨S2x4x64x2x4x64, .i32⟩
  | .hbm, ⟨34, _⟩ => ⟨S2x4x64x2x4x64, .i32⟩
  | .hbm, ⟨35, _⟩ => ⟨S2x4x64x2x4x64, .i32⟩
  | .hbm, ⟨36, _⟩ => ⟨S2x4x64x2x4x64, .f32⟩
  | .hbm, ⟨37, _⟩ => ⟨S2x4x64x2x4x64, .f32⟩
  | .hbm, ⟨38, _⟩ => ⟨S2x4x64x2x4x64, .f32⟩
  | .hbm, ⟨39, _⟩ => ⟨S_, .f32⟩
  | .hbm, ⟨40, _⟩ => ⟨S2x4x64x2x4x64, .f32⟩
  | .hbm, ⟨41, _⟩ => ⟨S2x4x64x2x4x64, .f32⟩
  | .hbm, ⟨42, _⟩ => ⟨S2x4x64x2x4x64, .i1⟩
  | .hbm, ⟨43, _⟩ => ⟨S_, .i32⟩
  | .hbm, ⟨44, _⟩ => ⟨S2x4x64x2x4x64, .i32⟩
  | .hbm, ⟨45, _⟩ => ⟨S2x4x64x2x4x64, .i1⟩
  | .hbm, ⟨46, _⟩ => ⟨S2x4x64x2x4x64, .f32⟩
  | .hbm, ⟨47, _⟩ => ⟨S2x4x64x2x4x64, .f32⟩
  | .hbm, ⟨48, _⟩ => ⟨S2x4x64x2x4x64, .f32⟩
  | .hbm, ⟨49, _⟩ => ⟨S_, .f32⟩
  | .hbm, ⟨50, _⟩ => ⟨S2x4x64x2x4x64, .f32⟩
  | .hbm, ⟨51, _⟩ => ⟨S2x4x64x2x4x64, .f32⟩
  | .hbm, ⟨52, _⟩ => ⟨S_, .f32⟩
  | .hbm, ⟨53, _⟩ => ⟨S_, .f32⟩
  | .hbm, ⟨54, _⟩ => ⟨S2x4x64x2x4x64, .f32⟩
  | .hbm, ⟨55, _⟩ => ⟨S2x4x64x2x4x64, .f32⟩
  | .hbm, ⟨56, _⟩ => ⟨S2048x2x2048, .i32⟩
  | .hbm, ⟨57, _⟩ => ⟨S2048x2x2048, .i32⟩
  | .hbm, ⟨58, _⟩ => ⟨S2048x2x2048, .i32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x2x2048, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S2048x2x2048, .i32⟩
  | .hbm, ⟨71, _⟩ => ⟨S2048x2x2048, .i32⟩
  | .hbm, ⟨72, _⟩ => ⟨S_, .i32⟩
  | .hbm, ⟨73, _⟩ => ⟨S2048x2x2048, .i32⟩
  | .hbm, ⟨74, _⟩ => ⟨S2048x2x2048, .i1⟩
  | .hbm, ⟨75, _⟩ => ⟨S_, .i32⟩
  | .hbm, ⟨76, _⟩ => ⟨S2048x2x2048, .i32⟩
  | .hbm, ⟨77, _⟩ => ⟨S2048x2x2048, .i1⟩
  | .hbm, ⟨78, _⟩ => ⟨S_, .i32⟩
  | .hbm, ⟨79, _⟩ => ⟨S_, .i1⟩
  | .hbm, ⟨80, _⟩ => ⟨S2048x2x2048, .i1⟩
  | .hbm, ⟨81, _⟩ => ⟨S2048x2x2048, .i1⟩
  | .hbm, ⟨82, _⟩ => ⟨S2048x2x2048, .i1⟩
  | .hbm, ⟨83, _⟩ => ⟨S2048x2x2048, .i32⟩
  | .hbm, ⟨84, _⟩ => ⟨S2048x2x2048, .i32⟩
  | .hbm, ⟨85, _⟩ => ⟨S2048x2x2048, .i32⟩
  | .hbm, ⟨86, _⟩ => ⟨S2048x2x2048, .f32⟩
  | .hbm, ⟨87, _⟩ => ⟨S2048x2x2048, .f32⟩
  | .hbm, ⟨88, _⟩ => ⟨S2048x2x2048, .f32⟩
  | .hbm, ⟨89, _⟩ => ⟨S_, .f32⟩
  | .hbm, ⟨90, _⟩ => ⟨S2048x2x2048, .f32⟩
  | .hbm, ⟨91, _⟩ => ⟨S2048x2x2048, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .i32⟩
  | .hbm, ⟨97, _⟩ => ⟨S2048x2x2048, .i32⟩
  | .hbm, ⟨98, _⟩ => ⟨S2048x2x2048, .i1⟩
  | .hbm, ⟨99, _⟩ => ⟨S2048x2x2048, .f32⟩
  | .hbm, ⟨100, _⟩ => ⟨S2048x2x2048, .f32⟩
  | .hbm, ⟨101, _⟩ => ⟨S2048x2x2048, .f32⟩
  | .hbm, ⟨102, _⟩ => ⟨S2048x2x2048, .f32⟩
  | .hbm, ⟨103, _⟩ => ⟨S2048x2x2048, .f32⟩
  | .hbm, ⟨104, _⟩ => ⟨S2048x2x2048, .f32⟩
  | .hbm, ⟨105, _⟩ => ⟨S2x256x512, .f32⟩
  | .hbm, ⟨106, _⟩ => ⟨S2x256x512, .bf16⟩
  | .hbm, ⟨107, _⟩ => ⟨S2048x4096, .f32⟩
  | .hbm, ⟨108, _⟩ => ⟨S2048x4096, .bf16⟩
  | .hbm, ⟨109, _⟩ => ⟨S512x1024, .bf16⟩
  | .hbm, ⟨110, _⟩ => ⟨S16x2048x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S2x256x512, .bf16⟩
  | .local _ .vmem, ⟨3, _⟩ => ⟨S512x4096, .bf16⟩
  | .local _ .vmem, ⟨4, _⟩ => ⟨S512x4096, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S4096x512, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_3 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_call2_v0 : Ref sig .tc := ⟨.hbm, 53, rfl⟩
abbrev main_call2_v1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_cst_6 : Ref sig .tc := ⟨.hbm, 61, rfl⟩
abbrev main_v28 : Ref sig .tc := ⟨.hbm, 62, rfl⟩
abbrev main_v29 : Ref sig .tc := ⟨.hbm, 63, rfl⟩
abbrev main_c_7 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_v5 : Ref sig .tc := ⟨.hbm, 73, rfl⟩
abbrev main_call3_v6 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_c_3 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_8 : Ref sig .tc := ⟨.hbm, 89, rfl⟩
abbrev main_v34 : Ref sig .tc := ⟨.hbm, 90, rfl⟩
abbrev main_v35 : Ref sig .tc := ⟨.hbm, 91, rfl⟩
abbrev main_cst_9 : Ref sig .tc := ⟨.hbm, 92, rfl⟩
abbrev main_v36 : Ref sig .tc := ⟨.hbm, 93, rfl⟩
abbrev main_cst_10 : Ref sig .tc := ⟨.hbm, 94, rfl⟩
abbrev main_v37 : Ref sig .tc := ⟨.hbm, 95, rfl⟩
abbrev main_c_11 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S16x2048x512 : Shape := ⟨3, ![16, 2048, 512]⟩
abbrev S16x2048x2048 : Shape := ⟨3, ![16, 2048, 2048]⟩
abbrev S512x1024 : Shape := ⟨2, ![512, 1024]⟩
abbrev S16x2048x8x64 : Shape := ⟨4, ![16, 2048, 8, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x8x64x2048 : Shape := ⟨4, ![16, 8, 64, 2048]⟩
abbrev S16x2048x1024 : Shape := ⟨3, ![16, 2048, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x2048, .bf16⟩
  | .hbm, ⟨2, _⟩ => ⟨S512x1024, .f32⟩
  | .hbm, ⟨3, _⟩ => ⟨S16x2048x8x64, .bf16⟩
  | .hbm, ⟨4, _⟩ => ⟨S16x2048x8x64, .f32⟩
  | .hbm, ⟨5, _⟩ => ⟨S64, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64x1, .i32⟩
  | .hbm, ⟨11, _⟩ => ⟨S1x64, .i32⟩
  | .hbm, ⟨12, _⟩ => ⟨S64x64, .i32⟩
  | .hbm, ⟨13, _⟩ => ⟨S64x64, .i32⟩
  | .hbm, ⟨14, _⟩ => ⟨S64x64, .i32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S_, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S_, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S2048, .i32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2048x1, .i32⟩
  | .hbm, ⟨37, _⟩ => ⟨S1x2048, .i32⟩
  | .hbm, ⟨38, _⟩ => ⟨S2048x2048, .i32⟩
  | .hbm, ⟨39, _⟩ => ⟨S2048x2048, .i32⟩
  | .hbm, ⟨40, _⟩ => ⟨S2048x2048, .i32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S_, .f32⟩
  | .hbm, ⟨55, _⟩ => ⟨S2048x2048, .f32⟩
  | .hbm, ⟨56, _⟩ => ⟨S2048x2048, .f32⟩
  | .hbm, ⟨57, _⟩ => ⟨S16x2048x8x64, .f32⟩
  | .hbm, ⟨58, _⟩ => ⟨S16x2048x8x64, .f32⟩
  | .hbm, ⟨59, _⟩ => ⟨S16x8x64x2048, .f32⟩
  | .hbm, ⟨60, _⟩ => ⟨S16x2048x8x64, .f32⟩
  | .hbm, ⟨61, _⟩ => ⟨S2048x2048, .f32⟩
  | .hbm, ⟨62, _⟩ => ⟨S16x8x64x2048, .f32⟩
  | .hbm, ⟨63, _⟩ => ⟨S16x2048x8x64, .f32⟩
  | .hbm, ⟨64, _⟩ => ⟨S16x2048x8x64, .f32⟩
  | .hbm, ⟨65, _⟩ => ⟨S16x2048x512, .f32⟩
  | .hbm, ⟨66, _⟩ => ⟨S16x2048x1024, .f32⟩
  | .hbm, ⟨67, _⟩ => ⟨S16x2048x1024, .bf16⟩
  | .hbm, ⟨68, _⟩ => ⟨S16x2048x1024, .f32⟩
  | .hbm, ⟨69, _⟩ => ⟨S16x2048x1024, .f32⟩
  | .hbm, ⟨70, _⟩ => ⟨S16x2048x1024, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel7.lean ====
abbrev S32768x1024 : Shape := ⟨2, ![32768, 1024]⟩
abbrev S32768x8 : Shape := ⟨2, ![32768, 8]⟩
abbrev S4x8x8192x128 : Shape := ⟨4, ![4, 8, 8192, 128]⟩
abbrev S1024 : Shape := ⟨1, ![1024]⟩
abbrev S1x1024 : Shape := ⟨2, ![1, 1024]⟩
abbrev S512x1024 : Shape := ⟨2, ![512, 1024]⟩
abbrev S512x8 : Shape := ⟨2, ![512, 8]⟩
abbrev S4x8x512x128 : Shape := ⟨4, ![4, 8, 512, 128]⟩
abbrev S1x1x512x128 : Shape := ⟨4, ![1, 1, 512, 128]⟩
abbrev S512x128 : Shape := ⟨2, ![512, 128]⟩
abbrev S512x1 : Shape := ⟨2, ![512, 1]⟩
abbrev S512 : Shape := ⟨1, ![512]⟩

abbrev nBuf : Space → Nat
  | .hbm => 20
  | .vmem => 40
  | .smem => 0
  | _ => 0

abbrev bufTy : (tb : Table) → Fin (tcTables nBuf tb) → BufTy
  | .hbm, ⟨0, _⟩ => ⟨S32768x1024, .f32⟩
  | .hbm, ⟨1, _⟩ => ⟨S32768x8, .f32⟩
  | .hbm, ⟨2, _⟩ => ⟨S4x8x8192x128, .i32⟩
  | .hbm, ⟨3, _⟩ => ⟨S4x8x8192x128, .i32⟩
  | .hbm, ⟨4, _⟩ => ⟨S4x8x8192x128, .i32⟩
  | .hbm, ⟨5, _⟩ => ⟨S4x8x8192x128, .i32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S32768x1024, .f32⟩
  | .hbm, ⟨11, _⟩ => ⟨S1x1024, .f32⟩
  | .hbm, ⟨12, _⟩ => ⟨S1x1024, .f32⟩
  | .hbm, ⟨13, _⟩ => ⟨S32768x1024, .f32⟩
  | .hbm, ⟨14, _⟩ => ⟨S1x1024, .f32⟩
  | .hbm, ⟨15, _⟩ => ⟨S1x1024, .f32⟩
  | .hbm, ⟨16, _⟩ => ⟨S32768x1024, .f32⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x8, .f32⟩
  | .local _ .vmem, ⟨3, _⟩ => ⟨S512x8, .f32⟩
  | .local _ .vmem, ⟨4, _⟩ => ⟨S4x8x512x128, .i32⟩
  | .local _ .vmem, ⟨5, _⟩ => ⟨S4x8x512x128, .i32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x8, .f32⟩
  | .local _ .vmem, ⟨13, _⟩ => ⟨S512x8, .f32⟩
  | .local _ .vmem, ⟨14, _⟩ => ⟨S4x8x512x128, .i32⟩
  | .local _ .vmem, ⟨15, _⟩ => ⟨S4x8x512x128, .i32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x8, .f32⟩
  | .local _ .vmem, ⟨23, _⟩ => ⟨S512x8, .f32⟩
  | .local _ .vmem, ⟨24, _⟩ => ⟨S4x8x512x128, .i32⟩
  | .local _ .vmem, ⟨25, _⟩ => ⟨S4x8x512x128, .i32⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S512x8, .f32⟩
  | .local _ .vmem, ⟨33, _⟩ => ⟨S512x8, .f32⟩
  | .local _ .vmem, ⟨34, _⟩ => ⟨S4x8x512x128, .i32⟩
  | .local _ .vmem, ⟨35, _⟩ => ⟨S4x8x512x128, .i32⟩
  | .local _ .vmem, ⟨36, _⟩ => ⟨S1x1024, .f32⟩
  | .local _ .vmem, ⟨37, _⟩ => ⟨S1x1024, .f32⟩
  | .local _ .vmem, ⟨38, _⟩ => ⟨S512x1024, .f32⟩
  | .local _ .vmem, ⟨39, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x512x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x8x512x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x8x512x128 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4x8x512x128 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== Reference7Ideal.lean ====
abbrev S32768x1024 : Shape := ⟨2, ![32768, 1024]⟩
abbrev S32768x8 : Shape := ⟨2, ![32768, 8]⟩
abbrev S4x8x8192x128 : Shape := ⟨4, ![4, 8, 8192, 128]⟩
abbrev S1024 : Shape := ⟨1, ![1024]⟩
abbrev S4x8x32768x128 : Shape := ⟨4, ![4, 8, 32768, 128]⟩
abbrev S4x8x32768x128x2 : Shape := ⟨5, ![4, 8, 32768, 128, 2]⟩
abbrev S32768x8x2x4x128 : Shape := ⟨5, ![32768, 8, 2, 4, 128]⟩
abbrev S32768x8x1024 : Shape := ⟨3, ![32768, 8, 1024]⟩
abbrev S32768x8x1 : Shape := ⟨3, ![32768, 8, 1]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x8, .f32⟩
  | .hbm, ⟨2, _⟩ => ⟨S4x8x8192x128, .i32⟩
  | .hbm, ⟨3, _⟩ => ⟨S4x8x8192x128, .i32⟩
  | .hbm, ⟨4, _⟩ => ⟨S4x8x8192x128, .i32⟩
  | .hbm, ⟨5, _⟩ => ⟨S4x8x8192x128, .i32⟩
  | .hbm, ⟨6, _⟩ => ⟨S1024, .f32⟩
  | .hbm, ⟨7, _⟩ => ⟨S1024, .f32⟩
  | .hbm, ⟨8, _⟩ => ⟨S4x8x32768x128, .i32⟩
  | .hbm, ⟨9, _⟩ => ⟨S4x8x32768x128x2, .bf16⟩
  | .hbm, ⟨10, _⟩ => ⟨S4x8x32768x128x2, .f32⟩
  | .hbm, ⟨11, _⟩ => ⟨S32768x8x2x4x128, .f32⟩
  | .hbm, ⟨12, _⟩ => ⟨S32768x8x1024, .f32⟩
  | .hbm, ⟨13, _⟩ => ⟨S32768x8x1, .f32⟩
  | .hbm, ⟨14, _⟩ => ⟨S32768x8x1024, .f32⟩
  | .hbm, ⟨15, _⟩ => ⟨S32768x8x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel8.lean ====
abbrev S8x32768 : Shape := ⟨2, ![8, 32768]⟩
abbrev S256 : Shape := ⟨1, ![256]⟩
abbrev S256x1 : Shape := ⟨2, ![256, 1]⟩
abbrev S256x128 : Shape := ⟨2, ![256, 128]⟩
abbrev S8x512 : Shape := ⟨2, ![8, 512]⟩
abbrev S256x512 : Shape := ⟨2, ![256, 512]⟩
abbrev S1x512 : Shape := ⟨2, ![1, 512]⟩
abbrev S512 : Shape := ⟨1, ![512]⟩

abbrev nBuf : Space → Nat
  | .hbm => 7
  | .vmem => 7
  | .smem => 0
  | _ => 0

abbrev bufTy : (tb : Table) → Fin (tcTables nBuf tb) → BufTy
  | .hbm, ⟨0, _⟩ => ⟨S8x32768, .i32⟩
  | .hbm, ⟨1, _⟩ => ⟨S8x32768, .i32⟩
  | .hbm, ⟨2, _⟩ => ⟨S256, .i32⟩
  | .hbm, ⟨3, _⟩ => ⟨S256, .f32⟩
  | .hbm, ⟨4, _⟩ => ⟨S256x1, .f32⟩
  | .hbm, ⟨5, _⟩ => ⟨S256x128, .f32⟩
  | .hbm, ⟨6, _⟩ => ⟨S8x32768, .i32⟩
  | .local _ .vmem, ⟨0, _⟩ => ⟨S8x512, .i32⟩
  | .local _ .vmem, ⟨1, _⟩ => ⟨S8x512, .i32⟩
  | .local _ .vmem, ⟨2, _⟩ => ⟨S8x512, .i32⟩
  | .local _ .vmem, ⟨3, _⟩ => ⟨S8x512, .i32⟩
  | .local _ .vmem, ⟨4, _⟩ => ⟨S256x128, .f32⟩
  | .local _ .vmem, ⟨5, _⟩ => ⟨S8x512, .i32⟩
  | .local _ .vmem, ⟨6, _⟩ => ⟨S8x512, .i32⟩
  | _, _ => ⟨S8x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8x32768 : Shape := ⟨2, ![8, 32768]⟩
abbrev S256 : Shape := ⟨1, ![256]⟩
abbrev S_ : Shape := ⟨0, ![]⟩
abbrev S8x32768x1 : Shape := ⟨3, ![8, 32768, 1]⟩

abbrev nBuf : Space → Nat
  | .hbm => 13
  | .vmem => 0
  | .smem => 0
  | _ => 0

abbrev bufTy : (tb : Table) → Fin (tcTables nBuf tb) → BufTy
  | .hbm, ⟨0, _⟩ => ⟨S8x32768, .i32⟩
  | .hbm, ⟨1, _⟩ => ⟨S8x32768, .i32⟩
  | .hbm, ⟨2, _⟩ => ⟨S256, .i32⟩
  | .hbm, ⟨3, _⟩ => ⟨S_, .i32⟩
  | .hbm, ⟨4, _⟩ => ⟨S8x32768, .i32⟩
  | .hbm, ⟨5, _⟩ => ⟨S8x32768, .i1⟩
  | .hbm, ⟨6, _⟩ => ⟨S_, .i32⟩
  | .hbm, ⟨7, _⟩ => ⟨S8x32768, .i32⟩
  | .hbm, ⟨8, _⟩ => ⟨S8x32768, .i32⟩
  | .hbm, ⟨9, _⟩ => ⟨S8x32768, .i32⟩
  | .hbm, ⟨10, _⟩ => ⟨S8x32768x1, .i32⟩
  | .hbm, ⟨11, _⟩ => ⟨S8x32768, .i32⟩
  | .hbm, ⟨12, _⟩ => ⟨S8x32768, .i32⟩
  | _, _ => ⟨S8x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Pre.lean ====
module

public import proofs.«01_k».proof.Defs
public import proofs.«01_k».proof.Proof.Gen.Pre_finite
public import proofs.«01_k».proof.Proof.Gen.Pre_finite_qk
public import Idealize.ShloMosaic.Lib.ReduceAll
public import Idealize.ShloMosaic.Lib.Pointwise

@[expose] public section

set_option maxRecDepth 16384

noncomputable section

open Idealize.ShloMosaic

namespace Cert.Attn

/-- A value whose absolute value is below infinity is a real number. -/
theorem real_of_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  have h' : max x (-x) < ⊤ := by
    by_contra hn
    simp [Ideal.cmp, hn] at h
  have h1 : x ≠ ⊤ := fun e => by simp [e] at h'
  have h2 : x ≠ ⊥ := fun e => by simp [e] at h'
  exact ⟨x.toReal, (EReal.coe_toReal h1 h2).symm⟩

/-- The bitwise and of two words of one bit is 1 only when both are. -/
theorem both_one (a b : BitVec 1) (h : a &&& b = 1#1) : a = 1#1 ∧ b = 1#1 := by
  revert a b; decide

end Cert.Attn

namespace Cert.Pre_finite

open Cert.Pre_finite.Gen

/-- The precondition says that the score bound, every query and every key is a real number. -/
theorem decode (x0 : Vec Ideal S1 .f32) (x1 : Vec Ideal S16x16x2048x64 .bf16) (x2 : Vec Ideal S16x4x2048x64 .bf16)
    (x3 : Vec Ideal S16x4x64x2048 .bf16) (j : S_.Idx) (h : fn (F := Ideal) x0 x1 x2 x3 j = 1#1) :
    (∀ i, ∃ r : ℝ, x0 i = ((r : ℝ) : EReal)) ∧ (∀ i, ∃ r : ℝ, x1 i = ((r : ℝ) : EReal))
      ∧ (∀ i, ∃ r : ℝ, x2 i = ((r : ℝ) : EReal)) := by
  have : Subsingleton S_.Idx := ⟨fun a b => funext fun k => k.elim0⟩
  obtain ⟨h0, h12⟩ := Attn.both_one _ _ h
  obtain ⟨h1, h2⟩ := Attn.both_one _ _ h12
  exact ⟨fun i => Attn.real_of_lt _ (Host.reduce_andi_all _ _ _ _ j h0 i),
    fun i => Attn.real_of_lt _ (Host.reduce_andi_all _ _ _ _ j h1 i),
    fun i => Attn.real_of_lt _ (Host.reduce_andi_all _ _ _ _ j h2 i)⟩

end Cert.Pre_finite

namespace Cert.Pre_finite_qk

open Cert.Pre_finite_qk.Gen

/-- The precondition says that every query and every key is a real number. -/
theorem decode (x0 : Vec Ideal S1 .f32) (x1 : Vec Ideal S16x16x2048x64 .bf16) (x2 : Vec Ideal S16x4x2048x64 .bf16)
    (x3 : Vec Ideal S16x4x64x2048 .bf16) (j : S_.Idx) (h : fn (F := Ideal) x0 x1 x2 x3 j = 1#1) :
    (∀ i, ∃ r : ℝ, x1 i = ((r : ℝ) : EReal)) ∧ (∀ i, ∃ r : ℝ, x2 i = ((r : ℝ) : EReal)) := by
  have : Subsingleton S_.Idx := ⟨fun a b => funext fun k => k.elim0⟩
  obtain ⟨h1, h2⟩ := Attn.both_one _ _ h
  exact ⟨fun i => Attn.real_of_lt _ (Host.reduce_andi_all _ _ _ _ j h1 i),
    fun i => Attn.real_of_lt _ (Host.reduce_andi_all _ _ _ _ j h2 i)⟩

end Cert.Pre_finite_qk

end
-- ==== Proof.Softmax.lean ====
module

public import Idealize.ShloMosaic.PureOps.Ideal
public import Idealize.ShloMosaic.Lib.Pointwise

@[expose] public section

/-!
  The mathematics of the attention, with no program in sight: a quotient of two sums of powers of two, both shifted by
  one real number, is the softmax of the scores times `log 2`, whatever the two shifts are.
-/

noncomputable section

open Idealize.ShloMosaic

namespace Cert.Attn

/-- A sum of extended reals times a nonnegative real is the sum of the products. -/
theorem sum_mul_nonneg {ι : Type} (t : Finset ι) (f : ι → EReal) (c : ℝ) (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- The embedding of the reals commutes with finite sums. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, ← ih, EReal.coe_add]

/-- A power of two, shifted by `b`, is an exponential of base `e`, shifted by `M`, times a constant. -/
theorem rpow_shift (s b M : ℝ) :
    (2 : ℝ) ^ (s - b) = Real.exp (s * Real.log 2 - M) * Real.exp (M - b * Real.log 2) := by
  rw [Real.rpow_def_of_pos two_pos, ← Real.exp_add]; congr 1; ring

/-- The quotient the kernel forms: the values weighted by the powers of two of the scores shifted by `b`, over the sum
    of those powers. -/
def quot (s : Fin 2048 → EReal) (b : EReal) (v : Fin 2048 → EReal) : EReal :=
  Ideal.div (∑ k, v k * Ideal.exp2 (s k - b)) (∑ k, Ideal.exp2 (s k - b))

/-- The softmax of the scores times `log 2`, shifted by `M`, as weights of the values. -/
def soft (s : Fin 2048 → EReal) (M : EReal) (v : Fin 2048 → EReal) : EReal :=
  ∑ k, v k * Ideal.div (Ideal.exp (s k * ((Real.log 2 : ℝ) : EReal) - M))
    (∑ k, Ideal.exp (s k * ((Real.log 2 : ℝ) : EReal) - M))

/-- The quotient the kernel forms is the softmax-weighted sum the reference forms: for real scores `s`, a real shift
    `b` of the powers of two, a real shift `M` of the exponentials, and any extended-real values `v`. -/
theorem softmax_shift (s : Fin 2048 → ℝ) (b M : ℝ) (v : Fin 2048 → EReal) :
    quot (fun k => (s k : EReal)) b v = soft (fun k => (s k : EReal)) M v := by
  unfold quot soft
  have hne : (Finset.univ : Finset (Fin 2048)).Nonempty := ⟨0, Finset.mem_univ _⟩
  have h2 (k : Fin 2048) : Ideal.exp2 ((s k : EReal) - (b : EReal)) = (((2 : ℝ) ^ (s k - b) : ℝ) : EReal) := by
    rw [← EReal.coe_sub, Ideal.exp2_coe]; rfl
  have he (k : Fin 2048) : Ideal.exp ((s k : EReal) * ((Real.log 2 : ℝ) : EReal) - (M : EReal))
      = ((Real.exp (s k * Real.log 2 - M) : ℝ) : EReal) := by
    rw [← EReal.coe_mul, ← EReal.coe_sub, Ideal.exp_coe]
  simp only [h2, he, ← coe_sum]
  have hE : (0 : ℝ) < ∑ k, Real.exp (s k * Real.log 2 - M) := Finset.sum_pos (fun _ _ => Real.exp_pos _) hne
  have hP : (0 : ℝ) < ∑ k, (2 : ℝ) ^ (s k - b) := Finset.sum_pos (fun _ _ => Real.rpow_pos_of_pos two_pos _) hne
  rw [Ideal.div_coe hP.ne', sum_mul_nonneg _ _ _ (by positivity)]
  refine Finset.sum_congr rfl fun k _ => ?_
  rw [Ideal.div_coe hE.ne', mul_assoc, ← EReal.coe_mul, ← EReal.coe_mul]
  congr 2
  simp only [rpow_shift _ b M, ← Finset.sum_mul]
  have hc : Real.exp (M - b * Real.log 2) ≠ 0 := Real.exp_ne_zero _
  field_simp

/-- The score of query row `i` of head `4 h + g` against key row `k` of key-value head `h`, in batch `b`. -/
def score (Q : Vec Ideal ⟨4, ![16, 16, 2048, 64]⟩ .bf16) (K : Vec Ideal ⟨4, ![16, 4, 2048, 64]⟩ .bf16)
    (b : Fin 16) (h g : Fin 4) (i k : Fin 2048) : EReal :=
  ∑ x : Fin 64, K (ix4 b h k x) * Q (ix4 b ⟨4 * h.val + g.val, by omega⟩ i x)

/-- Finite queries and keys give scores that are real numbers. -/
theorem score_real (Q : Vec Ideal ⟨4, ![16, 16, 2048, 64]⟩ .bf16) (K : Vec Ideal ⟨4, ![16, 4, 2048, 64]⟩ .bf16)
    (hQ : ∀ j, ∃ r : ℝ, Q j = ((r : ℝ) : EReal)) (hK : ∀ j, ∃ r : ℝ, K j = ((r : ℝ) : EReal))
    (b : Fin 16) (h g : Fin 4) (i : Fin 2048) :
    ∃ s : Fin 2048 → ℝ, (fun k => score Q K b h g i k) = fun k => ((s k : ℝ) : EReal) := by
  choose q hq using hQ
  choose y hy using hK
  refine ⟨fun k => ∑ x : Fin 64, y (ix4 b h k x) * q (ix4 b ⟨4 * h.val + g.val, by omega⟩ i x), funext fun k => ?_⟩
  unfold score
  simp only [hq, hy, coe_sum, EReal.coe_mul]

/-- The greatest of finitely many real numbers is a real number. -/
theorem fold_max_real {n : Nat} (hn : 0 < n) (f : Fin n → EReal) (hf : ∀ k, ∃ r : ℝ, f k = (r : EReal)) :
    ∃ r : ℝ, Finset.univ.fold max (⊥ : EReal) f = (r : EReal) := by
  have h1 : Finset.univ.fold max (⊥ : EReal) f < ⊤ := by
    rw [Finset.fold_max_lt]
    refine ⟨bot_lt_top, fun k _ => ?_⟩
    obtain ⟨r, hr⟩ := hf k
    rw [hr]; exact EReal.coe_lt_top r
  have h2 : ⊥ < Finset.univ.fold max (⊥ : EReal) f := by
    rw [Finset.lt_fold_max]
    refine Or.inr ⟨⟨0, hn⟩, Finset.mem_univ _, ?_⟩
    obtain ⟨r, hr⟩ := hf ⟨0, hn⟩
    rw [hr]; exact EReal.bot_lt_coe r
  exact ⟨_, (EReal.coe_toReal h1.ne h2.ne').symm⟩

/-- The greatest of the scores, as the kernel reduces them: starting from the least value. -/
def top (s : Fin 2048 → EReal) : EReal := Finset.univ.fold max (Ideal.ofBits .f32 0xFF800000#32) s

/-- The greatest of real scores is real. -/
theorem top_real (s : Fin 2048 → EReal) (hs : ∀ k, ∃ r : ℝ, s k = (r : EReal)) : ∃ r : ℝ, top s = (r : EReal) := by
  have hbot : Ideal.ofBits .f32 0xFF800000#32 = ⊥ := by simp [Ideal.ofBits, Ideal.ieee]
  unfold top
  rw [hbot]
  exact fold_max_real (by norm_num) s hs

end Cert.Attn

end
-- ==== Proof.RefValue.lean ====
module

public import proofs.«01_k».proof.Defs
public import proofs.«01_k».proof.Proof.Gen.ReferenceIdeal.Run
public import proofs.«01_k».proof.Proof.Gen.ReferenceIdeal.Read
public import proofs.«01_k».proof.Proof.Softmax
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read

variable (x1 : Vec Ideal S16x16x2048x64 .bf16) (x2 : Vec Ideal S16x4x2048x64 .bf16) (x3 : Vec Ideal S16x4x64x2048 .bf16)
variable (b : Fin 16) (h g : Fin 4) (i : Fin 2048)

/-- The reference's scores. -/
theorem v4_apply (k : Fin 2048) :
    val_main_v4 (F := Ideal) x1 x2 (ix5 b h g i k) = Attn.score x1 x2 b h g i k := by
  rw [val_main_v4_apply]
  unfold Attn.score
  refine Finset.sum_congr rfl fun x _ => ?_
  rw [mul_comm]
  refine congrArg₂ (· * ·) ?_ ?_
  · exact congrArg x2 (funext fun a => match a with | 0 => rfl | 1 => rfl | 2 => rfl | 3 => rfl)
  · rw [val_main_v1_apply]
    refine congrArg x1 (funext fun a => Fin.ext ?_)
    have hb := b.isLt
    have hh := h.isLt
    have hg := g.isLt
    have hi := i.isLt
    have hx := x.isLt
    match a with
    | 0 => show ((((b.val * 4 + h.val) * 4 + g.val) * 2048 + i.val) * 64 + x.val) / 2097152 = b.val; omega
    | 1 => show ((((b.val * 4 + h.val) * 4 + g.val) * 2048 + i.val) * 64 + x.val) / 131072 % 16 = 4 * h.val + g.val; omega
    | 2 => show ((((b.val * 4 + h.val) * 4 + g.val) * 2048 + i.val) * 64 + x.val) / 64 % 2048 = i.val; omega
    | 3 => show ((((b.val * 4 + h.val) * 4 + g.val) * 2048 + i.val) * 64 + x.val) % 64 = x.val; omega

/-- The reference's scores times the logarithm of two. -/
theorem v7_apply (k : Fin 2048) :
    val_main_v7 (F := Ideal) x1 x2 (ix5 b h g i k) = Attn.score x1 x2 b h g i k * ((Real.log 2 : ℝ) : EReal) := by
  rw [val_main_v7_apply, v4_apply, val_main_v6_apply]
  refine congrArg (Attn.score x1 x2 b h g i k * ·) ?_
  show Ideal.log (Ideal.ofBits .f32 0x40000000#32) = _
  rw [show Ideal.ofBits .f32 0x40000000#32 = ((2 : ℝ) : EReal) by
    simp [Ideal.ofBits, Ideal.ieee, -EReal.coe_mul]; norm_num, Ideal.log_coe, if_neg (by norm_num)]

/-- The weights before they are divided by their sum. -/
theorem v14_apply (k : Fin 2048) :
    val_main_v14 (F := Ideal) x1 x2 (ix5 b h g i k) =
      Ideal.exp (Attn.score x1 x2 b h g i k * ((Real.log 2 : ℝ) : EReal) - val_main_v10 (F := Ideal) x1 x2 (ix4 b h g i)) := by
  rw [val_main_v14_apply, val_main_v13_apply, v7_apply, val_main_v12_apply, val_main_v11_apply]
  have e : idx_main_v11 (idx_main_v12 (ix5 b h g i k)) = ix4 b h g i :=
    funext fun a => match a with | 0 => rfl | 1 => rfl | 2 => rfl | 3 => rfl
  rw [e]
  rfl

/-- The weights. -/
theorem v18_apply (k : Fin 2048) :
    val_main_v18 (F := Ideal) x1 x2 (ix5 b h g i k) =
      Ideal.div (val_main_v14 (F := Ideal) x1 x2 (ix5 b h g i k))
        (∑ y : Fin 2048, val_main_v14 (F := Ideal) x1 x2 (ix5 b h g i y)) := by
  rw [val_main_v18_apply, val_main_v17_apply, val_main_v16_apply, val_main_v15_apply]
  show Ideal.div _ (Ideal.ofBits .f32 0x00000000#32 + _) = _
  rw [Ideal.ofBits_zero_f32, zero_add]
  refine congrArg (Ideal.div _) (Finset.sum_congr rfl fun k _ => congrArg (val_main_v14 (F := Ideal) x1 x2)
      (funext fun a => match a with | 0 => rfl | 1 => rfl | 2 => rfl | 3 => rfl | 4 => rfl))

/-- The reference's result at batch `b`, row `i` and column `256 h + 64 g + d`. -/
theorem v24_apply (d : Fin 64) (e : Fin 1024) (he : e.val = 256 * h.val + 64 * g.val + d.val) :
    val_main_v24 (F := Ideal) x1 x2 x3 (ix3 b i e) =
      Attn.soft (fun k => Attn.score x1 x2 b h g i k) (val_main_v10 (F := Ideal) x1 x2 (ix4 b h g i))
        (fun k => x3 (ix4 b h d k)) := by
  rw [val_main_v24_apply, val_main_v23_apply, val_main_v22_apply]
  have hj : idx_main_v22 (idx_main_v23 (ix3 b i e)) = ix5 b h d g i := by
    have hb := b.isLt
    have hh := h.isLt
    have hg := g.isLt
    have hi := i.isLt
    have hd := d.isLt
    funext a
    refine Fin.ext ?_
    match a with
    | 0 => show ((b.val * 2048 + i.val) * 1024 + e.val) / 2097152 = b.val; omega
    | 1 => show ((b.val * 2048 + i.val) * 1024 + e.val) / 256 % 4 = h.val; omega
    | 2 => show ((b.val * 2048 + i.val) * 1024 + e.val) % 64 = d.val; omega
    | 3 => show ((b.val * 2048 + i.val) * 1024 + e.val) / 64 % 4 = g.val; omega
    | 4 => show ((b.val * 2048 + i.val) * 1024 + e.val) / 1024 % 2048 = i.val; omega
  rw [hj, val_main_v21_apply]
  unfold Attn.soft
  refine Finset.sum_congr rfl fun k _ => ?_
  rw [show Ideal.div _ _ = _ from (Eq.symm (by rw [v18_apply]; simp only [v14_apply] :
    val_main_v18 (F := Ideal) x1 x2 (ix5 b h g i k) = _))]
  refine congrArg₂ (· * ·) ?_ ?_
  · exact congrArg x3 (funext fun a => match a with | 0 => rfl | 1 => rfl | 2 => rfl | 3 => rfl)
  · exact congrArg (val_main_v18 (F := Ideal) x1 x2)
      (funext fun a => match a with | 0 => rfl | 1 => rfl | 2 => rfl | 3 => rfl | 4 => rfl)

/-- Real scores have a real greatest one. -/
theorem v10_real (hs : ∀ k, ∃ r : ℝ, Attn.score x1 x2 b h g i k = ((r : ℝ) : EReal)) :
    ∃ r : ℝ, val_main_v10 (F := Ideal) x1 x2 (ix4 b h g i) = ((r : ℝ) : EReal) := by
  rw [val_main_v10_apply]
  unfold val_main_v8
  have h7 := fun k => v7_apply x1 x2 b h g i k
  generalize val_main_v7 (F := Ideal) x1 x2 = y at *
  pointwise [val_main_cst_0, val_main_v9, val_main_cst_1]
  have hbot : Ideal.ofBits .f32 0xFF800000#32 = ⊥ := by simp [Ideal.ofBits, Ideal.ieee]
  obtain ⟨r, hr⟩ := Attn.fold_max_real (by norm_num) (fun k => y (ix5 b h g i k)) fun k => by
    obtain ⟨s, e⟩ := hs k
    exact ⟨s * Real.log 2, by rw [h7, e, EReal.coe_mul]⟩
  exact ⟨r, by rw [hbot, max_eq_right bot_le]; exact hr⟩

end Cert.ReferenceIdeal.RefValue

end
-- ==== Proof.Block.lean ====
module

public import proofs.«01_k».proof.Defs
public import proofs.«01_k».proof.Proof.Gen.KernelIdeal.Value
public import proofs.«01_k».proof.Proof.Softmax
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

/-- A list of three zeros is the zero offset, and likewise of other lengths. -/
theorem hz3 : (![0, 0, 0] : Fin 3 → Nat) = fun _ => 0 := funext fun a => by fin_cases a <;> rfl
/-- See `hz3`. -/
theorem hz4 : (![0, 0, 0, 0] : Fin 4 → Nat) = fun _ => 0 := funext fun a => by fin_cases a <;> rfl
/-- See `hz3`. -/
theorem hz2 : (![0, 0] : Fin 2 → Nat) = fun _ => 0 := funext fun a => by fin_cases a <;> rfl
/-- See `hz3`. -/
theorem hz1 : (![0] : Fin 1 → Nat) = fun _ => 0 := funext fun a => by fin_cases a; rfl

/-- The matrix the kernel multiplies by: the values' 64 rows above 64 rows of ones. -/
def vone (x3 : Vec Ideal S1x1x64x2048 .bf16) : Vec Ideal S128x2048 .bf16 :=
  fun j => if h : (j 0 : Nat) < 64 then x3 (ix4 0 0 ⟨(j 0 : Nat), h⟩ (j 1)) else Ideal.ofBits .bf16 0x3F80#16

/-- What the body reads back of its scratch, after the two stores into it, is that matrix. -/
theorem scratch_eq (arg8 : Memref sig .tc .vmem S128x2048 .bf16) (x3 : Vec Ideal S1x1x64x2048 .bf16) :
    arg8.view.readCov
        [⟨Rect.unit ![64, 0] ![64, 2048] inb_S128x2048_S64x2048_64_0, k0_pay3 (F := Ideal)⟩,
          ⟨Rect.unit ![0, 0] ![64, 2048] inb_S128x2048_S64x2048_0_0, k0_pay2 (F := Ideal) x3⟩]
        (Rect.unit ![0, 0] ![128, 2048] inb_S128x2048_S128x2048_0_0).toLoadRect = vone x3 := by
  have hcov : ∀ y : S128x2048.Idx, ∃ p ∈ ([⟨Rect.unit ![64, 0] ![64, 2048] inb_S128x2048_S64x2048_64_0, k0_pay3 (F := Ideal)⟩,
          ⟨Rect.unit ![0, 0] ![64, 2048] inb_S128x2048_S64x2048_0_0, k0_pay2 (F := Ideal) x3⟩] : List (View.Piece (Elt Ideal) S128x2048 .bf16)), y ∈ p.1.set := by
    intro y
    have h0 : (y 0 : Nat) < 128 := (y 0).isLt
    have h1 : (y 1 : Nat) < 2048 := (y 1).isLt
    by_cases h : (y 0 : Nat) < 64
    · refine ⟨_, List.mem_cons_of_mem _ (List.mem_singleton_self _), ?_⟩
      rw [Rect.mem_set_unit]
      intro a
      match a with
      | ⟨0, _⟩ => exact ⟨Nat.zero_le _, by simpa using h⟩
      | ⟨1, _⟩ => exact ⟨Nat.zero_le _, by simpa using h1⟩
    · refine ⟨_, List.mem_cons_self, ?_⟩
      rw [Rect.mem_set_unit]
      intro a
      match a with
      | ⟨0, _⟩ => exact ⟨by simpa using h, by simpa using h0⟩
      | ⟨1, _⟩ => exact ⟨Nat.zero_le _, by simpa using h1⟩
  rw [View.readCov_eq_canon_ld _ _ _ hcov, View.ld_unit_zero (S := S128x2048) hz2]
  funext y
  refine View.canon_apply_of_pieces (vone x3) _ ?_ y (hcov y)
  intro p hp x
  rcases List.mem_cons.mp hp with rfl | hp
  · refine Eq.trans ?_ (dif_neg (by show ¬(64 + 1 * (x 0 : Nat) < 64); omega)).symm
    rfl
  · obtain rfl := List.mem_singleton.mp hp
    have hx : (x 0 : Nat) < 64 := (x 0).isLt
    refine Eq.trans ?_ (dif_pos (by show 0 + 1 * (x 0 : Nat) < 64; omega)).symm
    show k0_pay2 x3 x = _
    change S64x2048.Idx at x
    pointwise [k0_pay2]
    refine congrArg x3 (funext fun a => Fin.ext ?_)
    match a with
    | ⟨0, _⟩ => rfl
    | ⟨1, _⟩ => rfl
    | ⟨2, _⟩ => show (x 0 : Nat) = 0 + 1 * (x 0 : Nat); omega
    | ⟨3, _⟩ => show (x 1 : Nat) = 0 + 1 * (x 1 : Nat); omega

/-- What the body writes to the result's block: its last expression, over the values it computes on the way. -/
theorem out_eq (c : Dev nD) (i : grid0.Coords) (arg3 : Memref sig .tc .smem S1 .f32) (harg3 : arg3.IsWhole) (arg4 : Memref sig .tc .vmem S1x4x2048x64 .bf16) (harg4 : arg4.IsWhole) (arg5 : Memref sig .tc .vmem S1x1x2048x64 .bf16) (harg5 : arg5.IsWhole) (arg6 : Memref sig .tc .vmem S1x1x64x2048 .bf16) (harg6 : arg6.IsWhole) (arg7 : Memref sig .tc .vmem S1x2048x256 .bf16) (harg7 : arg7.IsWhole) (arg8 : Memref sig .tc .vmem S128x2048 .bf16) (harg8 : arg8.IsWhole) (hc0 : cond0_0 i)
    (x0 : Vec Ideal S1 .f32) (x1 : Vec Ideal S1x4x2048x64 .bf16) (x2 : Vec Ideal S1x1x2048x64 .bf16) (x3 : Vec Ideal S1x1x64x2048 .bf16) :
    out0_A_4 (F := Ideal) c i arg3 harg3 arg4 harg4 arg5 harg5 arg6 harg6 arg7 harg7 arg8 harg8 hc0 x0 x1 x2 x3 =
      k0_pay1 (k0_pay4 x2) (vone x3)
        (k0_pay5 x2 (vone x3) (View.ld x1 (Rect.unit ![0, 0, 0, 0] ![1, 1, 2048, 64] inb_S1x4x2048x64_S1x1x2048x64_0_0_0_0)) (x0 (ix1 0)))
        (k0_pay6 x2 (View.ld x1 (Rect.unit ![0, 2, 0, 0] ![1, 1, 2048, 64] inb_S1x4x2048x64_S1x1x2048x64_0_2_0_0)))
        (k0_pay7 x2 (View.ld x1 (Rect.unit ![0, 1, 0, 0] ![1, 1, 2048, 64] inb_S1x4x2048x64_S1x1x2048x64_0_1_0_0)) (x0 (ix1 0)))
        (View.ld x1 (Rect.unit ![0, 3, 0, 0] ![1, 1, 2048, 64] inb_S1x4x2048x64_S1x1x2048x64_0_3_0_0)) (x0 (ix1 0)) (x0 (ix1 0)) := by
  unfold out0_A_4
  rw [View.read_writes_eq_canon _ _ _ (cover0_A_4 c i arg3 harg3 arg4 harg4 arg5 harg5 arg6 harg6 arg7 harg7 arg8 harg8 hc0 x0 x1 x2 x3)]
  unfold kernelRun0_A
  dsimp only
  sl_unfold_words
  rw [View.canon_unit_zero hz3]
  have h1 (p : 0 < (Rect.unit (s := S1) ![0] ![1] inb_S1_S1_0).shape.numel) :
      View.ld x0 (Rect.unit ![0] ![1] inb_S1_S1_0) (Shape.Idx.first p) = x0 (ix1 0) :=
    congrArg x0 (funext fun a => by fin_cases a; rfl)
  simp only [View.readAt_eq_ld, harg3.read_unread, harg4.read_unread, harg5.read_unread, harg6.read_unread,
    View.ld_unit_zero (S := S1x1x2048x64) hz4, View.ld_unit_zero (S := S1x1x64x2048) hz4, scratch_eq, h1]

/-- The score of key `k` for query `i` of head `g`. -/
def score (x1 : Vec Ideal S1x4x2048x64 .bf16) (x2 : Vec Ideal S1x1x2048x64 .bf16) (g : Fin 4) (i k : Fin 2048) : EReal :=
  ∑ d : Fin 64, x2 (ix4 0 0 k d) * x1 (ix4 0 g i d)

/-- The block the body stores, read in its first 64 columns. -/
theorem pay1_head0 (v4 : FVec Ideal S2048x64 .bf16) (v5 : Vec Ideal S128x2048 .bf16) (v23 : FVec Ideal S2048x64 .bf16) (v26 v29 : FVec Ideal S2048x2048 .f32) (v39 : Vec Ideal S1x1x2048x64 .bf16) (v42 v54 : Elt Ideal .f32)
    (i : Fin 2048) (e : Fin 256) (d : Fin 64) (he : (e : Nat) = d) :
    k0_pay1 v4 v5 v23 v26 v29 v39 v42 v54 (ix3 0 i e) = v23 (ix2 i d) := by
  have hd := d.isLt
  pointwise [k0_pay1]
  rw [dif_pos (by omega)]
  exact congrArg (fun t => v23 (ix2 i t)) (Fin.ext he)

/-- The block the body stores, read in its second 64 columns. -/
theorem pay1_head1 (v4 : FVec Ideal S2048x64 .bf16) (v5 : Vec Ideal S128x2048 .bf16) (v23 : FVec Ideal S2048x64 .bf16) (v26 v29 : FVec Ideal S2048x2048 .f32) (v39 : Vec Ideal S1x1x2048x64 .bf16) (v42 v54 : Elt Ideal .f32)
    (i : Fin 2048) (e : Fin 256) (d : Fin 64) (r : Fin 128) (he : (e : Nat) = 64 + d) (hr : (r : Nat) = d) :
    k0_pay1 v4 v5 v23 v26 v29 v39 v42 v54 (ix3 0 i e) =
      Ideal.div (∑ k, v5 (ix2 r k) * Ideal.exp2 (v29 (ix2 k i))) (∑ k, v5 (ix2 64 k) * Ideal.exp2 (v29 (ix2 k i))) := by
  have hd := d.isLt
  pointwise [k0_pay1]
  rw [dif_neg (by omega), dif_pos (by omega)]
  simp only [show e.val - 64 = (r : Nat) by omega]
  rfl

/-- The block the body stores, read in its third 64 columns. -/
theorem pay1_head2 (v4 : FVec Ideal S2048x64 .bf16) (v5 : Vec Ideal S128x2048 .bf16) (v23 : FVec Ideal S2048x64 .bf16) (v26 v29 : FVec Ideal S2048x2048 .f32) (v39 : Vec Ideal S1x1x2048x64 .bf16) (v42 v54 : Elt Ideal .f32)
    (i : Fin 2048) (e : Fin 256) (d : Fin 64) (r : Fin 128) (he : (e : Nat) = 128 + d) (hr : (r : Nat) = d) :
    k0_pay1 v4 v5 v23 v26 v29 v39 v42 v54 (ix3 0 i e) =
      Ideal.div (∑ k, v5 (ix2 r k) * Ideal.exp2 (v26 (ix2 k i) - v42)) (∑ k, v5 (ix2 64 k) * Ideal.exp2 (v26 (ix2 k i) - v42)) := by
  have hd := d.isLt
  pointwise [k0_pay1]
  rw [dif_neg (by omega), dif_neg (by omega), dif_pos (by omega)]
  simp only [show e.val - 64 - 64 = (r : Nat) by omega]
  rfl

/-- The block the body stores, read in its last 64 columns. -/
theorem pay1_head3 (v4 : FVec Ideal S2048x64 .bf16) (v5 : Vec Ideal S128x2048 .bf16) (v23 : FVec Ideal S2048x64 .bf16) (v26 v29 : FVec Ideal S2048x2048 .f32) (v39 : Vec Ideal S1x1x2048x64 .bf16) (v42 v54 : Elt Ideal .f32)
    (i : Fin 2048) (e : Fin 256) (d : Fin 64) (r : Fin 128) (he : (e : Nat) = 192 + d) (hr : (r : Nat) = d) :
    k0_pay1 v4 v5 v23 v26 v29 v39 v42 v54 (ix3 0 i e) =
      Ideal.div (∑ k, v5 (ix2 r k) * Ideal.exp2 ((∑ d, v4 (ix2 k d) * v39 (ix4 0 0 i d)) - v54))
        (∑ k, v5 (ix2 64 k) * Ideal.exp2 ((∑ d, v4 (ix2 k d) * v39 (ix4 0 0 i d)) - v54)) := by
  have hd := d.isLt
  pointwise [k0_pay1]
  rw [dif_neg (by omega), dif_neg (by omega), dif_neg (by omega)]
  simp only [show e.val - 64 - 64 - 64 = (r : Nat) by omega]
  rfl

/-- The first head's values, as the body computes them before the store. -/
theorem pay5_apply (x3 : Vec Ideal S1x1x2048x64 .bf16) (v5 : Vec Ideal S128x2048 .bf16) (v6 : Vec Ideal S1x1x2048x64 .bf16) (b : EReal) (i : Fin 2048) (d : Fin 64) (r : Fin 128) (hr : (r : Nat) = d) :
    k0_pay5 (F := Ideal) x3 v5 v6 b (ix2 i d) =
      Ideal.div (∑ k, v5 (ix2 r k) * Ideal.exp2 ((∑ d, x3 (ix4 0 0 k d) * v6 (ix4 0 0 i d)) - b))
        (∑ k, v5 (ix2 64 k) * Ideal.exp2 ((∑ d, x3 (ix4 0 0 k d) * v6 (ix4 0 0 i d)) - b)) := by
  have hd := d.isLt
  pointwise [k0_pay5, k0_pay4]
  simp only [show d.val = (r : Nat) by omega]
  rfl

/-- The keys as the body loads them. -/
theorem pay4_apply (x2 : Vec Ideal S1x1x2048x64 .bf16) (k : Fin 2048) (d : Fin 64) : k0_pay4 x2 (ix2 k d) = x2 (ix4 0 0 k d) := by
  pointwise [k0_pay4]

/-- The third head's scores. -/
theorem pay6_apply (x2 v6 : Vec Ideal S1x1x2048x64 .bf16) (k i : Fin 2048) :
    k0_pay6 x2 v6 (ix2 k i) = ∑ d, x2 (ix4 0 0 k d) * v6 (ix4 0 0 i d) := by
  pointwise [k0_pay6, k0_pay4]

/-- The second head's scores, less the score bound. -/
theorem pay7_apply (x2 v6 : Vec Ideal S1x1x2048x64 .bf16) (b : EReal) (k i : Fin 2048) :
    k0_pay7 (F := Ideal) x2 v6 b (ix2 k i) = (∑ d, x2 (ix4 0 0 k d) * v6 (ix4 0 0 i d)) - b := by
  pointwise [k0_pay7, k0_pay4]

/-- Its first 64 rows are the values, -/
theorem vone_val (x3 : Vec Ideal S1x1x64x2048 .bf16) (d : Fin 64) (r : Fin 128) (hr : (r : Nat) = d) (k : Fin 2048) :
    vone x3 (ix2 r k) = x3 (ix4 0 0 d k) := by
  have hd := d.isLt
  have h : (r : Nat) < 64 := by omega
  obtain rfl : d = ⟨r, h⟩ := Fin.ext hr.symm
  exact dif_pos h

/-- and row 64 is ones. -/
theorem vone_one (x3 : Vec Ideal S1x1x64x2048 .bf16) (k : Fin 2048) : vone x3 (ix2 64 k) = 1 :=
  (dif_neg (by show ¬((64 : Fin 128) : Nat) < 64; decide)).trans Ideal.ofBits_one_bf16

/-- The queries of head `g`, loaded out of the four heads' block. -/
theorem ldq (x1 : Vec Ideal S1x4x2048x64 .bf16) (g : Fin 4) (o : Nat) (ho : (g : Nat) = o) (inb) (i : Fin 2048) (d : Fin 64) :
    View.ld x1 (Rect.unit (s := S1x4x2048x64) ![0, o, 0, 0] ![1, 1, 2048, 64] inb) (ix4 0 0 i d) = x1 (ix4 0 g i d) := by
  refine congrArg x1 (funext fun a => Fin.ext ?_)
  match a with
  | ⟨0, _⟩ => rfl
  | ⟨1, _⟩ => show o + 1 * 0 = (g : Nat); omega
  | ⟨2, _⟩ => show 0 + 1 * (i : Nat) = i; omega
  | ⟨3, _⟩ => show 0 + 1 * (d : Nat) = d; omega

/-- The block the body leaves, read at query `i`, head `g` and coordinate `d`. -/
theorem pay1_apply (x0 : EReal) (x1 : Vec Ideal S1x4x2048x64 .bf16) (x2 : Vec Ideal S1x1x2048x64 .bf16) (x3 : Vec Ideal S1x1x64x2048 .bf16)
    (i : Fin 2048) (g : Fin 4) (d : Fin 64) (e : Fin 256) (he : (e : Nat) = 64 * g + d) :
    k0_pay1 (F := Ideal) (k0_pay4 x2) (vone x3)
        (k0_pay5 x2 (vone x3) (View.ld x1 (Rect.unit ![0, 0, 0, 0] ![1, 1, 2048, 64] inb_S1x4x2048x64_S1x1x2048x64_0_0_0_0)) x0)
        (k0_pay6 x2 (View.ld x1 (Rect.unit ![0, 2, 0, 0] ![1, 1, 2048, 64] inb_S1x4x2048x64_S1x1x2048x64_0_2_0_0)))
        (k0_pay7 x2 (View.ld x1 (Rect.unit ![0, 1, 0, 0] ![1, 1, 2048, 64] inb_S1x4x2048x64_S1x1x2048x64_0_1_0_0)) x0)
        (View.ld x1 (Rect.unit ![0, 3, 0, 0] ![1, 1, 2048, 64] inb_S1x4x2048x64_S1x1x2048x64_0_3_0_0)) x0 x0 (ix3 0 i e) =
      Attn.quot (fun k => score x1 x2 g i k) x0 (fun k => x3 (ix4 0 0 d k)) := by
  have hd := d.isLt
  have hr : d.val < 128 := by omega
  unfold Attn.quot score
  fin_vals g with hg
  · obtain rfl : g = 0 := Fin.ext hg
    rw [pay1_head0 _ _ _ _ _ _ _ _ i e d (by omega), pay5_apply _ _ _ _ i d ⟨d, hr⟩ rfl]
    simp only [vone_val x3 d ⟨d, hr⟩ rfl, vone_one, one_mul, fun i d => ldq x1 0 0 rfl inb_S1x4x2048x64_S1x1x2048x64_0_0_0_0 i d]
  · obtain rfl : g = 1 := Fin.ext hg
    rw [pay1_head1 _ _ _ _ _ _ _ _ i e d ⟨d, hr⟩ (by omega) rfl]
    simp only [pay7_apply, vone_val x3 d ⟨d, hr⟩ rfl, vone_one, one_mul, fun i d => ldq x1 1 1 rfl inb_S1x4x2048x64_S1x1x2048x64_0_1_0_0 i d]
  · obtain rfl : g = 2 := Fin.ext hg
    rw [pay1_head2 _ _ _ _ _ _ _ _ i e d ⟨d, hr⟩ (by omega) rfl]
    simp only [pay6_apply, vone_val x3 d ⟨d, hr⟩ rfl, vone_one, one_mul, fun i d => ldq x1 2 2 rfl inb_S1x4x2048x64_S1x1x2048x64_0_2_0_0 i d]
  · obtain rfl : g = 3 := Fin.ext hg
    rw [pay1_head3 _ _ _ _ _ _ _ _ i e d ⟨d, hr⟩ (by omega) rfl]
    simp only [pay4_apply, vone_val x3 d ⟨d, hr⟩ rfl, vone_one, one_mul, fun i d => ldq x1 3 3 rfl inb_S1x4x2048x64_S1x1x2048x64_0_3_0_0 i d]

end Cert.KernelIdeal.Block

end
-- ==== Proof.Value.lean ====
module

public import proofs.«01_k».proof.Proof.Block

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

variable (m : (ℓ : Loc nD τ sig) → Buf (Elt Ideal) ℓ)

/-- The block of each window at grid point `t = 4 b + h`: batch `b` and key-value head `h`. -/
theorem index_all : ∀ t : Fin cfg0.N,
    (win0_1.index t 0 = t.val / 4 ∧ win0_1.index t 1 = t.val % 4 ∧ win0_1.index t 2 = 0 ∧ win0_1.index t 3 = 0)
    ∧ (win0_2.index t 0 = t.val / 4 ∧ win0_2.index t 1 = t.val % 4 ∧ win0_2.index t 2 = 0 ∧ win0_2.index t 3 = 0)
    ∧ (win0_3.index t 0 = t.val / 4 ∧ win0_3.index t 1 = t.val % 4 ∧ win0_3.index t 2 = 0 ∧ win0_3.index t 3 = 0)
    ∧ (win0_4.index t 0 = t.val / 4 ∧ win0_4.index t 1 = 0 ∧ win0_4.index t 2 = t.val % 4) :=
  (by decide +kernel : ∀ t : Fin grid0.N,
    (win0_1.index t 0 = t.val / 4 ∧ win0_1.index t 1 = t.val % 4 ∧ win0_1.index t 2 = 0 ∧ win0_1.index t 3 = 0)
    ∧ (win0_2.index t 0 = t.val / 4 ∧ win0_2.index t 1 = t.val % 4 ∧ win0_2.index t 2 = 0 ∧ win0_2.index t 3 = 0)
    ∧ (win0_3.index t 0 = t.val / 4 ∧ win0_3.index t 1 = t.val % 4 ∧ win0_3.index t 2 = 0 ∧ win0_3.index t 3 = 0)
    ∧ (win0_4.index t 0 = t.val / 4 ∧ win0_4.index t 1 = 0 ∧ win0_4.index t 2 = t.val % 4))

variable (c : Dev nD) (t : Fin cfg0.N) (b : Fin 16) (h : Fin 4) (ht : t.val = 4 * b.val + h.val)

/-- The score bound's block is the score bound. -/
theorem blk0 : iblk m c 0 t (ix1 0) = m ((c : Thread nD τ).loc main_arg0) (ix1 0) := by
  refine congrArg (m ((c : Thread nD τ).loc main_arg0)) (funext fun a => ?_)
  match a with
  | 0 => exact Subsingleton.elim (α := Fin 1) _ _

include ht in
/-- The queries' block at grid point `t`: the four heads of key-value head `h`. -/
theorem blk1 (g : Fin 4) (i : Fin 2048) (d : Fin 64) :
    iblk m c 1 t (ix4 0 g i d) =
      m ((c : Thread nD τ).loc main_arg1) (ix4 b ⟨4 * h.val + g.val, by omega⟩ i d) := by
  refine congrArg (m ((c : Thread nD τ).loc main_arg1)) (funext fun a => Fin.ext ?_)
  obtain ⟨⟨e0, e1, e2, e3⟩, -⟩ := index_all t
  refine (win0_1.rect_emb_val t (ix4 0 g i d) a).trans ?_
  match a with
  | 0 => show win0_1.index t 0 * 1 + 0 = b.val; rw [e0]; omega
  | 1 => show win0_1.index t 1 * 4 + g.val = 4 * h.val + g.val; rw [e1]; omega
  | 2 => show win0_1.index t 2 * 2048 + i.val = i.val; rw [e2]; omega
  | 3 => show win0_1.index t 3 * 64 + d.val = d.val; rw [e3]; omega

include ht in
/-- The keys' block at grid point `t`. -/
theorem blk2 (k : Fin 2048) (d : Fin 64) :
    iblk m c 2 t (ix4 0 0 k d) = m ((c : Thread nD τ).loc main_arg2) (ix4 b h k d) := by
  refine congrArg (m ((c : Thread nD τ).loc main_arg2)) (funext fun a => Fin.ext ?_)
  obtain ⟨-, ⟨e0, e1, e2, e3⟩, -⟩ := index_all t
  refine (win0_2.rect_emb_val t (ix4 0 0 k d) a).trans ?_
  match a with
  | 0 => show win0_2.index t 0 * 1 + 0 = b.val; rw [e0]; omega
  | 1 => show win0_2.index t 1 * 1 + 0 = h.val; rw [e1]; omega
  | 2 => show win0_2.index t 2 * 2048 + k.val = k.val; rw [e2]; omega
  | 3 => show win0_2.index t 3 * 64 + d.val = d.val; rw [e3]; omega

include ht in
/-- The values' block at grid point `t`. -/
theorem blk3 (d : Fin 64) (k : Fin 2048) :
    iblk m c 3 t (ix4 0 0 d k) = m ((c : Thread nD τ).loc main_arg3) (ix4 b h d k) := by
  refine congrArg (m ((c : Thread nD τ).loc main_arg3)) (funext fun a => Fin.ext ?_)
  obtain ⟨-, -, ⟨e0, e1, e2, e3⟩, -⟩ := index_all t
  refine (win0_3.rect_emb_val t (ix4 0 0 d k) a).trans ?_
  match a with
  | 0 => show win0_3.index t 0 * 1 + 0 = b.val; rw [e0]; omega
  | 1 => show win0_3.index t 1 * 1 + 0 = h.val; rw [e1]; omega
  | 2 => show win0_3.index t 2 * 64 + d.val = d.val; rw [e2]; omega
  | 3 => show win0_3.index t 3 * 2048 + k.val = k.val; rw [e3]; omega

/-- The kernel's result at batch `b`, row `i` and column `256 h + 64 g + d`, after the whole grid has run: the weighted
    sum of the values over the sum of the weights, each weight a power of two of a score less the score bound. -/
theorem final_apply (b : Fin 16) (h g : Fin 4) (i : Fin 2048) (d : Fin 64) (e : Fin 1024)
    (he : e.val = 256 * h.val + 64 * g.val + d.val) :
    (dats m 0 c).arrAt 4 cfg0.N (ix3 b i e) =
      Attn.quot
        (fun k => Attn.score (m ((c : Thread nD τ).loc main_arg1)) (m ((c : Thread nD τ).loc main_arg2)) b h g i k)
        (m ((c : Thread nD τ).loc main_arg0) (ix1 0))
        (fun k => m ((c : Thread nD τ).loc main_arg3) (ix4 b h d k)) := by
  have hN : cfg0.N = 64 := N_0
  have htN : 4 * b.val + h.val < cfg0.N := by omega
  obtain ⟨t, ht⟩ : ∃ t : Fin cfg0.N, t.val = 4 * b.val + h.val := ⟨⟨_, htN⟩, rfl⟩
  have hlt : 64 * g.val + d.val < 256 := by omega
  have hb := congrFun (Cert.KernelIdeal.Value.blocks4 m c t (flush0_4 t)) (ix3 0 i ⟨64 * g.val + d.val, hlt⟩)
  rw [Cert.KernelIdeal.Value.flushed4_A, Block.out_eq] at hb
  have hi : ((cfg0.win 4).blk t).view.emb (ix3 0 i ⟨64 * g.val + d.val, hlt⟩) = ix3 b i e := by
    funext a
    obtain ⟨-, -, -, e0, e1, e2⟩ := index_all t
    refine Fin.ext ((win0_4.rect_emb_val t (ix3 0 i ⟨64 * g.val + d.val, hlt⟩) a).trans ?_)
    match a with
    | 0 => show win0_4.index t 0 * 1 + 0 = b.val; rw [e0]; omega
    | 1 => show win0_4.index t 1 * 2048 + i.val = i.val; rw [e1]; omega
    | 2 => show win0_4.index t 2 * 256 + (64 * g.val + d.val) = e.val; rw [e2]; omega
  rw [← hi]
  refine hb.trans ?_
  refine (Block.pay1_apply (iblk m c 0 t (ix1 0)) (iblk m c 1 t) (iblk m c 2 t) (iblk m c 3 t) i g d
    ⟨64 * g.val + d.val, hlt⟩ rfl).trans ?_
  rw [blk0]
  unfold Block.score Attn.score
  simp only [blk1 m c t b h ht, blk2 m c t b h ht, blk3 m c t b h ht]

end Cert.KernelIdeal.Whole

end
-- ==== Proof.Block2.lean ====
module

public import proofs.«01_k».proof.Defs
public import proofs.«01_k».proof.Proof.Gen.Kernel2Ideal.Value
public import proofs.«01_k».proof.Proof.Softmax
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel2Ideal.Block

open Cert.Kernel2Ideal Cert.Kernel2Ideal.Gen

/-- A list of three zeros is the zero offset, and likewise of other lengths. -/
theorem hz3 : (![0, 0, 0] : Fin 3 → Nat) = fun _ => 0 := funext fun a => by fin_cases a <;> rfl
/-- See `hz3`. -/
theorem hz4 : (![0, 0, 0, 0] : Fin 4 → Nat) = fun _ => 0 := funext fun a => by fin_cases a <;> rfl
/-- See `hz3`. -/
theorem hz2 : (![0, 0] : Fin 2 → Nat) = fun _ => 0 := funext fun a => by fin_cases a <;> rfl
/-- See `hz3`. -/
theorem hz1 : (![0] : Fin 1 → Nat) = fun _ => 0 := funext fun a => by fin_cases a; rfl

/-- The matrix the kernel multiplies by: the values' 64 rows above 64 rows of ones. -/
def vone (x3 : Vec Ideal S1x1x64x2048 .bf16) : Vec Ideal S128x2048 .bf16 :=
  fun j => if h : (j 0 : Nat) < 64 then x3 (ix4 0 0 ⟨(j 0 : Nat), h⟩ (j 1)) else Ideal.ofBits .bf16 0x3F80#16

/-- What the body reads back of its scratch, after the two stores into it, is that matrix. -/
theorem scratch_eq (arg8 : Memref sig .tc .vmem S128x2048 .bf16) (x3 : Vec Ideal S1x1x64x2048 .bf16) :
    arg8.view.readCov
        [⟨Rect.unit ![64, 0] ![64, 2048] inb_S128x2048_S64x2048_64_0, k0_pay3 (F := Ideal)⟩,
          ⟨Rect.unit ![0, 0] ![64, 2048] inb_S128x2048_S64x2048_0_0, k0_pay2 (F := Ideal) x3⟩]
        (Rect.unit ![0, 0] ![128, 2048] inb_S128x2048_S128x2048_0_0).toLoadRect = vone x3 := by
  have hcov : ∀ y : S128x2048.Idx, ∃ p ∈ ([⟨Rect.unit ![64, 0] ![64, 2048] inb_S128x2048_S64x2048_64_0, k0_pay3 (F := Ideal)⟩,
          ⟨Rect.unit ![0, 0] ![64, 2048] inb_S128x2048_S64x2048_0_0, k0_pay2 (F := Ideal) x3⟩] : List (View.Piece (Elt Ideal) S128x2048 .bf16)), y ∈ p.1.set := by
    intro y
    have h0 : (y 0 : Nat) < 128 := (y 0).isLt
    have h1 : (y 1 : Nat) < 2048 := (y 1).isLt
    by_cases h : (y 0 : Nat) < 64
    · refine ⟨_, List.mem_cons_of_mem _ (List.mem_singleton_self _), ?_⟩
      rw [Rect.mem_set_unit]
      intro a
      match a with
      | ⟨0, _⟩ => exact ⟨Nat.zero_le _, by simpa using h⟩
      | ⟨1, _⟩ => exact ⟨Nat.zero_le _, by simpa using h1⟩
    · refine ⟨_, List.mem_cons_self, ?_⟩
      rw [Rect.mem_set_unit]
      intro a
      match a with
      | ⟨0, _⟩ => exact ⟨by simpa using h, by simpa using h0⟩
      | ⟨1, _⟩ => exact ⟨Nat.zero_le _, by simpa using h1⟩
  rw [View.readCov_eq_canon_ld _ _ _ hcov, View.ld_unit_zero (S := S128x2048) hz2]
  funext y
  refine View.canon_apply_of_pieces (vone x3) _ ?_ y (hcov y)
  intro p hp x
  rcases List.mem_cons.mp hp with rfl | hp
  · refine Eq.trans ?_ (dif_neg (by show ¬(64 + 1 * (x 0 : Nat) < 64); omega)).symm
    rfl
  · obtain rfl := List.mem_singleton.mp hp
    have hx : (x 0 : Nat) < 64 := (x 0).isLt
    refine Eq.trans ?_ (dif_pos (by show 0 + 1 * (x 0 : Nat) < 64; omega)).symm
    show k0_pay2 x3 x = _
    change S64x2048.Idx at x
    pointwise [k0_pay2]
    refine congrArg x3 (funext fun a => Fin.ext ?_)
    match a with
    | ⟨0, _⟩ => rfl
    | ⟨1, _⟩ => rfl
    | ⟨2, _⟩ => show (x 0 : Nat) = 0 + 1 * (x 0 : Nat); omega
    | ⟨3, _⟩ => show (x 1 : Nat) = 0 + 1 * (x 1 : Nat); omega

/-- What the body writes to the result's block: its last expression, over the values it computes on the way. -/
theorem out_eq (c : Dev nD) (i : grid0.Coords) (arg3 : Memref sig .tc .smem S1 .f32) (harg3 : arg3.IsWhole) (arg4 : Memref sig .tc .vmem S1x4x2048x64 .bf16) (harg4 : arg4.IsWhole) (arg5 : Memref sig .tc .vmem S1x1x2048x64 .bf16) (harg5 : arg5.IsWhole) (arg6 : Memref sig .tc .vmem S1x1x64x2048 .bf16) (harg6 : arg6.IsWhole) (arg7 : Memref sig .tc .vmem S1x2048x256 .bf16) (harg7 : arg7.IsWhole) (arg8 : Memref sig .tc .vmem S128x2048 .bf16) (harg8 : arg8.IsWhole) (hc0 : cond0_0 i)
    (x0 : Vec Ideal S1 .f32) (x1 : Vec Ideal S1x4x2048x64 .bf16) (x2 : Vec Ideal S1x1x2048x64 .bf16) (x3 : Vec Ideal S1x1x64x2048 .bf16) :
    out0_A_4 (F := Ideal) c i arg3 harg3 arg4 harg4 arg5 harg5 arg6 harg6 arg7 harg7 arg8 harg8 hc0 x0 x1 x2 x3 =
      k0_pay1 (k0_pay4 x2) (vone x3)
        (k0_pay5 x2 (View.ld x1 (Rect.unit ![0, 1, 0, 0] ![1, 1, 2048, 64] inb_S1x4x2048x64_S1x1x2048x64_0_1_0_0)))
        (k0_pay6 x2 (vone x3) (View.ld x1 (Rect.unit ![0, 0, 0, 0] ![1, 1, 2048, 64] inb_S1x4x2048x64_S1x1x2048x64_0_0_0_0)))
        (k0_pay7 x2 (View.ld x1 (Rect.unit ![0, 2, 0, 0] ![1, 1, 2048, 64] inb_S1x4x2048x64_S1x1x2048x64_0_2_0_0)))
        (k0_pay8 x2 (View.ld x1 (Rect.unit ![0, 1, 0, 0] ![1, 1, 2048, 64] inb_S1x4x2048x64_S1x1x2048x64_0_1_0_0)))
        (View.ld x1 (Rect.unit ![0, 3, 0, 0] ![1, 1, 2048, 64] inb_S1x4x2048x64_S1x1x2048x64_0_3_0_0)) := by
  unfold out0_A_4
  rw [View.read_writes_eq_canon _ _ _ (cover0_A_4 c i arg3 harg3 arg4 harg4 arg5 harg5 arg6 harg6 arg7 harg7 arg8 harg8 hc0 x0 x1 x2 x3)]
  unfold kernelRun0_A
  dsimp only
  sl_unfold_words
  rw [View.canon_unit_zero hz3]
  simp only [View.readAt_eq_ld, harg3.read_unread, harg4.read_unread, harg5.read_unread, harg6.read_unread,
    View.ld_unit_zero (S := S1x1x2048x64) hz4, View.ld_unit_zero (S := S1x1x64x2048) hz4, scratch_eq]

/-- The score of key `k` for query `i` of head `g`. -/
def score (x1 : Vec Ideal S1x4x2048x64 .bf16) (x2 : Vec Ideal S1x1x2048x64 .bf16) (g : Fin 4) (i k : Fin 2048) : EReal :=
  ∑ d : Fin 64, x2 (ix4 0 0 k d) * x1 (ix4 0 g i d)

section
variable (v4 : FVec Ideal S2048x64 .bf16) (v5 : Vec Ideal S128x2048 .bf16) (v11 : FVec Ideal S2048x2048 .f32) (v24 : FVec Ideal S2048x64 .bf16) (v27 : FVec Ideal S2048x2048 .f32) (v29 : FVec Ideal S1x2048 .f32) (v41 : Vec Ideal S1x1x2048x64 .bf16)
variable (i : Fin 2048) (e : Fin 256) (d : Fin 64) (r : Fin 128)

/-- The block the body stores, read in its first 64 columns. -/
theorem pay1_head0 (he : (e : Nat) = d) :
    k0_pay1 v4 v5 v11 v24 v27 v29 v41 (ix3 0 i e) = v24 (ix2 i d) := by
  have hd := d.isLt
  pointwise [k0_pay1]
  rw [dif_pos (by omega)]
  exact congrArg (fun t => v24 (ix2 i t)) (Fin.ext he)

/-- The block the body stores, read in its second 64 columns. -/
theorem pay1_head1 (he : (e : Nat) = 64 + d) (hr : (r : Nat) = d) :
    k0_pay1 v4 v5 v11 v24 v27 v29 v41 (ix3 0 i e) =
      Ideal.div (∑ k, v5 (ix2 r k) * Ideal.exp2 (v11 (ix2 k i) - v29 (ix2 0 i)))
        (∑ k, v5 (ix2 64 k) * Ideal.exp2 (v11 (ix2 k i) - v29 (ix2 0 i))) := by
  have hd := d.isLt
  pointwise [k0_pay1]
  rw [dif_neg (by omega), dif_pos (by omega)]
  simp only [show e.val - 64 = (r : Nat) by omega]
  rfl

/-- The block the body stores, read in its third 64 columns. -/
theorem pay1_head2 (he : (e : Nat) = 128 + d) (hr : (r : Nat) = d) :
    k0_pay1 v4 v5 v11 v24 v27 v29 v41 (ix3 0 i e) =
      Ideal.div (∑ k, v5 (ix2 r k) * Ideal.exp2 (v27 (ix2 k i) - Attn.top fun k => v27 (ix2 k i)))
        (∑ k, v5 (ix2 64 k) * Ideal.exp2 (v27 (ix2 k i) - Attn.top fun k => v27 (ix2 k i))) := by
  have hd := d.isLt
  pointwise [k0_pay1]
  rw [dif_neg (by omega), dif_neg (by omega), dif_pos (by omega)]
  simp only [show e.val - 64 - 64 = (r : Nat) by omega]
  rfl

/-- The block the body stores, read in its last 64 columns. -/
theorem pay1_head3 (he : (e : Nat) = 192 + d) (hr : (r : Nat) = d) :
    k0_pay1 v4 v5 v11 v24 v27 v29 v41 (ix3 0 i e) =
      Ideal.div (∑ k, v5 (ix2 r k) * Ideal.exp2 ((∑ d, v4 (ix2 k d) * v41 (ix4 0 0 i d)) - Attn.top fun k => ∑ d, v4 (ix2 k d) * v41 (ix4 0 0 i d)))
        (∑ k, v5 (ix2 64 k) * Ideal.exp2 ((∑ d, v4 (ix2 k d) * v41 (ix4 0 0 i d)) - Attn.top fun k => ∑ d, v4 (ix2 k d) * v41 (ix4 0 0 i d))) := by
  have hd := d.isLt
  pointwise [k0_pay1]
  rw [dif_neg (by omega), dif_neg (by omega), dif_neg (by omega)]
  simp only [show e.val - 64 - 64 - 64 = (r : Nat) by omega]
  rfl

end

/-- The first head's values, as the body computes them before the store. -/
theorem pay6_apply (x3 : Vec Ideal S1x1x2048x64 .bf16) (v5 : Vec Ideal S128x2048 .bf16) (v6 : Vec Ideal S1x1x2048x64 .bf16) (i : Fin 2048) (d : Fin 64) (r : Fin 128) (hr : (r : Nat) = d) :
    k0_pay6 (F := Ideal) x3 v5 v6 (ix2 i d) =
      Ideal.div (∑ k, v5 (ix2 r k) * Ideal.exp2 ((∑ d, x3 (ix4 0 0 k d) * v6 (ix4 0 0 i d)) - Attn.top fun k => ∑ d, x3 (ix4 0 0 k d) * v6 (ix4 0 0 i d)))
        (∑ k, v5 (ix2 64 k) * Ideal.exp2 ((∑ d, x3 (ix4 0 0 k d) * v6 (ix4 0 0 i d)) - Attn.top fun k => ∑ d, x3 (ix4 0 0 k d) * v6 (ix4 0 0 i d))) := by
  have hd := d.isLt
  pointwise [k0_pay6, k0_pay4]
  simp only [show d.val = (r : Nat) by omega]
  rfl

/-- The keys as the body loads them. -/
theorem pay4_apply (x2 : Vec Ideal S1x1x2048x64 .bf16) (k : Fin 2048) (d : Fin 64) : k0_pay4 x2 (ix2 k d) = x2 (ix4 0 0 k d) := by
  pointwise [k0_pay4]

/-- The second head's scores. -/
theorem pay5_apply (x2 v6 : Vec Ideal S1x1x2048x64 .bf16) (k i : Fin 2048) :
    k0_pay5 x2 v6 (ix2 k i) = ∑ d, x2 (ix4 0 0 k d) * v6 (ix4 0 0 i d) := by
  pointwise [k0_pay5, k0_pay4]

/-- The third head's scores. -/
theorem pay7_apply (x2 v6 : Vec Ideal S1x1x2048x64 .bf16) (k i : Fin 2048) :
    k0_pay7 x2 v6 (ix2 k i) = ∑ d, x2 (ix4 0 0 k d) * v6 (ix4 0 0 i d) := by
  pointwise [k0_pay7, k0_pay4]

/-- The second head's greatest scores. -/
theorem pay8_apply (x2 v6 : Vec Ideal S1x1x2048x64 .bf16) (i : Fin 2048) :
    k0_pay8 x2 v6 (ix2 0 i) = Attn.top fun k => ∑ d, x2 (ix4 0 0 k d) * v6 (ix4 0 0 i d) := by
  pointwise [k0_pay8, k0_pay5, k0_pay4]
  rfl

/-- Its first 64 rows are the values, -/
theorem vone_val (x3 : Vec Ideal S1x1x64x2048 .bf16) (d : Fin 64) (r : Fin 128) (hr : (r : Nat) = d) (k : Fin 2048) :
    vone x3 (ix2 r k) = x3 (ix4 0 0 d k) := by
  have hd := d.isLt
  have h : (r : Nat) < 64 := by omega
  obtain rfl : d = ⟨r, h⟩ := Fin.ext hr.symm
  exact dif_pos h

/-- and row 64 is ones. -/
theorem vone_one (x3 : Vec Ideal S1x1x64x2048 .bf16) (k : Fin 2048) : vone x3 (ix2 64 k) = 1 :=
  (dif_neg (by show ¬((64 : Fin 128) : Nat) < 64; decide)).trans Ideal.ofBits_one_bf16

/-- The queries of head `g`, loaded out of the four heads' block. -/
theorem ldq (x1 : Vec Ideal S1x4x2048x64 .bf16) (g : Fin 4) (o : Nat) (ho : (g : Nat) = o) (inb) (i : Fin 2048) (d : Fin 64) :
    View.ld x1 (Rect.unit (s := S1x4x2048x64) ![0, o, 0, 0] ![1, 1, 2048, 64] inb) (ix4 0 0 i d) = x1 (ix4 0 g i d) := by
  refine congrArg x1 (funext fun a => Fin.ext ?_)
  match a with
  | ⟨0, _⟩ => rfl
  | ⟨1, _⟩ => show o + 1 * 0 = (g : Nat); omega
  | ⟨2, _⟩ => show 0 + 1 * (i : Nat) = i; omega
  | ⟨3, _⟩ => show 0 + 1 * (d : Nat) = d; omega

/-- The block the body leaves, read at query `i`, head `g` and coordinate `d`. -/
theorem pay1_apply (x1 : Vec Ideal S1x4x2048x64 .bf16) (x2 : Vec Ideal S1x1x2048x64 .bf16) (x3 : Vec Ideal S1x1x64x2048 .bf16)
    (i : Fin 2048) (g : Fin 4) (d : Fin 64) (e : Fin 256) (he : (e : Nat) = 64 * g + d) :
    k0_pay1 (F := Ideal) (k0_pay4 x2) (vone x3)
        (k0_pay5 x2 (View.ld x1 (Rect.unit ![0, 1, 0, 0] ![1, 1, 2048, 64] inb_S1x4x2048x64_S1x1x2048x64_0_1_0_0)))
        (k0_pay6 x2 (vone x3) (View.ld x1 (Rect.unit ![0, 0, 0, 0] ![1, 1, 2048, 64] inb_S1x4x2048x64_S1x1x2048x64_0_0_0_0)))
        (k0_pay7 x2 (View.ld x1 (Rect.unit ![0, 2, 0, 0] ![1, 1, 2048, 64] inb_S1x4x2048x64_S1x1x2048x64_0_2_0_0)))
        (k0_pay8 x2 (View.ld x1 (Rect.unit ![0, 1, 0, 0] ![1, 1, 2048, 64] inb_S1x4x2048x64_S1x1x2048x64_0_1_0_0)))
        (View.ld x1 (Rect.unit ![0, 3, 0, 0] ![1, 1, 2048, 64] inb_S1x4x2048x64_S1x1x2048x64_0_3_0_0)) (ix3 0 i e) =
      Attn.quot (fun k => score x1 x2 g i k) (Attn.top fun k => score x1 x2 g i k) (fun k => x3 (ix4 0 0 d k)) := by
  have hd := d.isLt
  have hr : d.val < 128 := by omega
  unfold Attn.quot score
  fin_vals g with hg
  · obtain rfl : g = 0 := Fin.ext hg
    rw [pay1_head0 _ _ _ _ _ _ _ i e d (by omega), pay6_apply _ _ _ i d ⟨d, hr⟩ rfl]
    simp only [vone_val x3 d ⟨d, hr⟩ rfl, vone_one, one_mul, fun i d => ldq x1 0 0 rfl inb_S1x4x2048x64_S1x1x2048x64_0_0_0_0 i d]
  · obtain rfl : g = 1 := Fin.ext hg
    rw [pay1_head1 _ _ _ _ _ _ _ i e d ⟨d, hr⟩ (by omega) rfl]
    simp only [pay5_apply, pay8_apply, vone_val x3 d ⟨d, hr⟩ rfl, vone_one, one_mul, fun i d => ldq x1 1 1 rfl inb_S1x4x2048x64_S1x1x2048x64_0_1_0_0 i d]
  · obtain rfl : g = 2 := Fin.ext hg
    rw [pay1_head2 _ _ _ _ _ _ _ i e d ⟨d, hr⟩ (by omega) rfl]
    simp only [pay7_apply, vone_val x3 d ⟨d, hr⟩ rfl, vone_one, one_mul, fun i d => ldq x1 2 2 rfl inb_S1x4x2048x64_S1x1x2048x64_0_2_0_0 i d]
  · obtain rfl : g = 3 := Fin.ext hg
    rw [pay1_head3 _ _ _ _ _ _ _ i e d ⟨d, hr⟩ (by omega) rfl]
    simp only [pay4_apply, vone_val x3 d ⟨d, hr⟩ rfl, vone_one, one_mul, fun i d => ldq x1 3 3 rfl inb_S1x4x2048x64_S1x1x2048x64_0_3_0_0 i d]

end Cert.Kernel2Ideal.Block

end
-- ==== Proof.Value2.lean ====
module

public import proofs.«01_k».proof.Proof.Block2

@[expose] public section

set_option maxRecDepth 16384

noncomputable section

open Idealize.ShloMosaic Idealize.ShloMosaic.TcCoe Idealize.SL.Sem
open Idealize.ShloMosaic.Pipeline (Dat)

namespace Cert.Kernel2Ideal.Whole

open Cert.Kernel2Ideal Cert.Kernel2Ideal.Gen

variable (m : (ℓ : Loc nD τ sig) → Buf (Elt Ideal) ℓ)

/-- The block of each window at grid point `t = 4 b + h`: batch `b` and key-value head `h`. -/
theorem index_all : ∀ t : Fin cfg0.N,
    (win0_1.index t 0 = t.val / 4 ∧ win0_1.index t 1 = t.val % 4 ∧ win0_1.index t 2 = 0 ∧ win0_1.index t 3 = 0)
    ∧ (win0_2.index t 0 = t.val / 4 ∧ win0_2.index t 1 = t.val % 4 ∧ win0_2.index t 2 = 0 ∧ win0_2.index t 3 = 0)
    ∧ (win0_3.index t 0 = t.val / 4 ∧ win0_3.index t 1 = t.val % 4 ∧ win0_3.index t 2 = 0 ∧ win0_3.index t 3 = 0)
    ∧ (win0_4.index t 0 = t.val / 4 ∧ win0_4.index t 1 = 0 ∧ win0_4.index t 2 = t.val % 4) :=
  (by decide +kernel : ∀ t : Fin grid0.N,
    (win0_1.index t 0 = t.val / 4 ∧ win0_1.index t 1 = t.val % 4 ∧ win0_1.index t 2 = 0 ∧ win0_1.index t 3 = 0)
    ∧ (win0_2.index t 0 = t.val / 4 ∧ win0_2.index t 1 = t.val % 4 ∧ win0_2.index t 2 = 0 ∧ win0_2.index t 3 = 0)
    ∧ (win0_3.index t 0 = t.val / 4 ∧ win0_3.index t 1 = t.val % 4 ∧ win0_3.index t 2 = 0 ∧ win0_3.index t 3 = 0)
    ∧ (win0_4.index t 0 = t.val / 4 ∧ win0_4.index t 1 = 0 ∧ win0_4.index t 2 = t.val % 4))

variable (c : Dev nD) (t : Fin cfg0.N) (b : Fin 16) (h : Fin 4) (ht : t.val = 4 * b.val + h.val)

include ht in
/-- The queries' block at grid point `t`: the four heads of key-value head `h`. -/
theorem blk1 (g : Fin 4) (i : Fin 2048) (d : Fin 64) :
    iblk m c 1 t (ix4 0 g i d) =
      m ((c : Thread nD τ).loc main_arg1) (ix4 b ⟨4 * h.val + g.val, by omega⟩ i d) := by
  refine congrArg (m ((c : Thread nD τ).loc main_arg1)) (funext fun a => Fin.ext ?_)
  obtain ⟨⟨e0, e1, e2, e3⟩, -⟩ := index_all t
  refine (win0_1.rect_emb_val t (ix4 0 g i d) a).trans ?_
  match a with
  | 0 => show win0_1.index t 0 * 1 + 0 = b.val; rw [e0]; omega
  | 1 => show win0_1.index t 1 * 4 + g.val = 4 * h.val + g.val; rw [e1]; omega
  | 2 => show win0_1.index t 2 * 2048 + i.val = i.val; rw [e2]; omega
  | 3 => show win0_1.index t 3 * 64 + d.val = d.val; rw [e3]; omega

include ht in
/-- The keys' block at grid point `t`. -/
theorem blk2 (k : Fin 2048) (d : Fin 64) :
    iblk m c 2 t (ix4 0 0 k d) = m ((c : Thread nD τ).loc main_arg2) (ix4 b h k d) := by
  refine congrArg (m ((c : Thread nD τ).loc main_arg2)) (funext fun a => Fin.ext ?_)
  obtain ⟨-, ⟨e0, e1, e2, e3⟩, -⟩ := index_all t
  refine (win0_2.rect_emb_val t (ix4 0 0 k d) a).trans ?_
  match a with
  | 0 => show win0_2.index t 0 * 1 + 0 = b.val; rw [e0]; omega
  | 1 => show win0_2.index t 1 * 1 + 0 = h.val; rw [e1]; omega
  | 2 => show win0_2.index t 2 * 2048 + k.val = k.val; rw [e2]; omega
  | 3 => show win0_2.index t 3 * 64 + d.val = d.val; rw [e3]; omega

include ht in
/-- The values' block at grid point `t`. -/
theorem blk3 (d : Fin 64) (k : Fin 2048) :
    iblk m c 3 t (ix4 0 0 d k) = m ((c : Thread nD τ).loc main_arg3) (ix4 b h d k) := by
  refine congrArg (m ((c : Thread nD τ).loc main_arg3)) (funext fun a => Fin.ext ?_)
  obtain ⟨-, -, ⟨e0, e1, e2, e3⟩, -⟩ := index_all t
  refine (win0_3.rect_emb_val t (ix4 0 0 d k) a).trans ?_
  match a with
  | 0 => show win0_3.index t 0 * 1 + 0 = b.val; rw [e0]; omega
  | 1 => show win0_3.index t 1 * 1 + 0 = h.val; rw [e1]; omega
  | 2 => show win0_3.index t 2 * 64 + d.val = d.val; rw [e2]; omega
  | 3 => show win0_3.index t 3 * 2048 + k.val = k.val; rw [e3]; omega

/-- The kernel's result at batch `b`, row `i` and column `256 h + 64 g + d`, after the whole grid has run: the weighted
    sum of the values over the sum of the weights, each weight a power of two of a score less the row's greatest score. -/
theorem final_apply (b : Fin 16) (h g : Fin 4) (i : Fin 2048) (d : Fin 64) (e : Fin 1024)
    (he : e.val = 256 * h.val + 64 * g.val + d.val) :
    (dats m 0 c).arrAt 4 cfg0.N (ix3 b i e) =
      Attn.quot
        (fun k => Attn.score (m ((c : Thread nD τ).loc main_arg1)) (m ((c : Thread nD τ).loc main_arg2)) b h g i k)
        (Attn.top fun k => Attn.score (m ((c : Thread nD τ).loc main_arg1)) (m ((c : Thread nD τ).loc main_arg2)) b h g i k)
        (fun k => m ((c : Thread nD τ).loc main_arg3) (ix4 b h d k)) := by
  have hN : cfg0.N = 64 := N_0
  have htN : 4 * b.val + h.val < cfg0.N := by omega
  obtain ⟨t, ht⟩ : ∃ t : Fin cfg0.N, t.val = 4 * b.val + h.val := ⟨⟨_, htN⟩, rfl⟩
  have hlt : 64 * g.val + d.val < 256 := by omega
  have hb := congrFun (Cert.Kernel2Ideal.Value.blocks4 m c t (flush0_4 t)) (ix3 0 i ⟨64 * g.val + d.val, hlt⟩)
  rw [Cert.Kernel2Ideal.Value.flushed4_A, Block.out_eq] at hb
  have hi : ((cfg0.win 4).blk t).view.emb (ix3 0 i ⟨64 * g.val + d.val, hlt⟩) = ix3 b i e := by
    funext a
    obtain ⟨-, -, -, e0, e1, e2⟩ := index_all t
    refine Fin.ext ((win0_4.rect_emb_val t (ix3 0 i ⟨64 * g.val + d.val, hlt⟩) a).trans ?_)
    match a with
    | 0 => show win0_4.index t 0 * 1 + 0 = b.val; rw [e0]; omega
    | 1 => show win0_4.index t 1 * 2048 + i.val = i.val; rw [e1]; omega
    | 2 => show win0_4.index t 2 * 256 + (64 * g.val + d.val) = e.val; rw [e2]; omega
  rw [← hi]
  refine hb.trans ?_
  refine (Block.pay1_apply (iblk m c 1 t) (iblk m c 2 t) (iblk m c 3 t) i g d
    ⟨64 * g.val + d.val, hlt⟩ rfl).trans ?_
  unfold Block.score Attn.score
  simp only [blk1 m c t b h ht, blk2 m c t b h ht, blk3 m c t b h ht]

end Cert.Kernel2Ideal.Whole

end
-- ==== Proof.Attention.lean ====
module

public import proofs.«01_k».proof.Defs
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Pre
public import proofs.«01_k».proof.Proof.RefValue
public import proofs.«01_k».proof.Proof.Softmax
public import proofs.«01_k».proof.Proof.Value
public import proofs.«01_k».proof.Proof.Value2

@[expose] public section

set_option maxRecDepth 16384

/-! The claims about the attention. -/

noncomputable section

namespace Cert.Proof

open Idealize.ShloMosaic Idealize.SL.Sem Cert

/-- KernelIdeal and the reference end with the same array: at every index both are the softmax of the scores, and the softmax is
    unchanged by what the scores are shifted by. -/
theorem value_bounded (m : (ℓ : Loc KernelIdeal.nD KernelIdeal.τ KernelIdeal.sig) → Buf (Elt Ideal) ℓ) (hpre : Cert.Pre_KernelIdeal_finite m) (c : Dev KernelIdeal.nD) :
    (Cert.KernelIdeal.Gen.dats m 0 c).arrAt 4 Cert.KernelIdeal.cfg0.N =
      Cert.ReferenceIdeal.Read.val_main_v24 (F := Ideal) (m ((c.tc : Thread KernelIdeal.nD KernelIdeal.τ).loc KernelIdeal.main_arg1))
        (m ((c.tc : Thread KernelIdeal.nD KernelIdeal.τ).loc KernelIdeal.main_arg2)) (m ((c.tc : Thread KernelIdeal.nD KernelIdeal.τ).loc KernelIdeal.main_arg3)) := by
  refine funext fun (j : Cert.KernelIdeal.S16x2048x1024.Idx) => ?_
  obtain ⟨b, i, e, rfl⟩ : ∃ (b : Fin 16) (i : Fin 2048) (e : Fin 1024), j = ix3 b i e :=
    ⟨j 0, j 1, j 2, funext fun a => match a with | 0 => rfl | 1 => rfl | 2 => rfl⟩
  have he := e.isLt
  have e1 : e.val / 256 < 4 := by omega
  have e2 : e.val / 64 % 4 < 4 := by omega
  have e3 : e.val % 64 < 64 := by omega
  have hsplit : e.val = 256 * (e.val / 256) + 64 * (e.val / 64 % 4) + e.val % 64 := by omega
  have hd := Cert.Pre_finite.decode _ _ _ _ _ (congrFun (hpre c) (fun k => k.elim0))
  obtain ⟨h0, hq, hk⟩ := hd
  obtain ⟨s, hs⟩ := Attn.score_real (m ((c.tc : Thread KernelIdeal.nD KernelIdeal.τ).loc KernelIdeal.main_arg1))
    (m ((c.tc : Thread KernelIdeal.nD KernelIdeal.τ).loc KernelIdeal.main_arg2)) hq hk b ⟨e.val / 256, e1⟩ ⟨e.val / 64 % 4, e2⟩ i
  obtain ⟨M, hM⟩ := Cert.ReferenceIdeal.RefValue.v10_real _ _ b ⟨e.val / 256, e1⟩ ⟨e.val / 64 % 4, e2⟩ i
    fun k => ⟨s k, congrFun hs k⟩
  refine (Cert.KernelIdeal.Whole.final_apply m c b ⟨e.val / 256, e1⟩ ⟨e.val / 64 % 4, e2⟩ i ⟨e.val % 64, e3⟩ e hsplit).trans
    (Eq.trans ?_ (Cert.ReferenceIdeal.RefValue.v24_apply _ _ _ b ⟨e.val / 256, e1⟩ ⟨e.val / 64 % 4, e2⟩ i ⟨e.val % 64, e3⟩ e
      hsplit).symm)
  obtain ⟨B, hB⟩ := h0 (ix1 0)
  rw [hB, hM, hs]
  exact Attn.softmax_shift s B M _

/-- The claim `algebraic` of KernelIdeal: the run of each program, read at that array. -/
theorem algebraic_bounded : Cert.algebraic_KernelIdeal_ReferenceIdeal_pre_finite := by
  intro m g m' g' hpre hagree
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨?_, (h c).2⟩)
    (Cert.ReferenceIdeal.Value.run (F := Ideal) m' g')
  refine (h c).1.trans (Eq.trans ?_ (value_bounded m hpre c).symm)
  rw [Cert.ReferenceIdeal.Read.val_main_v24_eq]
  rw [(hagree c).2.1, (hagree c).2.2.1, (hagree c).2.2.2]

/-- Kernel2Ideal and the reference end with the same array: at every index both are the softmax of the scores, and the softmax is
    unchanged by what the scores are shifted by. -/
theorem value_greatest (m : (ℓ : Loc Kernel2Ideal.nD Kernel2Ideal.τ Kernel2Ideal.sig) → Buf (Elt Ideal) ℓ) (hpre : Cert.Pre_Kernel2Ideal_finite_qk m) (c : Dev Kernel2Ideal.nD) :
    (Cert.Kernel2Ideal.Gen.dats m 0 c).arrAt 4 Cert.Kernel2Ideal.cfg0.N =
      Cert.ReferenceIdeal.Read.val_main_v24 (F := Ideal) (m ((c.tc : Thread Kernel2Ideal.nD Kernel2Ideal.τ).loc Kernel2Ideal.main_arg1))
        (m ((c.tc : Thread Kernel2Ideal.nD Kernel2Ideal.τ).loc Kernel2Ideal.main_arg2)) (m ((c.tc : Thread Kernel2Ideal.nD Kernel2Ideal.τ).loc Kernel2Ideal.main_arg3)) := by
  refine funext fun (j : Cert.Kernel2Ideal.S16x2048x1024.Idx) => ?_
  obtain ⟨b, i, e, rfl⟩ : ∃ (b : Fin 16) (i : Fin 2048) (e : Fin 1024), j = ix3 b i e :=
    ⟨j 0, j 1, j 2, funext fun a => match a with | 0 => rfl | 1 => rfl | 2 => rfl⟩
  have he := e.isLt
  have e1 : e.val / 256 < 4 := by omega
  have e2 : e.val / 64 % 4 < 4 := by omega
  have e3 : e.val % 64 < 64 := by omega
  have hsplit : e.val = 256 * (e.val / 256) + 64 * (e.val / 64 % 4) + e.val % 64 := by omega
  have hd := Cert.Pre_finite_qk.decode _ _ _ _ _ (congrFun (hpre c) (fun k => k.elim0))
  obtain ⟨hq, hk⟩ := hd
  obtain ⟨s, hs⟩ := Attn.score_real (m ((c.tc : Thread Kernel2Ideal.nD Kernel2Ideal.τ).loc Kernel2Ideal.main_arg1))
    (m ((c.tc : Thread Kernel2Ideal.nD Kernel2Ideal.τ).loc Kernel2Ideal.main_arg2)) hq hk b ⟨e.val / 256, e1⟩ ⟨e.val / 64 % 4, e2⟩ i
  obtain ⟨M, hM⟩ := Cert.ReferenceIdeal.RefValue.v10_real _ _ b ⟨e.val / 256, e1⟩ ⟨e.val / 64 % 4, e2⟩ i
    fun k => ⟨s k, congrFun hs k⟩
  refine (Cert.Kernel2Ideal.Whole.final_apply m c b ⟨e.val / 256, e1⟩ ⟨e.val / 64 % 4, e2⟩ i ⟨e.val % 64, e3⟩ e hsplit).trans
    (Eq.trans ?_ (Cert.ReferenceIdeal.RefValue.v24_apply _ _ _ b ⟨e.val / 256, e1⟩ ⟨e.val / 64 % 4, e2⟩ i ⟨e.val % 64, e3⟩ e
      hsplit).symm)
  obtain ⟨B, hB⟩ := Attn.top_real _ fun k => ⟨s k, congrFun hs k⟩
  rw [hB, hM, hs]
  exact Attn.softmax_shift s B M _

/-- The claim `algebraic` of Kernel2Ideal: the run of each program, read at that array. -/
theorem algebraic_greatest : Cert.algebraic_Kernel2Ideal_ReferenceIdeal_pre_finite_qk := by
  intro m g m' g' hpre hagree
  refine ⟨fun c => (Cert.Kernel2Ideal.Gen.dats m 0 c).arrAt 4 Cert.Kernel2Ideal.cfg0.N, Cert.Kernel2Ideal.Value.run_blocks m g, ?_⟩
  refine (θ_run Cert.ReferenceIdeal.defs _ _).mono (fun r h c => ⟨?_, (h c).2⟩)
    (Cert.ReferenceIdeal.Value.run (F := Ideal) m' g')
  refine (h c).1.trans (Eq.trans ?_ (value_greatest m hpre c).symm)
  rw [Cert.ReferenceIdeal.Read.val_main_v24_eq]
  rw [(hagree c).2.1, (hagree c).2.2.1, (hagree c).2.2.2]

/-- The reference runs and leaves its arguments as they were; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.InprojBlock.lean ====
module

public import proofs.«01_k».proof.Defs
public import proofs.«01_k».proof.Proof.Gen.Kernel3Ideal.Value
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

/-! The input projection at one grid point: 512 rows, every group of 256 columns. -/

noncomputable section

open Idealize.ShloMosaic Idealize.ShloMosaic.TcCoe Idealize.SL.Sem

namespace Cert.Kernel3Ideal.Block

open Cert.Kernel3Ideal Cert.Kernel3Ideal.Gen

/-- The small constant under the root of the norm. -/
abbrev eps : EReal := Ideal.ofBits .f32 0x358637BD#32

/-- The column whose value is mixed with column `d` by the rotation. -/
def partner (d : Fin 256) : Fin 256 := if h : d.val / 16 % 2 = 0 then ⟨d.val + 16, by omega⟩ else ⟨d.val - 16, by omega⟩

/-- A row normalised by the means `mm` of its squares, times the factors `g`. -/
def nrm (z : Fin 256 → EReal) (mm : Fin 256 → Fin 256 → EReal) (g : Fin 256 → EReal) (d : Fin 256) : EReal :=
  z d * Ideal.rsqrt ((∑ k : Fin 256, z k * z k * mm k d) + eps) * g d

/-- The factor of the queries. -/
abbrev qs : EReal := Named.named (F := Ideal) (φ := .f32) κ "query_scale" 0x3E38AA3B#32

/-- Column `k` of the run `g` of 256 columns. -/
def col (g : Fin 16) (k : Fin 256) : Fin 4096 := ⟨256 * g.val + k.val, by omega⟩

/-- A row rotated by the angles whose cosines and signed sines are given. -/
def rot (y co si : Fin 256 → EReal) (d : Fin 256) : EReal := y d * co d + y (partner d) * si d

theorem nrm_congr {z z' : Fin 256 → EReal} {mm mm' : Fin 256 → Fin 256 → EReal} {g g' : Fin 256 → EReal} (hz : ∀ k, z k = z' k)
    (hm : ∀ k l, mm k l = mm' k l) (hg : ∀ k, g k = g' k) (d : Fin 256) : nrm z mm g d = nrm z' mm' g' d := by
  rw [funext hz, funext fun k => funext (hm k), funext hg]

theorem rot_congr {y y' co co' si si' : Fin 256 → EReal} (hy : ∀ k, y k = y' k) (hc : ∀ k, co k = co' k) (hs : ∀ k, si k = si' k)
    (d : Fin 256) : rot y co si d = rot y' co' si' d := by
  rw [funext hy, funext hc, funext hs]

section Rope

variable (mm : Vec Ideal S256x256 .bf16) (co si z : Vec Ideal S512x256 .f32) (g : Vec Ideal S1x256 .f32)

/-- The keys' normalised rows. -/
theorem pay43_apply (r : Fin 512) (d : Fin 256) :
    k0_pay43 (F := Ideal) mm z g (ix2 r d) = nrm (fun k => z (ix2 r k)) (fun k l => mm (ix2 k l)) (fun k => g (ix2 0 k)) d := by
  pointwise [k0_pay43]
  rfl

/-- The queries' normalised rows. -/
theorem pay18_apply (r : Fin 512) (d : Fin 256) :
    k0_pay18 (F := Ideal) mm z g (ix2 r d) = nrm (fun k => z (ix2 r k)) (fun k l => mm (ix2 k l)) (fun k => g (ix2 0 k) * qs) d := by
  pointwise [k0_pay18]
  rfl

/-- The projection to 256 columns. -/
theorem pay17_apply (x : Vec Ideal S512x1024 .f32) (w : Vec Ideal S1024x256 .bf16) (r : Fin 512) (d : Fin 256) :
    k0_pay17 (F := Ideal) (k0_pay2 x) w (ix2 r d) = ∑ k : Fin 1024, x (ix2 r k) * w (ix2 k d) := by
  pointwise [k0_pay17, k0_pay2]

/-- The choice between the two rotated runs: the bit of weight 16 of the column. -/
theorem mask : ∀ l : Fin 128, IntOp.cmpi CmpIPredicate.eq (IntOp.andi (BitVec.ofNat 32 l.val) 16#32) 0#32 = if l.val / 16 % 2 = 0 then 1#1 else 0#1 := by
  decide +kernel

/-- The choice between the two rotated runs, made. -/
theorem mask_select (l : Nat) (hl : l < 128) (a b : EReal) :
    Scalar.select (IntOp.cmpi CmpIPredicate.eq (IntOp.andi (BitVec.ofNat 32 l) 16#32) 0#32) a b = if l / 16 % 2 = 0 then a else b := by
  rw [mask ⟨l, hl⟩]
  dsimp only
  split <;> rfl

/-- The rotation of the rows `z`. -/
def ropeVec : FVec Ideal S512x256 .bf16 :=
  k0_pay47 k0_pay3 co si z (extractStridedSlice S512x128 ![0, 0] z slices_S512x256_o0_0_S512x128)
    (dynamicRotate 1 112#32 none (extractStridedSlice S512x128 ![0, 0] z slices_S512x256_o0_0_S512x128) rotates_S512x128_d1)
    (dynamicRotate 1 16#32 none (extractStridedSlice S512x128 ![0, 0] z slices_S512x256_o0_0_S512x128) rotates_S512x128_d1)

theorem ropeVec_apply (r : Fin 512) (d : Fin 256) :
    ropeVec co si z (ix2 r d) = rot (fun k => z (ix2 r k)) (fun k => co (ix2 r k)) (fun k => si (ix2 r k)) d := by
  unfold ropeVec
  pointwise [k0_pay47, k0_pay3]
  have key : ∀ (e : Fin 256) (l a b : Nat) (ha : a < 256) (hb : b < 256), e = d → l < 128 → l % 32 = d.val % 32 → (l / 16 % 2 = 0 → a = d.val + 16) →
      (l / 16 % 2 ≠ 0 → b = d.val - 16) →
      z (ix2 r e) * co (ix2 r e) + Scalar.select (IntOp.cmpi CmpIPredicate.eq (IntOp.andi (BitVec.ofNat 32 l) 16#32) 0#32)
          (z (ix2 r ⟨a, ha⟩)) (z (ix2 r ⟨b, hb⟩)) * si (ix2 r e) = rot (fun k => z (ix2 r k)) (fun k => co (ix2 r k)) (fun k => si (ix2 r k)) d := by
    intro e l a b ha hb he hl hld h1 h2
    subst he
    rw [mask_select l hl]
    unfold rot partner
    by_cases hm : l / 16 % 2 = 0
    · rw [if_pos hm, dif_pos (by omega)]
      obtain rfl := h1 hm
      rfl
    · rw [if_neg hm, dif_neg (by omega)]
      obtain rfl := h2 hm
      rfl
  have hd := d.isLt
  split
  · exact key d d.val ((d.val + 128 - 112) % 128) ((d.val + 128 - 16) % 128) (by omega) (by omega) rfl (by omega) rfl (by omega) (by omega)
  · exact key ⟨128 + (d.val - 128), by omega⟩ (d.val - 128) (128 + (d.val - 128 + 128 - 112) % 128) (128 + (d.val - 128 + 128 - 16) % 128)
      (by omega) (by omega) (Fin.ext (by show 128 + (d.val - 128) = d.val; omega)) (by omega) (by omega) (by omega) (by omega)

/-- A head of 64 columns, stored. -/
theorem head_apply (y : FVec Ideal S512x256 .bf16) {s : Nat} (h : S512x256.Slices ![0, s] S512x64) (a b : Fin 1) (r : Fin 512) (d : Fin 64)
    (e : Fin 256) (he : e.val = s + d.val) :
    shapeCast S1x1x512x64 (extractStridedSlice S512x64 ![0, s] y h) shapeCasts_S512x64_S1x1x512x64 (ix4 a b r d) = y (ix2 r e) := by
  pointwise []
  exact congrArg y (congrArg (ix2 (n0 := 512) (n1 := 256) r) (Fin.ext he.symm))

/-- A head of 64 columns of the values, stored transposed. -/
theorem vhead_apply {s : Nat} (h : S256x512.Slices ![s, 0] S64x512) (a b : Fin 1) (r : Fin 512) (d : Fin 64)
    (e : Fin 256) (he : e.val = s + d.val) :
    shapeCast S1x1x64x512 (extractStridedSlice S64x512 ![s, 0] (k0_pay52 (F := Ideal) z) h) shapeCasts_S64x512_S1x1x64x512 (ix4 a b d r) = z (ix2 r e) := by
  pointwise [k0_pay52]
  exact congrArg z (congrArg (ix2 (n0 := 512) (n1 := 256) r) (Fin.ext he.symm))

/-- The gates of 512 columns. -/
theorem pay62_apply (x : Vec Ideal S512x1024 .f32) (w : Vec Ideal S1024x512 .bf16) (b : Vec Ideal S1x512 .f32) (r : Fin 512) (d : Fin 512) :
    k0_pay62 (F := Ideal) (k0_pay2 x) w b (ix2 r d) =
      Ideal.div 1 (1 + Ideal.exp (0 - ((∑ k : Fin 1024, x (ix2 r k) * w (ix2 k d)) + b (ix2 0 d)))) := by
  pointwise [k0_pay62, k0_pay2]

/-- The first 512 columns. -/
theorem pay8_apply (x : Vec Ideal S512x1024 .f32) (w : Vec Ideal S1024x512 .bf16) (r : Fin 512) (d : Fin 512) :
    k0_pay8 (F := Ideal) x w (ix2 r d) = ∑ k : Fin 1024, x (ix2 r k) * w (ix2 k d) := by
  pointwise [k0_pay8, k0_pay2]

end Rope

/-- A list of two zeros is the zero offset. -/
theorem hz2 : (![0, 0] : Fin 2 → Nat) = fun _ => 0 := funext fun a => by fin_cases a <;> rfl

/-- Columns of a block of two dimensions, loaded from column `c` on. -/
theorem ld_cols {n m k : Nat} {w : EltTy} (x : Vec Ideal ⟨2, ![n, m]⟩ w) (c : Nat) (h : ∀ a, ![0, c] a + ![n, k] a ≤ ![n, m] a)
    (r : Fin n) (d : Fin k) (e : Fin m) (he : e.val = c + d.val) :
    View.ld x (Rect.unit (s := ⟨2, ![n, m]⟩) ![0, c] ![n, k] h) (ix2 r d) = x (ix2 r e) :=
  View.ld_unit_apply_of x _ _ _ _ (ix2 r e) fun a => match a with
    | 0 => by show r.val = 0 + r.val; omega
    | 1 => by show e.val = c + d.val; omega

section Outs

variable (x0 : Vec Ideal S512x1024 .f32) (x1 : Vec Ideal S1024x4096 .bf16) (x2 : Vec Ideal S1x2048 .f32) (x3 x4 : Vec Ideal S1x256 .f32)
  (x5 : Vec Ideal S256x256 .bf16) (x6 x7 : Vec Ideal S512x256 .f32)

/-- The projection of row `p` to column `c`. -/
def proj (p : Fin 512) (c : Fin 4096) : EReal := ∑ j : Fin 1024, x0 (ix2 p j) * x1 (ix2 j c)

/-- The queries of the run `g` of 256 columns, at row `p`. -/
def qrow (g : Fin 16) (p : Fin 512) : Fin 256 → EReal :=
  rot (nrm (fun k => proj x0 x1 p (col g k)) (fun k l => x5 (ix2 k l)) (fun k => x3 (ix2 0 k) * qs)) (fun k => x6 (ix2 p k)) (fun k => x7 (ix2 p k))

/-- The keys at row `p`. -/
def krow (p : Fin 512) : Fin 256 → EReal :=
  rot (nrm (fun k => proj x0 x1 p (col 6 k)) (fun k l => x5 (ix2 k l)) (fun k => x4 (ix2 0 k))) (fun k => x6 (ix2 p k)) (fun k => x7 (ix2 p k))

/-- The projection to the run `g` of 256 columns, from the loaded vectors. -/
theorem zvec_apply (w : Vec Ideal S1024x256 .bf16) (g : Fin 16) (hw : ∀ j k, w (ix2 j k) = x1 (ix2 j (col g k))) (p : Fin 512) (k : Fin 256) :
    k0_pay17 (F := Ideal) (k0_pay63 x0 x1 x2 x3 x4 x5 x6 x7) w (ix2 p k) = proj x0 x1 p (col g k) := by
  unfold k0_pay63
  rw [pay17_apply]
  exact Finset.sum_congr rfl fun j _ => congrArg₂ (· * ·) (congrFun (View.ld_unit_zero (S := S512x1024) hz2 _ x0) (ix2 p j)) (hw j k)

/-- The means' matrix, loaded. -/
theorem pay65_apply (k l : Fin 256) : k0_pay65 (F := Ideal) x0 x1 x2 x3 x4 x5 x6 x7 (ix2 k l) = x5 (ix2 k l) := by
  unfold k0_pay65
  pointwise [k0_pay4]

/-- The cosines, loaded. -/
theorem pay66_apply (p : Fin 512) (k : Fin 256) : k0_pay66 (F := Ideal) x0 x1 x2 x3 x4 x5 x6 x7 (ix2 p k) = x6 (ix2 p k) := by
  unfold k0_pay66
  pointwise [k0_pay5]

/-- The signed sines, loaded. -/
theorem pay67_apply (p : Fin 512) (k : Fin 256) : k0_pay67 (F := Ideal) x0 x1 x2 x3 x4 x5 x6 x7 (ix2 p k) = x7 (ix2 p k) := by
  unfold k0_pay67
  pointwise [k0_pay6]

/-- The queries of the run of columns `w`, from the loaded vectors. -/
def qvec (w : Vec Ideal S1024x256 .bf16) : FVec Ideal S512x256 .bf16 :=
  ropeVec (k0_pay66 x0 x1 x2 x3 x4 x5 x6 x7) (k0_pay67 x0 x1 x2 x3 x4 x5 x6 x7)
    (k0_pay18 (k0_pay65 x0 x1 x2 x3 x4 x5 x6 x7) (k0_pay17 (k0_pay63 x0 x1 x2 x3 x4 x5 x6 x7) w) (View.ld x3 r0_7))

theorem qvec_apply (w : Vec Ideal S1024x256 .bf16) (g : Fin 16) (hw : ∀ j k, w (ix2 j k) = x1 (ix2 j (col g k))) (p : Fin 512) (e : Fin 256) :
    qvec x0 x1 x2 x3 x4 x5 x6 x7 w (ix2 p e) = qrow x0 x1 x3 x5 x6 x7 g p e := by
  unfold qvec
  rw [ropeVec_apply]
  refine rot_congr (fun k => ?_) (fun k => pay66_apply x0 x1 x2 x3 x4 x5 x6 x7 p k) (fun k => pay67_apply x0 x1 x2 x3 x4 x5 x6 x7 p k) e
  rw [pay18_apply]
  exact nrm_congr (fun k => zvec_apply x0 x1 x2 x3 x4 x5 x6 x7 w g hw p k) (fun k l => pay65_apply x0 x1 x2 x3 x4 x5 x6 x7 k l)
    (fun k => congrArg (· * qs) (congrFun (View.ld_unit_zero (S := S1x256) hz2 _ x3) (ix2 0 k))) k

/-- The keys, from the loaded vectors. -/
def kvec : FVec Ideal S512x256 .bf16 :=
  ropeVec (k0_pay66 x0 x1 x2 x3 x4 x5 x6 x7) (k0_pay67 x0 x1 x2 x3 x4 x5 x6 x7)
    (k0_pay43 (k0_pay65 x0 x1 x2 x3 x4 x5 x6 x7) (k0_pay17 (k0_pay63 x0 x1 x2 x3 x4 x5 x6 x7) (View.ld x1 r0_22)) (View.ld x4 r0_7))

theorem kvec_apply (p : Fin 512) (e : Fin 256) : kvec x0 x1 x2 x3 x4 x5 x6 x7 (ix2 p e) = krow x0 x1 x4 x5 x6 x7 p e := by
  unfold kvec
  rw [ropeVec_apply]
  refine rot_congr (fun k => ?_) (fun k => pay66_apply x0 x1 x2 x3 x4 x5 x6 x7 p k) (fun k => pay67_apply x0 x1 x2 x3 x4 x5 x6 x7 p k) e
  rw [pay43_apply]
  exact nrm_congr (fun k => zvec_apply x0 x1 x2 x3 x4 x5 x6 x7 _ 6 (fun j k => ld_cols x1 1536 _ j k _ rfl) p k) (fun k l => pay65_apply x0 x1 x2 x3 x4 x5 x6 x7 k l)
    (fun k => congrFun (View.ld_unit_zero (S := S1x256) hz2 _ x4) (ix2 0 k)) k

/-- The first run of queries. -/
theorem q0_eq : k0_pay12 (F := Ideal) (k0_pay64 x0 x1 x2 x3 x4 x5 x6 x7) (k0_pay66 x0 x1 x2 x3 x4 x5 x6 x7) (k0_pay67 x0 x1 x2 x3 x4 x5 x6 x7) (k0_pay68 x0 x1 x2 x3 x4 x5 x6 x7) (k0_pay70 x0 x1 x2 x3 x4 x5 x6 x7) (k0_pay71 x0 x1 x2 x3 x4 x5 x6 x7)
    (Scalar.ofBits .f32 0x358637BD#32) = qvec x0 x1 x2 x3 x4 x5 x6 x7 (View.ld x1 r0_4) := rfl

/-- The second run of queries. -/
theorem q1_eq : k0_pay21 (F := Ideal) (k0_pay72 x0 x1 x2 x3 x4 x5 x6 x7) (k0_pay73 x0 x1 x2 x3 x4 x5 x6 x7) = qvec x0 x1 x2 x3 x4 x5 x6 x7 (View.ld x1 r0_6) := rfl

/-- The third run of queries. -/
theorem q2_eq : k0_pay29 (F := Ideal) (k0_pay64 x0 x1 x2 x3 x4 x5 x6 x7) (k0_pay66 x0 x1 x2 x3 x4 x5 x6 x7) (k0_pay67 x0 x1 x2 x3 x4 x5 x6 x7) (k0_pay75 x0 x1 x2 x3 x4 x5 x6 x7) (k0_pay76 x0 x1 x2 x3 x4 x5 x6 x7) =
    qvec x0 x1 x2 x3 x4 x5 x6 x7 (View.ld x1 r0_12) := rfl

/-- The fourth run of queries. -/
theorem q3_eq : k0_pay78 (F := Ideal) x0 x1 x2 x3 x4 x5 x6 x7 = qvec x0 x1 x2 x3 x4 x5 x6 x7 (View.ld x1 r0_17) := rfl

/-- A stored head of queries. -/
theorem qhead (w : Vec Ideal S1024x256 .bf16) (g : Fin 16) (hw : ∀ j k, w (ix2 j k) = x1 (ix2 j (col g k))) {s : Nat}
    (hs : S512x256.Slices ![0, s] S512x64) (a b : Fin 1) (p : Fin 512) (d : Fin 64) (e : Fin 256) (he : e.val = s + d.val) (h : Fin 16)
    (hg : h.val / 4 + 2 = g.val) (y : FVec Ideal S512x256 .bf16) (hy : y = qvec x0 x1 x2 x3 x4 x5 x6 x7 w) :
    shapeCast S1x1x512x64 (extractStridedSlice S512x64 ![0, s] y hs) shapeCasts_S512x64_S1x1x512x64 (ix4 a b p d) =
      qrow x0 x1 x3 x5 x6 x7 ⟨h.val / 4 + 2, by omega⟩ p e := by
  subst hy
  rw [head_apply _ hs a b p d e he, qvec_apply x0 x1 x2 x3 x4 x5 x6 x7 w g hw p e]
  exact congrArg (fun g => qrow x0 x1 x3 x5 x6 x7 g p e) (Fin.ext hg.symm)

/-- The block of queries. -/
theorem out9_apply (a : Fin 1) (h : Fin 16) (p : Fin 512) (d : Fin 64) (e : Fin 256) (he : e.val = 64 * (h.val % 4) + d.val) :
    out0_9 (F := Ideal) x0 x1 x2 x3 x4 x5 x6 x7 (ix4 a h p d) = qrow x0 x1 x3 x5 x6 x7 ⟨h.val / 4 + 2, by omega⟩ p e := by
  canon_tiles x h using cover0_9 ..
  all_goals
    obtain ⟨a', b, r, l, rfl⟩ : ∃ a b r l, x = ix4 a b r l := ⟨x 0, x 1, x 2, x 3, eq_ix4 x⟩
    obtain rfl : p = r := Fin.ext h2
    obtain rfl : d = l := Fin.ext h3
    have hs : h.val = _ := h1
    have hb := b.isLt
    simp at hs
  · exact qhead x0 x1 x2 x3 x4 x5 x6 x7 _ 5 (fun j k => ld_cols x1 1280 _ j k _ rfl) slices_S512x256_o0_192_S512x64 a' b p d e (by omega) h (by omega) _ (q3_eq x0 x1 x2 x3 x4 x5 x6 x7)
  · exact qhead x0 x1 x2 x3 x4 x5 x6 x7 _ 5 (fun j k => ld_cols x1 1280 _ j k _ rfl) slices_S512x256_o0_128_S512x64 a' b p d e (by omega) h (by omega) _ (q3_eq x0 x1 x2 x3 x4 x5 x6 x7)
  · exact qhead x0 x1 x2 x3 x4 x5 x6 x7 _ 5 (fun j k => ld_cols x1 1280 _ j k _ rfl) slices_S512x256_o0_64_S512x64 a' b p d e (by omega) h (by omega) _ (q3_eq x0 x1 x2 x3 x4 x5 x6 x7)
  · exact qhead x0 x1 x2 x3 x4 x5 x6 x7 _ 5 (fun j k => ld_cols x1 1280 _ j k _ rfl) slices_S512x256_o0_0_S512x64 a' b p d e (by omega) h (by omega) _ (q3_eq x0 x1 x2 x3 x4 x5 x6 x7)
  · exact qhead x0 x1 x2 x3 x4 x5 x6 x7 _ 4 (fun j k => ld_cols x1 1024 _ j k _ rfl) slices_S512x256_o0_192_S512x64 a' b p d e (by omega) h (by omega) _ (q2_eq x0 x1 x2 x3 x4 x5 x6 x7)
  · exact qhead x0 x1 x2 x3 x4 x5 x6 x7 _ 4 (fun j k => ld_cols x1 1024 _ j k _ rfl) slices_S512x256_o0_128_S512x64 a' b p d e (by omega) h (by omega) _ (q2_eq x0 x1 x2 x3 x4 x5 x6 x7)
  · exact qhead x0 x1 x2 x3 x4 x5 x6 x7 _ 4 (fun j k => ld_cols x1 1024 _ j k _ rfl) slices_S512x256_o0_64_S512x64 a' b p d e (by omega) h (by omega) _ (q2_eq x0 x1 x2 x3 x4 x5 x6 x7)
  · exact qhead x0 x1 x2 x3 x4 x5 x6 x7 _ 4 (fun j k => ld_cols x1 1024 _ j k _ rfl) slices_S512x256_o0_0_S512x64 a' b p d e (by omega) h (by omega) _ (q2_eq x0 x1 x2 x3 x4 x5 x6 x7)
  · exact qhead x0 x1 x2 x3 x4 x5 x6 x7 _ 3 (fun j k => ld_cols x1 768 _ j k _ rfl) slices_S512x256_o0_192_S512x64 a' b p d e (by omega) h (by omega) _ (q1_eq x0 x1 x2 x3 x4 x5 x6 x7)
  · exact qhead x0 x1 x2 x3 x4 x5 x6 x7 _ 3 (fun j k => ld_cols x1 768 _ j k _ rfl) slices_S512x256_o0_128_S512x64 a' b p d e (by omega) h (by omega) _ (q1_eq x0 x1 x2 x3 x4 x5 x6 x7)
  · exact qhead x0 x1 x2 x3 x4 x5 x6 x7 _ 3 (fun j k => ld_cols x1 768 _ j k _ rfl) slices_S512x256_o0_64_S512x64 a' b p d e (by omega) h (by omega) _ (q1_eq x0 x1 x2 x3 x4 x5 x6 x7)
  · exact qhead x0 x1 x2 x3 x4 x5 x6 x7 _ 3 (fun j k => ld_cols x1 768 _ j k _ rfl) slices_S512x256_o0_0_S512x64 a' b p d e (by omega) h (by omega) _ (q1_eq x0 x1 x2 x3 x4 x5 x6 x7)
  · exact qhead x0 x1 x2 x3 x4 x5 x6 x7 _ 2 (fun j k => ld_cols x1 512 _ j k _ rfl) slices_S512x256_o0_192_S512x64 a' b p d e (by omega) h (by omega) _ (q0_eq x0 x1 x2 x3 x4 x5 x6 x7)
  · exact qhead x0 x1 x2 x3 x4 x5 x6 x7 _ 2 (fun j k => ld_cols x1 512 _ j k _ rfl) slices_S512x256_o0_128_S512x64 a' b p d e (by omega) h (by omega) _ (q0_eq x0 x1 x2 x3 x4 x5 x6 x7)
  · exact qhead x0 x1 x2 x3 x4 x5 x6 x7 _ 2 (fun j k => ld_cols x1 512 _ j k _ rfl) slices_S512x256_o0_64_S512x64 a' b p d e (by omega) h (by omega) _ (q0_eq x0 x1 x2 x3 x4 x5 x6 x7)
  · exact qhead x0 x1 x2 x3 x4 x5 x6 x7 _ 2 (fun j k => ld_cols x1 512 _ j k _ rfl) slices_S512x256_o0_0_S512x64 a' b p d e (by omega) h (by omega) _ (q0_eq x0 x1 x2 x3 x4 x5 x6 x7)

/-- A stored head of keys. -/
theorem khead {s : Nat} (hs : S512x256.Slices ![0, s] S512x64) (a b : Fin 1) (p : Fin 512) (d : Fin 64) (e : Fin 256) (he : e.val = s + d.val) :
    shapeCast S1x1x512x64 (extractStridedSlice S512x64 ![0, s] (kvec x0 x1 x2 x3 x4 x5 x6 x7) hs) shapeCasts_S512x64_S1x1x512x64 (ix4 a b p d) =
      krow x0 x1 x4 x5 x6 x7 p e := by
  rw [head_apply _ hs a b p d e he, kvec_apply x0 x1 x2 x3 x4 x5 x6 x7 p e]

/-- The block of keys. -/
theorem out10_apply (a : Fin 1) (h : Fin 4) (p : Fin 512) (d : Fin 64) (e : Fin 256) (he : e.val = 64 * h.val + d.val) :
    out0_10 (F := Ideal) x0 x1 x2 x3 x4 x5 x6 x7 (ix4 a h p d) = krow x0 x1 x4 x5 x6 x7 p e := by
  canon_tiles x h using cover0_10 ..
  all_goals
    obtain ⟨a', b, r, l, rfl⟩ : ∃ a b r l, x = ix4 a b r l := ⟨x 0, x 1, x 2, x 3, eq_ix4 x⟩
    obtain rfl : p = r := Fin.ext h2
    obtain rfl : d = l := Fin.ext h3
    have hs : h.val = _ := h1
    have hb := b.isLt
    simp at hs
  · exact khead x0 x1 x2 x3 x4 x5 x6 x7 slices_S512x256_o0_192_S512x64 a' b p d e (by omega)
  · exact khead x0 x1 x2 x3 x4 x5 x6 x7 slices_S512x256_o0_128_S512x64 a' b p d e (by omega)
  · exact khead x0 x1 x2 x3 x4 x5 x6 x7 slices_S512x256_o0_64_S512x64 a' b p d e (by omega)
  · exact khead x0 x1 x2 x3 x4 x5 x6 x7 slices_S512x256_o0_0_S512x64 a' b p d e (by omega)

/-- The block of values, transposed. -/
theorem out11_apply (a : Fin 1) (h : Fin 4) (p : Fin 512) (d : Fin 64) (e : Fin 256) (he : e.val = 64 * h.val + d.val) :
    out0_11 (F := Ideal) x0 x1 x2 x3 x4 x5 x6 x7 (ix4 a h d p) = proj x0 x1 p (col 7 e) := by
  have key := zvec_apply x0 x1 x2 x3 x4 x5 x6 x7 (View.ld x1 r0_27) 7 (fun j k => ld_cols x1 1792 _ j k _ rfl) p e
  canon_tiles x h using cover0_11 ..
  all_goals
    obtain ⟨a', b, l, r, rfl⟩ : ∃ a b l r, x = ix4 a b l r := ⟨x 0, x 1, x 2, x 3, eq_ix4 x⟩
    obtain rfl : d = l := Fin.ext h2
    obtain rfl : p = r := Fin.ext h3
    have hs : h.val = _ := h1
    have hb := b.isLt
    simp at hs
  · exact (vhead_apply _ slices_S256x512_o192_0_S64x512 a' b p d e (by omega)).trans key
  · exact (vhead_apply _ slices_S256x512_o128_0_S64x512 a' b p d e (by omega)).trans key
  · exact (vhead_apply _ slices_S256x512_o64_0_S64x512 a' b p d e (by omega)).trans key
  · exact (vhead_apply _ slices_S256x512_o0_0_S64x512 a' b p d e (by omega)).trans key

/-- The block of the first 512 columns. -/
theorem out8_apply (p : Fin 512) (e : Fin 512) : out0_8 (F := Ideal) x0 x1 x2 x3 x4 x5 x6 x7 (ix2 p e) = proj x0 x1 p ⟨e.val, by omega⟩ := by
  canon_tiles x h using cover0_8 ..
  obtain ⟨r, d, rfl⟩ : ∃ r d, x = ix2 r d := ⟨x 0, x 1, eq_ix2 x⟩
  obtain rfl : p = r := Fin.ext h0
  obtain rfl : e = d := Fin.ext h1
  rw [pay8_apply]
  exact Finset.sum_congr rfl fun j _ => congrArg₂ (· * ·) (congrFun (View.ld_unit_zero (S := S512x1024) hz2 _ x0) (ix2 p j))
    (ld_cols x1 0 _ j e _ (by simp))

/-- The gate of row `p` at column `e`. -/
def gate (p : Fin 512) (e : Fin 2048) : EReal :=
  Ideal.div 1 (1 + Ideal.exp (0 - (proj x0 x1 p ⟨2048 + e.val, by omega⟩ + x2 (ix2 0 e))))

/-- A stored run of gates. -/
theorem gates (w : Vec Ideal S1024x512 .bf16) (b : Vec Ideal S1x512 .f32) (p : Fin 512) (d : Fin 512) (e : Fin 2048)
    (hw : ∀ j, w (ix2 j d) = x1 (ix2 j ⟨2048 + e.val, by omega⟩)) (hb : b (ix2 0 d) = x2 (ix2 0 e)) :
    k0_pay62 (F := Ideal) (k0_pay63 x0 x1 x2 x3 x4 x5 x6 x7) w b (ix2 p d) = gate x0 x1 x2 p e := by
  unfold k0_pay63
  rw [pay62_apply, hb]
  exact congrArg (fun s => Ideal.div 1 (1 + Ideal.exp (0 - (s + x2 (ix2 0 e))))) (Finset.sum_congr rfl fun j _ =>
    congrArg₂ (· * ·) (congrFun (View.ld_unit_zero (S := S512x1024) hz2 _ x0) (ix2 p j)) (hw j))

/-- The block of gates. -/
theorem out12_apply (p : Fin 512) (e : Fin 2048) : out0_12 (F := Ideal) x0 x1 x2 x3 x4 x5 x6 x7 (ix2 p e) = gate x0 x1 x2 p e := by
  canon_tiles x h using cover0_12 ..
  all_goals
    obtain ⟨r, d, rfl⟩ : ∃ r d, x = ix2 r d := ⟨x 0, x 1, eq_ix2 x⟩
    obtain rfl : p = r := Fin.ext h0
    have hs : e.val = _ := h1
    simp at hs
  · exact gates x0 x1 x2 x3 x4 x5 x6 x7 _ _ p d e (fun j => ld_cols x1 3584 _ j d _ (by show 2048 + e.val = 3584 + d.val; omega)) (ld_cols x2 1536 _ 0 d _ (by omega))
  · exact gates x0 x1 x2 x3 x4 x5 x6 x7 _ _ p d e (fun j => ld_cols x1 3072 _ j d _ (by show 2048 + e.val = 3072 + d.val; omega)) (ld_cols x2 1024 _ 0 d _ (by omega))
  · exact gates x0 x1 x2 x3 x4 x5 x6 x7 _ _ p d e (fun j => ld_cols x1 2560 _ j d _ (by show 2048 + e.val = 2560 + d.val; omega)) (ld_cols x2 512 _ 0 d _ (by omega))
  · exact gates x0 x1 x2 x3 x4 x5 x6 x7 _ _ p d e (fun j => ld_cols x1 2048 _ j d _ (by show 2048 + e.val = 2048 + d.val; omega)) (ld_cols x2 0 _ 0 d _ (by omega))

end Outs

end Cert.Kernel3Ideal.Block
-- ==== Proof.InprojHost.lean ====
module

public import proofs.«01_k».proof.Proof.InprojBlock

@[expose] public section

set_option maxRecDepth 16384

/-! What the region of the input projection finds in its inputs. -/

noncomputable section

open Idealize.ShloMosaic Idealize.ShloMosaic.TcCoe Idealize.SL.Sem

namespace Cert.Kernel3Ideal.Whole

open Cert.Kernel3Ideal Cert.Kernel3Ideal.Gen

/-- A natural number as a value. -/
abbrev int (n : Nat) : EReal := FloatOps.sitofp (F := Ideal) .f32 (BitVec.ofNat 32 n)

/-- The angle of frequency `j` at coordinate `n`. -/
def ang (n j : Nat) : EReal := int n * Ideal.pow (Ideal.ofBits .f32 0x461C4000#32) (Ideal.div (-(int j)) (Ideal.ofBits .f32 0x41800000#32))

/-- The coordinate of token `s` that the run of 32 columns holding column `d` turns by: the row at even runs, the column at odd ones. -/
def coord (s d : Nat) : Nat := if d / 32 % 2 = 0 then s / 64 else s % 64

/-- The bit of weight 1, read. -/
theorem even_bit : ∀ l : Fin 8, IntOp.cmpi CmpIPredicate.eq (IntOp.andi (BitVec.ofNat 32 l.val) 1#32) 0#32 = if l.val % 2 = 0 then 1#1 else 0#1 := by
  decide +kernel

/-- The run of columns, read. -/
theorem run_eq : ∀ k l : Fin 4, IntOp.cmpi CmpIPredicate.eq (BitVec.ofNat 32 k.val) (BitVec.ofNat 32 l.val) = if k.val = l.val then 1#1 else 0#1 := by
  decide +kernel

/-- A number below 2, compared with 0. -/
theorem zero_bit : ∀ l : Fin 2, IntOp.cmpi CmpIPredicate.eq (BitVec.ofNat 32 l.val) 0#32 = if l.val = 0 then 1#1 else 0#1 := by
  decide +kernel

/-- The choice between the two coordinates, made. -/
theorem coord_select (s : Fin 2048) (d : Fin 256) :
    Scalar.select (IntOp.cmpi CmpIPredicate.eq (IntOp.andi (BitVec.ofNat 32 (d.val / 32)) 1#32) 0#32)
      (BitVec.ofNat 32 (s.val / 64)) (BitVec.ofNat 32 (s.val % 64)) = BitVec.ofNat 32 (coord s.val d.val) := by
  rw [even_bit ⟨d.val / 32, by omega⟩]
  unfold coord
  dsimp only
  split <;> rfl

variable (m : (ℓ : Loc nD τ sig) → Buf (Elt Ideal) ℓ)

/-- The rows as the region finds them. -/
theorem V_v0 (c : Dev nD) (i : Fin 32768) (d : Fin 1024) : V m c main_v0 (ix2 i d) =
    m ((c : Thread nD τ).loc main_arg0) (ix3 ⟨i.val / 2048, by omega⟩ ⟨i.val % 2048, by omega⟩ d) := by
  unfold V
  simp only [hostOps0, hostOps0_1, hostOps0_2, hostOps0_3, hostOps0_4, hostOps0_5, hostOps0_6, List.flatten_cons, List.flatten_nil,
    List.append_nil, List.cons_append, List.nil_append]
  after_results
  pointwise []

/-- The matrix as the region finds it. -/
theorem V_v45 (c : Dev nD) : V m c main_v45 = m ((c : Thread nD τ).loc main_arg1) := by
  unfold V
  simp only [hostOps0, hostOps0_1, hostOps0_2, hostOps0_3, hostOps0_4, hostOps0_5, hostOps0_6, List.flatten_cons, List.flatten_nil,
    List.append_nil, List.cons_append, List.nil_append]
  after_results
  rfl

/-- The gates' bias as the region finds it. -/
theorem V_v46 (c : Dev nD) (e : Fin 2048) : V m c main_v46 (ix2 0 e) = m ((c : Thread nD τ).loc main_arg2) (ix1 e) := by
  unfold V
  simp only [hostOps0, hostOps0_1, hostOps0_2, hostOps0_3, hostOps0_4, hostOps0_5, hostOps0_6, List.flatten_cons, List.flatten_nil,
    List.append_nil, List.cons_append, List.nil_append]
  after_results
  pointwise []

/-- The queries' factors as the region finds them. -/
theorem V_v40 (c : Dev nD) (d : Fin 256) : V m c main_v40 (ix2 0 d) = m ((c : Thread nD τ).loc main_arg3) (ix1 ⟨d.val % 64, by omega⟩) := by
  unfold V
  simp only [hostOps0, hostOps0_1, hostOps0_2, hostOps0_3, hostOps0_4, hostOps0_5, hostOps0_6, List.flatten_cons, List.flatten_nil,
    List.append_nil, List.cons_append, List.nil_append]
  after_results
  pointwise []

/-- The keys' factors as the region finds them. -/
theorem V_v44 (c : Dev nD) (d : Fin 256) : V m c main_v44 (ix2 0 d) = m ((c : Thread nD τ).loc main_arg4) (ix1 ⟨d.val % 64, by omega⟩) := by
  unfold V
  simp only [hostOps0, hostOps0_1, hostOps0_2, hostOps0_3, hostOps0_4, hostOps0_5, hostOps0_6, List.flatten_cons, List.flatten_nil,
    List.append_nil, List.cons_append, List.nil_append]
  after_results
  pointwise []

/-- The means' matrix as the region finds it. -/
theorem V_v36 (c : Dev nD) (k l : Fin 256) : V m c main_v36 (ix2 k l) = (if k.val / 64 = l.val / 64 then Ideal.ofBits .f32 0x3C800000#32 else 0 : EReal) := by
  unfold V
  simp only [hostOps0, hostOps0_1, hostOps0_2, hostOps0_3, hostOps0_4, hostOps0_5, hostOps0_6, List.flatten_cons, List.flatten_nil,
    List.append_nil, List.cons_append, List.nil_append]
  after_results
  simp only [StableHlo.TRef.toBuf, StableHlo.TRef.ofBuf]
  pointwise []
  show Scalar.select (IntOp.cmpi CmpIPredicate.eq (BitVec.ofNat 32 (k.val / 64)) (BitVec.ofNat 32 (l.val / 64))) (Ideal.ofBits .f32 0x3C800000#32)
    (Ideal.ofBits .f32 0x00000000#32) = _
  rw [run_eq ⟨k.val / 64, by omega⟩ ⟨l.val / 64, by omega⟩, Ideal.ofBits_zero_f32]
  dsimp only
  split <;> rfl

/-- The cosines as the region finds them. -/
theorem V_v26 (c : Dev nD) (s : Fin 2048) (d : Fin 256) : V m c main_v26 (ix2 s d) = Ideal.cos (ang (coord s.val d.val) (d.val % 16)) := by
  unfold V
  simp only [hostOps0, hostOps0_1, hostOps0_2, hostOps0_3, hostOps0_4, hostOps0_5, hostOps0_6, List.flatten_cons, List.flatten_nil,
    List.append_nil, List.cons_append, List.nil_append]
  after_results
  simp only [StableHlo.TRef.toBuf, StableHlo.TRef.ofBuf]
  pointwise []
  show Ideal.cos (FloatOps.sitofp (F := Ideal) .f32 (Scalar.select (IntOp.cmpi CmpIPredicate.eq (IntOp.andi (BitVec.ofNat 32 (d.val / 32)) 1#32) 0#32)
    (BitVec.ofNat 32 (s.val / 64)) (BitVec.ofNat 32 (s.val % 64))) * _) = _
  rw [coord_select]
  rfl

/-- The signed sines as the region finds them. -/
theorem V_v27 (c : Dev nD) (s : Fin 2048) (d : Fin 256) : V m c main_v27 (ix2 s d) =
    Ideal.sin (ang (coord s.val d.val) (d.val % 16)) * (if d.val / 16 % 2 = 0 then Ideal.ofBits .f32 0xBF800000#32 else 1 : EReal) := by
  unfold V
  simp only [hostOps0, hostOps0_1, hostOps0_2, hostOps0_3, hostOps0_4, hostOps0_5, hostOps0_6, List.flatten_cons, List.flatten_nil,
    List.append_nil, List.cons_append, List.nil_append]
  after_results
  simp only [StableHlo.TRef.toBuf, StableHlo.TRef.ofBuf]
  pointwise []
  show Ideal.sin (FloatOps.sitofp (F := Ideal) .f32 (Scalar.select (IntOp.cmpi CmpIPredicate.eq (IntOp.andi (BitVec.ofNat 32 (d.val / 32)) 1#32) 0#32)
    (BitVec.ofNat 32 (s.val / 64)) (BitVec.ofNat 32 (s.val % 64))) * _) *
    Scalar.select (IntOp.cmpi CmpIPredicate.eq (BitVec.ofNat 32 (d.val / 16 % 2)) 0#32) (Ideal.ofBits .f32 0xBF800000#32) (Ideal.ofBits .f32 0x3F800000#32) = _
  rw [coord_select, zero_bit ⟨d.val / 16 % 2, by omega⟩]
  refine congrArg (Ideal.sin (ang (coord s.val d.val) (d.val % 16)) * ·) ?_
  dsimp only
  split
  · rfl
  · exact Ideal.ofBits_one_f32

end Cert.Kernel3Ideal.Whole

end
-- ==== Proof.Inproj.lean ====
module

public import proofs.«01_k».proof.Proof.InprojHost

@[expose] public section

set_option maxRecDepth 16384

/-! The input projection over the whole grid. -/

noncomputable section

open Idealize.ShloMosaic Idealize.ShloMosaic.TcCoe Idealize.SL.Sem
open Idealize.ShloMosaic.Pipeline (Dat)

namespace Cert.Kernel3Ideal.Whole

open Cert.Kernel3Ideal Cert.Kernel3Ideal.Gen

/-- The means' matrix: the mean over the run of 64 columns. -/
def mean (k l : Fin 256) : EReal := if k.val / 64 = l.val / 64 then Ideal.ofBits .f32 0x3C800000#32 else 0

/-- The cosine of token `s` at column `k`. -/
def co (s : Fin 2048) (k : Fin 256) : EReal := Ideal.cos (ang (coord s.val k.val) (k.val % 16))

/-- The signed sine of token `s` at column `k`. -/
def si (s : Fin 2048) (k : Fin 256) : EReal :=
  Ideal.sin (ang (coord s.val k.val) (k.val % 16)) * (if k.val / 16 % 2 = 0 then Ideal.ofBits .f32 0xBF800000#32 else 1 : EReal)

section Targets

variable (x : Vec Ideal S16x2048x1024 .f32) (w : Vec Ideal S1024x4096 .f32) (bg : Vec Ideal S2048 .f32) (qg kg : Vec Ideal S64 .f32)

/-- The projection of token `s` of image `b` to column `e`. -/
def tproj (b : Fin 16) (s : Fin 2048) (e : Fin 4096) : EReal := ∑ j : Fin 1024, x (ix3 b s j) * w (ix2 j e)

/-- A query. -/
def tq (b h : Fin 16) (s : Fin 2048) (d : Fin 64) : EReal :=
  Block.rot (Block.nrm (fun k => tproj x w b s (Block.col ⟨h.val / 4 + 2, by omega⟩ k)) mean (fun k => qg (ix1 ⟨k.val % 64, by omega⟩) * Block.qs))
    (co s) (si s) ⟨64 * (h.val % 4) + d.val, by omega⟩

/-- A key. -/
def tk (b : Fin 16) (h : Fin 4) (s : Fin 2048) (d : Fin 64) : EReal :=
  Block.rot (Block.nrm (fun k => tproj x w b s (Block.col 6 k)) mean (fun k => kg (ix1 ⟨k.val % 64, by omega⟩)))
    (co s) (si s) ⟨64 * h.val + d.val, by omega⟩

/-- A gate. -/
def tgate (b : Fin 16) (s : Fin 2048) (e : Fin 2048) : EReal :=
  Ideal.div 1 (1 + Ideal.exp (0 - (tproj x w b s ⟨2048 + e.val, by omega⟩ + bg (ix1 e))))

end Targets

/-- The blocks of rows and of the tables at grid point `t`. -/
theorem index_rows : ∀ t : Fin cfg0.N,
    (win0_0.index t 0 = t.val ∧ win0_0.index t 1 = 0) ∧ (win0_6.index t 0 = t.val % 4 ∧ win0_6.index t 1 = 0)
    ∧ (win0_7.index t 0 = t.val % 4 ∧ win0_7.index t 1 = 0) :=
  (by decide +kernel : ∀ t : Fin grid0.N,
    (win0_0.index t 0 = t.val ∧ win0_0.index t 1 = 0) ∧ (win0_6.index t 0 = t.val % 4 ∧ win0_6.index t 1 = 0)
    ∧ (win0_7.index t 0 = t.val % 4 ∧ win0_7.index t 1 = 0))

/-- The matrices and the vectors are whole blocks. -/
theorem index_const : ∀ t : Fin cfg0.N,
    (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) :=
  (by decide +kernel : ∀ t : Fin grid0.N,
    (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0))

/-- The results' blocks at grid point `t`. -/
theorem index_out : ∀ t : Fin cfg0.N,
    (win0_8.index t 0 = t.val ∧ win0_8.index t 1 = 0) ∧ (win0_12.index t 0 = t.val ∧ win0_12.index t 1 = 0)
    ∧ (win0_9.index t 0 = t.val / 4 ∧ win0_9.index t 1 = 0 ∧ win0_9.index t 2 = t.val % 4 ∧ win0_9.index t 3 = 0)
    ∧ (win0_10.index t 0 = t.val / 4 ∧ win0_10.index t 1 = 0 ∧ win0_10.index t 2 = t.val % 4 ∧ win0_10.index t 3 = 0)
    ∧ (win0_11.index t 0 = t.val / 4 ∧ win0_11.index t 1 = 0 ∧ win0_11.index t 2 = 0 ∧ win0_11.index t 3 = t.val % 4) :=
  (by decide +kernel : ∀ t : Fin grid0.N,
    (win0_8.index t 0 = t.val ∧ win0_8.index t 1 = 0) ∧ (win0_12.index t 0 = t.val ∧ win0_12.index t 1 = 0)
    ∧ (win0_9.index t 0 = t.val / 4 ∧ win0_9.index t 1 = 0 ∧ win0_9.index t 2 = t.val % 4 ∧ win0_9.index t 3 = 0)
    ∧ (win0_10.index t 0 = t.val / 4 ∧ win0_10.index t 1 = 0 ∧ win0_10.index t 2 = t.val % 4 ∧ win0_10.index t 3 = 0)
    ∧ (win0_11.index t 0 = t.val / 4 ∧ win0_11.index t 1 = 0 ∧ win0_11.index t 2 = 0 ∧ win0_11.index t 3 = t.val % 4))

variable (m : (ℓ : Loc nD τ sig) → Buf (Elt Ideal) ℓ) (c : Dev nD) (t : Fin cfg0.N)

/-- The rows at grid point `t`. -/
theorem blk0 (r : Fin 512) (d : Fin 1024) (b : Fin 16) (s : Fin 2048) (hi : 2048 * b.val + s.val = 512 * t.val + r.val) :
    iblk m c 0 t (ix2 r d) = m ((c : Thread nD τ).loc main_arg0) (ix3 b s d) := by
  have hb := b.isLt
  have hs := s.isLt
  refine Eq.trans (congrArg (V m c main_v0) (funext fun a => Fin.ext ?_)) ((V_v0 m c ⟨2048 * b.val + s.val, by omega⟩ d).trans ?_)
  · obtain ⟨⟨e0, e1⟩, -⟩ := index_rows t
    refine (win0_0.rect_emb_val t (ix2 r d) a).trans ?_
    match a with
    | 0 => show win0_0.index t 0 * 512 + r.val = 2048 * b.val + s.val; rw [e0]; omega
    | 1 => show win0_0.index t 1 * 1024 + d.val = d.val; rw [e1]; omega
  · refine congrArg (m ((c : Thread nD τ).loc main_arg0)) (funext fun a => ?_)
    match a with
    | 0 => exact Fin.ext (by show (2048 * b.val + s.val) / 2048 = b.val; omega)
    | 1 => exact Fin.ext (by show (2048 * b.val + s.val) % 2048 = s.val; omega)
    | 2 => rfl

/-- The matrix. -/
theorem blk1 (j : Fin 1024) (e : Fin 4096) : iblk m c 1 t (ix2 j e) = m ((c : Thread nD τ).loc main_arg1) (ix2 j e) := by
  refine Eq.trans (congrArg (V m c main_v45) (funext fun a => Fin.ext ?_)) (congrFun (V_v45 m c) (ix2 j e))
  obtain ⟨⟨e0, e1⟩, -⟩ := index_const t
  refine (win0_1.rect_emb_val t (ix2 j e) a).trans ?_
  match a with
  | 0 => show win0_1.index t 0 * 1024 + j.val = j.val; rw [e0]; omega
  | 1 => show win0_1.index t 1 * 4096 + e.val = e.val; rw [e1]; omega

/-- The gates' bias. -/
theorem blk2 (e : Fin 2048) : iblk m c 2 t (ix2 0 e) = m ((c : Thread nD τ).loc main_arg2) (ix1 e) := by
  refine Eq.trans (congrArg (V m c main_v46) (funext fun a => Fin.ext ?_)) (V_v46 m c e)
  obtain ⟨-, ⟨e0, e1⟩, -⟩ := index_const t
  refine (win0_2.rect_emb_val t (ix2 0 e) a).trans ?_
  match a with
  | 0 => show win0_2.index t 0 * 1 + 0 = 0; rw [e0]
  | 1 => show win0_2.index t 1 * 2048 + e.val = e.val; rw [e1]; omega

/-- The queries' factors. -/
theorem blk3 (k : Fin 256) : iblk m c 3 t (ix2 0 k) = m ((c : Thread nD τ).loc main_arg3) (ix1 ⟨k.val % 64, by omega⟩) := by
  refine Eq.trans (congrArg (V m c main_v40) (funext fun a => Fin.ext ?_)) (V_v40 m c k)
  obtain ⟨-, -, ⟨e0, e1⟩, -⟩ := index_const t
  refine (win0_3.rect_emb_val t (ix2 0 k) a).trans ?_
  match a with
  | 0 => show win0_3.index t 0 * 1 + 0 = 0; rw [e0]
  | 1 => show win0_3.index t 1 * 256 + k.val = k.val; rw [e1]; omega

/-- The keys' factors. -/
theorem blk4 (k : Fin 256) : iblk m c 4 t (ix2 0 k) = m ((c : Thread nD τ).loc main_arg4) (ix1 ⟨k.val % 64, by omega⟩) := by
  refine Eq.trans (congrArg (V m c main_v44) (funext fun a => Fin.ext ?_)) (V_v44 m c k)
  obtain ⟨-, -, -, ⟨e0, e1⟩, -⟩ := index_const t
  refine (win0_4.rect_emb_val t (ix2 0 k) a).trans ?_
  match a with
  | 0 => show win0_4.index t 0 * 1 + 0 = 0; rw [e0]
  | 1 => show win0_4.index t 1 * 256 + k.val = k.val; rw [e1]; omega

/-- The means' matrix. -/
theorem blk5 (k l : Fin 256) : iblk m c 5 t (ix2 k l) = mean k l := by
  refine Eq.trans (congrArg (V m c main_v36) (funext fun a => Fin.ext ?_)) (V_v36 m c k l)
  obtain ⟨-, -, -, -, e0, e1⟩ := index_const t
  refine (win0_5.rect_emb_val t (ix2 k l) a).trans ?_
  match a with
  | 0 => show win0_5.index t 0 * 256 + k.val = k.val; rw [e0]; omega
  | 1 => show win0_5.index t 1 * 256 + l.val = l.val; rw [e1]; omega

/-- The cosines at grid point `t`. -/
theorem blk6 (r : Fin 512) (k : Fin 256) (s : Fin 2048) (hs : s.val = 512 * (t.val % 4) + r.val) : iblk m c 6 t (ix2 r k) = co s k := by
  refine Eq.trans (congrArg (V m c main_v26) (funext fun a => Fin.ext ?_)) (V_v26 m c s k)
  obtain ⟨-, ⟨e0, e1⟩, -⟩ := index_rows t
  refine (win0_6.rect_emb_val t (ix2 r k) a).trans ?_
  match a with
  | 0 => show win0_6.index t 0 * 512 + r.val = s.val; rw [e0]; omega
  | 1 => show win0_6.index t 1 * 256 + k.val = k.val; rw [e1]; omega

/-- The signed sines at grid point `t`. -/
theorem blk7 (r : Fin 512) (k : Fin 256) (s : Fin 2048) (hs : s.val = 512 * (t.val % 4) + r.val) : iblk m c 7 t (ix2 r k) = si s k := by
  refine Eq.trans (congrArg (V m c main_v27) (funext fun a => Fin.ext ?_)) (V_v27 m c s k)
  obtain ⟨-, -, e0, e1⟩ := index_rows t
  refine (win0_7.rect_emb_val t (ix2 r k) a).trans ?_
  match a with
  | 0 => show win0_7.index t 0 * 512 + r.val = s.val; rw [e0]; omega
  | 1 => show win0_7.index t 1 * 256 + k.val = k.val; rw [e1]; omega

/-- The projection at grid point `t`. -/
theorem proj_eq (r : Fin 512) (e : Fin 4096) (b : Fin 16) (s : Fin 2048) (hi : 2048 * b.val + s.val = 512 * t.val + r.val) :
    Block.proj (iblk m c 0 t) (iblk m c 1 t) r e = tproj (m ((c : Thread nD τ).loc main_arg0)) (m ((c : Thread nD τ).loc main_arg1)) b s e :=
  Finset.sum_congr rfl fun j _ => congrArg₂ (· * ·) (blk0 m c t r j b s hi) (blk1 m c t j e)

/-- The first result after the whole grid has run. -/
theorem final8 (i : Fin 32768) (e : Fin 512) (b : Fin 16) (s : Fin 2048) (hi : i.val = 2048 * b.val + s.val) :
    (dats m 0 c).arrAt 8 cfg0.N (ix2 i e) = tproj (m ((c : Thread nD τ).loc main_arg0)) (m ((c : Thread nD τ).loc main_arg1)) b s ⟨e.val, by omega⟩ := by
  have hN : cfg0.N = 64 := N_0
  have hlt := i.isLt
  obtain ⟨t, ht⟩ : ∃ t : Fin cfg0.N, t.val = i.val / 512 := ⟨⟨i.val / 512, by omega⟩, rfl⟩
  obtain ⟨r, hr⟩ : ∃ r : Fin 512, r.val = i.val % 512 := ⟨⟨i.val % 512, by omega⟩, rfl⟩
  have hb := congrFun (Cert.Kernel3Ideal.Value.blocks8 m c t (flush0_8 t)) (ix2 r e)
  rw [Cert.Kernel3Ideal.Value.flushed8] at hb
  have hj : ((cfg0.win 8).blk t).view.emb (ix2 r e) = ix2 i e := by
    funext a
    obtain ⟨⟨e0, e1⟩, -⟩ := index_out t
    refine Fin.ext ((win0_8.rect_emb_val t (ix2 r e) a).trans ?_)
    match a with
    | 0 => show win0_8.index t 0 * 512 + r.val = i.val; rw [e0]; omega
    | 1 => show win0_8.index t 1 * 512 + e.val = e.val; rw [e1]; omega
  rw [← hj]
  exact hb.trans ((Block.out8_apply _ _ _ _ _ _ _ _ r e).trans (proj_eq m c t r _ b s (by omega)))

/-- The fifth result after the whole grid has run. -/
theorem final12 (i : Fin 32768) (e : Fin 2048) (b : Fin 16) (s : Fin 2048) (hi : i.val = 2048 * b.val + s.val) :
    (dats m 0 c).arrAt 12 cfg0.N (ix2 i e) = tgate (m ((c : Thread nD τ).loc main_arg0)) (m ((c : Thread nD τ).loc main_arg1)) (m ((c : Thread nD τ).loc main_arg2)) b s e := by
  have hN : cfg0.N = 64 := N_0
  have hlt := i.isLt
  obtain ⟨t, ht⟩ : ∃ t : Fin cfg0.N, t.val = i.val / 512 := ⟨⟨i.val / 512, by omega⟩, rfl⟩
  obtain ⟨r, hr⟩ : ∃ r : Fin 512, r.val = i.val % 512 := ⟨⟨i.val % 512, by omega⟩, rfl⟩
  have hb := congrFun (Cert.Kernel3Ideal.Value.blocks12 m c t (flush0_12 t)) (ix2 r e)
  rw [Cert.Kernel3Ideal.Value.flushed12] at hb
  have hj : ((cfg0.win 12).blk t).view.emb (ix2 r e) = ix2 i e := by
    funext a
    obtain ⟨-, ⟨e0, e1⟩, -⟩ := index_out t
    refine Fin.ext ((win0_12.rect_emb_val t (ix2 r e) a).trans ?_)
    match a with
    | 0 => show win0_12.index t 0 * 512 + r.val = i.val; rw [e0]; omega
    | 1 => show win0_12.index t 1 * 2048 + e.val = e.val; rw [e1]; omega
  rw [← hj]
  refine hb.trans ((Block.out12_apply _ _ _ _ _ _ _ _ r e).trans ?_)
  unfold Block.gate tgate
  rw [proj_eq m c t r _ b s (by omega), blk2 m c t e]

/-- The second result after the whole grid has run. -/
theorem final9 (b : Fin 16) (h : Fin 16) (s : Fin 2048) (d : Fin 64) :
    (dats m 0 c).arrAt 9 cfg0.N (ix4 b h s d) = tq (m ((c : Thread nD τ).loc main_arg0)) (m ((c : Thread nD τ).loc main_arg1)) (m ((c : Thread nD τ).loc main_arg3)) b h s d := by
  have hN : cfg0.N = 64 := N_0
  have hlb := b.isLt
  have hls := s.isLt
  obtain ⟨t, ht⟩ : ∃ t : Fin cfg0.N, t.val = 4 * b.val + s.val / 512 := ⟨⟨4 * b.val + s.val / 512, by omega⟩, rfl⟩
  obtain ⟨r, hr⟩ : ∃ r : Fin 512, r.val = s.val % 512 := ⟨⟨s.val % 512, by omega⟩, rfl⟩
  have hb := congrFun (Cert.Kernel3Ideal.Value.blocks9 m c t (flush0_9 t)) (ix4 0 h r d)
  rw [Cert.Kernel3Ideal.Value.flushed9] at hb
  have hj : ((cfg0.win 9).blk t).view.emb (ix4 0 h r d) = ix4 b h s d := by
    funext a
    obtain ⟨-, -, ⟨e0, e1, e2, e3⟩, -⟩ := index_out t
    refine Fin.ext ((win0_9.rect_emb_val t (ix4 0 h r d) a).trans ?_)
    match a with
    | 0 => show win0_9.index t 0 * 1 + 0 = b.val; rw [e0]; omega
    | 1 => show win0_9.index t 1 * 16 + h.val = h.val; rw [e1]; omega
    | 2 => show win0_9.index t 2 * 512 + r.val = s.val; rw [e2]; omega
    | 3 => show win0_9.index t 3 * 64 + d.val = d.val; rw [e3]; omega
  rw [← hj]
  refine hb.trans ((Block.out9_apply _ _ _ _ _ _ _ _ 0 h r d ⟨64 * (h.val % 4) + d.val, by omega⟩ rfl).trans ?_)
  exact Block.rot_congr (fun k => Block.nrm_congr (fun k => proj_eq m c t r _ b s (by omega)) (fun k l => blk5 m c t k l)
    (fun k => congrArg (· * Block.qs) (blk3 m c t k)) k) (fun k => blk6 m c t r k s (by omega)) (fun k => blk7 m c t r k s (by omega)) _

/-- The third result after the whole grid has run. -/
theorem final10 (b : Fin 16) (h : Fin 4) (s : Fin 2048) (d : Fin 64) :
    (dats m 0 c).arrAt 10 cfg0.N (ix4 b h s d) = tk (m ((c : Thread nD τ).loc main_arg0)) (m ((c : Thread nD τ).loc main_arg1)) (m ((c : Thread nD τ).loc main_arg4)) b h s d := by
  have hN : cfg0.N = 64 := N_0
  have hlb := b.isLt
  have hls := s.isLt
  obtain ⟨t, ht⟩ : ∃ t : Fin cfg0.N, t.val = 4 * b.val + s.val / 512 := ⟨⟨4 * b.val + s.val / 512, by omega⟩, rfl⟩
  obtain ⟨r, hr⟩ : ∃ r : Fin 512, r.val = s.val % 512 := ⟨⟨s.val % 512, by omega⟩, rfl⟩
  have hb := congrFun (Cert.Kernel3Ideal.Value.blocks10 m c t (flush0_10 t)) (ix4 0 h r d)
  rw [Cert.Kernel3Ideal.Value.flushed10] at hb
  have hj : ((cfg0.win 10).blk t).view.emb (ix4 0 h r d) = ix4 b h s d := by
    funext a
    obtain ⟨-, -, -, ⟨e0, e1, e2, e3⟩, -⟩ := index_out t
    refine Fin.ext ((win0_10.rect_emb_val t (ix4 0 h r d) a).trans ?_)
    match a with
    | 0 => show win0_10.index t 0 * 1 + 0 = b.val; rw [e0]; omega
    | 1 => show win0_10.index t 1 * 4 + h.val = h.val; rw [e1]; omega
    | 2 => show win0_10.index t 2 * 512 + r.val = s.val; rw [e2]; omega
    | 3 => show win0_10.index t 3 * 64 + d.val = d.val; rw [e3]; omega
  rw [← hj]
  refine hb.trans ((Block.out10_apply _ _ _ _ _ _ _ _ 0 h r d ⟨64 * h.val + d.val, by omega⟩ rfl).trans ?_)
  exact Block.rot_congr (fun k => Block.nrm_congr (fun k => proj_eq m c t r _ b s (by omega)) (fun k l => blk5 m c t k l)
    (fun k => blk4 m c t k) k) (fun k => blk6 m c t r k s (by omega)) (fun k => blk7 m c t r k s (by omega)) _

/-- The fourth result after the whole grid has run. -/
theorem final11 (b : Fin 16) (h : Fin 4) (s : Fin 2048) (d : Fin 64) :
    (dats m 0 c).arrAt 11 cfg0.N (ix4 b h d s) = tproj (m ((c : Thread nD τ).loc main_arg0)) (m ((c : Thread nD τ).loc main_arg1)) b s (Block.col 7 ⟨64 * h.val + d.val, by omega⟩) := by
  have hN : cfg0.N = 64 := N_0
  have hlb := b.isLt
  have hls := s.isLt
  obtain ⟨t, ht⟩ : ∃ t : Fin cfg0.N, t.val = 4 * b.val + s.val / 512 := ⟨⟨4 * b.val + s.val / 512, by omega⟩, rfl⟩
  obtain ⟨r, hr⟩ : ∃ r : Fin 512, r.val = s.val % 512 := ⟨⟨s.val % 512, by omega⟩, rfl⟩
  have hb := congrFun (Cert.Kernel3Ideal.Value.blocks11 m c t (flush0_11 t)) (ix4 0 h d r)
  rw [Cert.Kernel3Ideal.Value.flushed11] at hb
  have hj : ((cfg0.win 11).blk t).view.emb (ix4 0 h d r) = ix4 b h d s := by
    funext a
    obtain ⟨-, -, -, -, e0, e1, e2, e3⟩ := index_out t
    refine Fin.ext ((win0_11.rect_emb_val t (ix4 0 h d r) a).trans ?_)
    match a with
    | 0 => show win0_11.index t 0 * 1 + 0 = b.val; rw [e0]; omega
    | 1 => show win0_11.index t 1 * 4 + h.val = h.val; rw [e1]; omega
    | 2 => show win0_11.index t 2 * 64 + d.val = d.val; rw [e2]; omega
    | 3 => show win0_11.index t 3 * 512 + r.val = s.val; rw [e3]; omega
  rw [← hj]
  exact hb.trans ((Block.out11_apply _ _ _ _ _ _ _ _ 0 h r d ⟨64 * h.val + d.val, by omega⟩ rfl).trans (proj_eq m c t r _ b s (by omega)))

end Cert.Kernel3Ideal.Whole

end
-- ==== Proof.InprojFn.lean ====
module

public import proofs.«01_k».proof.Proof.Inproj
public import proofs.«01_k».proof.Proof.Softmax

@[expose] public section

/-!
  The normalisation and the turn by position of one head of 64 channels, as the reference writes them, and that the
  kernel's forms on 256 columns of four heads are the same numbers.
-/

noncomputable section

open Idealize.ShloMosaic
open Cert.Kernel3Ideal Cert.Kernel3Ideal.Whole Cert.Kernel3Ideal.Block

namespace Cert.Head

/-- A head's channel over the root of the mean square of the head, times a gain. -/
def unit (z g : Fin 64 → EReal) (d : Fin 64) : EReal :=
  z d * Ideal.rsqrt (Ideal.div (0 + ∑ k, z k * z k) (Ideal.ofBits .f32 0x42800000#32) + eps) * g d

/-- A head's channel turned by position: within each half of the head, the first 16 channels are the first coordinates
    of 16 planes and the others the second coordinates. -/
def turn (y : Fin 64 → EReal) (s : Nat) (d : Fin 64) : EReal :=
  if h : d.val / 16 % 2 = 0 then
    y d * Ideal.cos (ang (coord s d.val) (d.val % 16))
      - y ⟨d.val + 16, by omega⟩ * Ideal.sin (ang (coord s d.val) (d.val % 16))
  else
    y d * Ideal.cos (ang (coord s d.val) (d.val % 16))
      + y ⟨d.val - 16, by omega⟩ * Ideal.sin (ang (coord s d.val) (d.val % 16))

/-- The column of channel `d` of head `q` of four. -/
def at4 (q : Fin 4) (d : Fin 64) : Fin 256 := ⟨64 * q.val + d.val, by omega⟩

theorem mean_sum (f : Fin 256 → EReal) (q : Fin 4) (d : Fin 64) :
    ∑ k, f k * mean k (at4 q d) = Ideal.div (0 + ∑ k, f (at4 q k)) (Ideal.ofBits .f32 0x42800000#32) := by
  rw [show Ideal.ofBits .f32 0x42800000#32 = ((64 : ℝ) : EReal) by
    simp [Ideal.ofBits, Ideal.ieee, -EReal.coe_mul]; norm_num]
  have h64 : Ideal.ofBits .f32 0x3C800000#32 = ((1 / 64 : ℝ) : EReal) := by
    simp [Ideal.ofBits, Ideal.ieee, -EReal.coe_mul]; norm_num
  rw [Ideal.div_coe (by norm_num), zero_add, Attn.sum_mul_nonneg _ _ _ (by norm_num)]
  let e : Fin 4 × Fin 64 ≃ Fin 256 := finProdFinEquiv
  have he (a : Fin 4) (k : Fin 64) : e (a, k) = at4 a k :=
    Fin.ext (show k.val + 64 * a.val = 64 * a.val + k.val from Nat.add_comm _ _)
  rw [← e.sum_comp, Fintype.sum_prod_type, Finset.sum_eq_single q]
  · refine Finset.sum_congr rfl fun k _ => ?_
    rw [he]
    unfold mean at4
    rw [if_pos (by dsimp only; omega), h64]
  · intro a _ ha
    refine Finset.sum_eq_zero fun k _ => ?_
    rw [he]
    unfold mean at4
    rw [if_neg (by dsimp only; intro h; exact ha (Fin.ext (by omega))), mul_zero]
  · intro h; exact absurd (Finset.mem_univ q) h

theorem nrm_unit (z g : Fin 256 → EReal) (q : Fin 4) (d : Fin 64) :
    nrm z mean g (at4 q d) = unit (fun k => z (at4 q k)) (fun k => g (at4 q k)) d := by
  unfold nrm unit
  rw [mean_sum (fun k => z k * z k)]

theorem unit_scale (z g : Fin 64 → EReal) (c : EReal) (d : Fin 64) :
    unit z (fun k => g k * c) d = unit z g d * c := by
  unfold unit
  simp only [mul_assoc]

theorem rot_turn (y : Fin 256 → EReal) (s : Fin 2048) (q : Fin 4) (d : Fin 64) :
    rot y (co s) (si s) (at4 q d) = turn (fun k => y (at4 q k)) s.val d := by
  have hc : coord s.val (at4 q d).val = coord s.val d.val := by
    unfold coord at4
    rw [show (64 * q.val + d.val) / 32 % 2 = d.val / 32 % 2 by omega]
  have hj : (at4 q d).val % 16 = d.val % 16 := by unfold at4; dsimp only; omega
  have hp : (at4 q d).val / 16 % 2 = d.val / 16 % 2 := by unfold at4; dsimp only; omega
  unfold rot turn co si
  rw [hc, hj, hp]
  unfold partner
  by_cases h : d.val / 16 % 2 = 0
  · rw [dif_pos (hp.trans h), dif_pos h, if_pos h, show Ideal.ofBits .f32 0xBF800000#32 = ((-1 : ℝ) : EReal) by
      simp [Ideal.ofBits, Ideal.ieee, -EReal.coe_mul]; norm_num, EReal.coe_neg, EReal.coe_one, mul_neg, mul_one, mul_neg, ← sub_eq_add_neg]
    rfl
  · rw [dif_neg (fun h' => h (hp.symm.trans h')), dif_neg h, if_neg h, mul_one]
    congr 2
    congr 1
    exact Fin.ext (by unfold at4; dsimp only; omega)

theorem turn_scale (y : Fin 64 → EReal) (c : ℝ) (hc : 0 ≤ c) (s : Nat) (d : Fin 64) :
    turn (fun k => y k * (c : EReal)) s d = turn y s d * (c : EReal) := by
  have h0 : (0 : EReal) ≤ (c : EReal) := by exact_mod_cast hc
  have key (a b : EReal) : (a + b) * (c : EReal) = a * c + b * c :=
    EReal.right_distrib_of_nonneg_of_ne_top h0 (EReal.coe_ne_top c) a b
  unfold turn
  split
  · rw [sub_eq_add_neg, sub_eq_add_neg, key, neg_mul, mul_right_comm, mul_right_comm (y _) (c : EReal)]
  · rw [key, mul_right_comm, mul_right_comm (y _) (c : EReal)]

theorem qs_eq : qs = (((8 * Real.log 2)⁻¹ : ℝ) : EReal) := rfl

/-- An eighth of a number over the logarithm of two. -/
theorem scale_eq (t : EReal) :
    Ideal.div (t * Ideal.ofBits .f32 0x3E000000#32) (Ideal.log (Ideal.ofBits .f32 0x40000000#32)) = t * qs := by
  rw [show Ideal.ofBits .f32 0x40000000#32 = ((2 : ℝ) : EReal) by
    simp [Ideal.ofBits, Ideal.ieee, -EReal.coe_mul]; norm_num]
  rw [show Ideal.ofBits .f32 0x3E000000#32 = ((1 / 8 : ℝ) : EReal) by
    simp [Ideal.ofBits, Ideal.ieee, -EReal.coe_mul]; norm_num]
  have hl : Real.log 2 ≠ 0 := (Real.log_pos (by norm_num)).ne'
  rw [Ideal.log_coe, if_neg (by norm_num), Ideal.div_coe hl, mul_assoc, ← EReal.coe_mul, qs_eq]
  congr 2
  field_simp

/-- The kernel's query channel. -/
theorem tq_eq (x : Vec Ideal ⟨3, ![16, 2048, 1024]⟩ .f32) (w : Vec Ideal ⟨2, ![1024, 4096]⟩ .f32) (qg : Vec Ideal ⟨1, ![64]⟩ .f32)
    (b : Fin 16) (h : Fin 16) (s : Fin 2048) (d : Fin 64) :
    tq x w qg b h s d = turn (unit (fun k => tproj x w b s ⟨512 + (h.val * 64 + k.val), by omega⟩) (fun k => qg (ix1 k))) s.val d * qs := by
  unfold tq
  have e0 : (⟨64 * (h.val % 4) + d.val, by omega⟩ : Fin 256) = at4 ⟨h.val % 4, by omega⟩ d := rfl
  have hc (k : Fin 64) : col ⟨h.val / 4 + 2, by omega⟩ (at4 ⟨h.val % 4, by omega⟩ k) = ⟨512 + (h.val * 64 + k.val), by omega⟩ :=
    Fin.ext (by unfold col at4; dsimp only; omega)
  have hg (q : Fin 4) (k : Fin 64) : (⟨(at4 q k).val % 64, by omega⟩ : Fin 64) = k := Fin.ext (by unfold at4; dsimp only; omega)
  rw [e0, rot_turn]
  simp only [nrm_unit, hc, hg]
  rw [qs_eq, ← turn_scale _ _ (inv_nonneg.mpr (mul_nonneg (by norm_num) (Real.log_nonneg (by norm_num))))]
  congr 1
  funext k
  exact unit_scale _ _ _ k

/-- The kernel's key channel. -/
theorem tk_eq (x : Vec Ideal ⟨3, ![16, 2048, 1024]⟩ .f32) (w : Vec Ideal ⟨2, ![1024, 4096]⟩ .f32) (kg : Vec Ideal ⟨1, ![64]⟩ .f32)
    (b : Fin 16) (h : Fin 4) (s : Fin 2048) (d : Fin 64) :
    tk x w kg b h s d = turn (unit (fun k => tproj x w b s ⟨1536 + (h.val * 64 + k.val), by omega⟩) (fun k => kg (ix1 k))) s.val d := by
  unfold tk
  have e0 : (⟨64 * h.val + d.val, by omega⟩ : Fin 256) = at4 h d := rfl
  have hc (k : Fin 64) : col 6 (at4 h k) = ⟨1536 + (h.val * 64 + k.val), by omega⟩ :=
    Fin.ext (by unfold col at4; dsimp only; change 256 * 6 + _ = _; omega)
  have hg (q : Fin 4) (k : Fin 64) : (⟨(at4 q k).val % 64, by omega⟩ : Fin 64) = k := Fin.ext (by unfold at4; dsimp only; omega)
  rw [e0, rot_turn]
  simp only [nrm_unit, hc, hg]

end Cert.Head
-- ==== Proof.InprojRef.lean ====
module

public import proofs.«01_k».proof.Proof.InprojFn
public import proofs.«01_k».proof.Proof.Gen.Reference3Ideal.Run
public import proofs.«01_k».proof.Proof.Gen.Reference3Ideal.Read

@[expose] public section

set_option maxRecDepth 16384

/-! The reference of the input projection, read at an index. -/

noncomputable section

open Idealize.ShloMosaic Idealize.ShloMosaic.TcCoe Idealize.SL.Sem

namespace Cert.Reference3Ideal.RefValue

open Cert.Reference3Ideal Cert.Reference3Ideal.Gen Cert.Reference3Ideal.Read

open Cert.Kernel3Ideal.Whole (ang int coord tproj tgate tq tk)
open Cert.Head (unit turn)

variable (x : Vec Ideal S16x2048x1024 .f32) (w : Vec Ideal S1024x4096 .f32) (bg : Vec Ideal S2048 .f32) (qg kg : Vec Ideal S64 .f32)

/-- The angle of token `s` by its row of the image, for the queries. -/
theorem v37_apply (s : Fin 2048) (j : Fin 16) : val_main_v37 (F := Ideal) (ix2 s j) = ang (s.val / 64) j.val := by
  pointwise [val_main_v37, val_main_v36, val_main_v35, val_main_v34, val_main_v33, val_main_v32, val_main_v31, val_main_v30,
    val_main_v29, val_main_v28, val_main_v27, val_main_v26, val_main_v2, val_main_v1, val_main_v0, val_main_cst_2,
    val_main_cst_3]
  rfl

/-- The angle of token `s` by its column of the image, for the queries. -/
theorem v71_apply (s : Fin 2048) (j : Fin 16) : val_main_v71 (F := Ideal) (ix2 s j) = ang (s.val % 64) j.val := by
  pointwise [val_main_v71, val_main_v70, val_main_v69, val_main_v68, val_main_v67, val_main_v66, val_main_v65, val_main_v64,
    val_main_v63, val_main_v62, val_main_v61, val_main_v60, val_main_v6, val_main_v5, val_main_v4, val_main_v3, val_main_cst_4,
    val_main_cst_5]
  rfl

/-- The angle of token `s` by its row of the image, for the keys. -/
theorem v121_apply (s : Fin 2048) (j : Fin 16) : val_main_v121 (F := Ideal) (ix2 s j) = ang (s.val / 64) j.val := by
  pointwise [val_main_v121, val_main_v120, val_main_v119, val_main_v118, val_main_v117, val_main_v116, val_main_v115,
    val_main_v114, val_main_v113, val_main_v112, val_main_v111, val_main_v110, val_main_v2, val_main_v1, val_main_v0,
    val_main_cst_9, val_main_cst_10]
  rfl

/-- The angle of token `s` by its column of the image, for the keys. -/
theorem v155_apply (s : Fin 2048) (j : Fin 16) : val_main_v155 (F := Ideal) (ix2 s j) = ang (s.val % 64) j.val := by
  pointwise [val_main_v155, val_main_v154, val_main_v153, val_main_v152, val_main_v151, val_main_v150, val_main_v149,
    val_main_v148, val_main_v147, val_main_v146, val_main_v145, val_main_v144, val_main_v6, val_main_v5, val_main_v4,
    val_main_v3, val_main_cst_11, val_main_cst_12]
  rfl

/-- One coordinate of a turned half, where the channel and its partner are given by what they are. -/
theorem turn_lo (y : Fin 64 → EReal) (s : Nat) (d p q : Fin 64) (n j : Nat) (hd : d.val / 16 % 2 = 0) (hp : p.val = d.val)
    (hq : q.val = d.val + 16) (hn : n = coord s d.val) (hj : j = d.val % 16) :
    y p * Ideal.cos (ang n j) - y q * Ideal.sin (ang n j) = turn y s d := by
  obtain rfl : p = d := Fin.ext hp
  have hq' : (⟨p.val + 16, by omega⟩ : Fin 64) = q := Fin.ext hq.symm
  subst hn hj
  unfold turn
  rw [dif_pos hd, hq']

/-- The same for the other half of the planes' coordinates. -/
theorem turn_hi (y : Fin 64 → EReal) (s : Nat) (d p q : Fin 64) (n j : Nat) (hd : d.val / 16 % 2 = 1) (hp : p.val = d.val)
    (hq : q.val = d.val - 16) (hn : n = coord s d.val) (hj : j = d.val % 16) :
    y p * Ideal.cos (ang n j) + y q * Ideal.sin (ang n j) = turn y s d := by
  obtain rfl : p = d := Fin.ext hp
  have hq' : (⟨p.val - 16, by omega⟩ : Fin 64) = q := Fin.ext hq.symm
  subst hn hj
  unfold turn
  rw [dif_neg (by omega), hq']

/-- A head turned by position, written as it is put together from its two halves and each half's two quarters. -/
theorem turn_cases (y : Fin 64 → EReal) (s : Nat) (d : Fin 64) :
    (if h : d.val < 32 then
      if h' : d.val < 16 then
        y ⟨d.val, by omega⟩ * Ideal.cos (ang (s / 64) d.val) - y ⟨16 + d.val, by omega⟩ * Ideal.sin (ang (s / 64) d.val)
      else
        y ⟨16 + (d.val - 16), by omega⟩ * Ideal.cos (ang (s / 64) (d.val - 16))
          + y ⟨d.val - 16, by omega⟩ * Ideal.sin (ang (s / 64) (d.val - 16))
    else
      if h' : d.val - 32 < 16 then
        y ⟨32 + (d.val - 32), by omega⟩ * Ideal.cos (ang (s % 64) (d.val - 32))
          - y ⟨32 + (16 + (d.val - 32)), by omega⟩ * Ideal.sin (ang (s % 64) (d.val - 32))
      else
        y ⟨32 + (16 + (d.val - 32 - 16)), by omega⟩ * Ideal.cos (ang (s % 64) (d.val - 32 - 16))
          + y ⟨32 + (d.val - 32 - 16), by omega⟩ * Ideal.sin (ang (s % 64) (d.val - 32 - 16))) = turn y s d := by
  have lo : d.val < 32 → s / 64 = coord s d.val := fun hd => by unfold coord; rw [if_pos (by omega)]
  have hi : ¬ d.val < 32 → s % 64 = coord s d.val := fun hd => by unfold coord; rw [if_neg (by omega)]
  by_cases h32 : d.val < 32
  · rw [dif_pos h32]
    by_cases h16 : d.val < 16
    · rw [dif_pos h16]
      exact turn_lo y s d _ _ _ _ (by omega) rfl
        (Nat.add_comm _ _) (lo h32) (show d.val = d.val % 16 by omega)
    · rw [dif_neg h16]
      exact turn_hi y s d _ _ _ _ (by omega)
        (show 16 + (d.val - 16) = d.val by omega) rfl (lo h32) (show d.val - 16 = d.val % 16 by omega)
  · rw [dif_neg h32]
    by_cases h16 : d.val - 32 < 16
    · rw [dif_pos h16]
      exact turn_lo y s d _ _ _ _ (by omega)
        (show 32 + (d.val - 32) = d.val by omega) (show 32 + (16 + (d.val - 32)) = d.val + 16 by omega) (hi h32)
        (show d.val - 32 = d.val % 16 by omega)
    · rw [dif_neg h16]
      exact turn_hi y s d _ _ _ _ (by omega)
        (show 32 + (16 + (d.val - 32 - 16)) = d.val by omega) (show 32 + (d.val - 32 - 16) = d.val - 16 by omega) (hi h32)
        (show d.val - 32 - 16 = d.val % 16 by omega)

/-- The normalised query. -/
theorem v24_apply (b : Fin 16) (s : Fin 2048) (h : Fin 16) (d : Fin 64) :
    val_main_v24 (F := Ideal) x w qg (ix4 b s h d)
      = unit (fun k => tproj x w b s ⟨512 + (h.val * 64 + k.val), by omega⟩) (fun k => qg (ix1 k)) d := by
  pointwise [val_main_v24, val_main_v23, val_main_v22, val_main_v21, val_main_v20, val_main_v19, val_main_v18, val_main_v17,
    val_main_v16, val_main_v15, val_main_v14, val_main_v13, val_main_v12, val_main_v11, val_main_v10, val_main_v7, val_main_cst, val_main_cst_0, val_main_cst_1]
  unfold unit
  rw [zero_add]
  rfl

/-- The normalised key. -/
theorem v108_apply (b : Fin 16) (s : Fin 2048) (h : Fin 4) (d : Fin 64) :
    val_main_v108 (F := Ideal) x w kg (ix4 b s h d)
      = unit (fun k => tproj x w b s ⟨1536 + (h.val * 64 + k.val), by omega⟩) (fun k => kg (ix1 k)) d := by
  pointwise [val_main_v108, val_main_v107, val_main_v106, val_main_v105, val_main_v104, val_main_v103, val_main_v102,
    val_main_v101, val_main_v100, val_main_v99, val_main_v98, val_main_v97, val_main_v96, val_main_v95, val_main_v94,
    val_main_v7, val_main_cst_6, val_main_cst_7, val_main_cst_8]
  unfold unit
  rw [zero_add]
  rfl

/-- The query turned by position. -/
theorem v93_apply (b : Fin 16) (s : Fin 2048) (h : Fin 16) (d : Fin 64) :
    val_main_v93 (F := Ideal) x w qg (ix4 b s h d) = turn (fun k => val_main_v24 (F := Ideal) x w qg (ix4 b s h k)) s.val d := by
  obtain ⟨y, hy⟩ : ∃ y : Fin 64 → EReal, ∀ k, val_main_v24 (F := Ideal) x w qg (ix4 b s h k) = y k := ⟨_, fun _ => rfl⟩
  pointwise [val_main_v93, val_main_v92, val_main_v91, val_main_v90, val_main_v89, val_main_v88, val_main_v87, val_main_v86,
    val_main_v85, val_main_v84, val_main_v83, val_main_v82, val_main_v81, val_main_v80, val_main_v79, val_main_v78,
    val_main_v77, val_main_v76, val_main_v75, val_main_v74, val_main_v73, val_main_v72, val_main_v59, val_main_v58,
    val_main_v57, val_main_v56, val_main_v55, val_main_v54, val_main_v53, val_main_v52, val_main_v51, val_main_v50,
    val_main_v49, val_main_v48, val_main_v47, val_main_v46, val_main_v45, val_main_v44, val_main_v43, val_main_v42,
    val_main_v41, val_main_v40, val_main_v39, val_main_v38, val_main_v25]
  simp only [hy, v37_apply, v71_apply]
  exact turn_cases y s.val d

/-- The key turned by position. -/
theorem v177_apply (b : Fin 16) (s : Fin 2048) (h : Fin 4) (d : Fin 64) :
    val_main_v177 (F := Ideal) x w kg (ix4 b s h d) = turn (fun k => val_main_v108 (F := Ideal) x w kg (ix4 b s h k)) s.val d := by
  obtain ⟨y, hy⟩ : ∃ y : Fin 64 → EReal, ∀ k, val_main_v108 (F := Ideal) x w kg (ix4 b s h k) = y k := ⟨_, fun _ => rfl⟩
  pointwise [val_main_v177, val_main_v176, val_main_v175, val_main_v174, val_main_v173, val_main_v172, val_main_v171,
    val_main_v170, val_main_v169, val_main_v168, val_main_v167, val_main_v166, val_main_v165, val_main_v164, val_main_v163,
    val_main_v162, val_main_v161, val_main_v160, val_main_v159, val_main_v158, val_main_v157, val_main_v156, val_main_v143,
    val_main_v142, val_main_v141, val_main_v140, val_main_v139, val_main_v138, val_main_v137, val_main_v136, val_main_v135,
    val_main_v134, val_main_v133, val_main_v132, val_main_v131, val_main_v130, val_main_v129, val_main_v128, val_main_v127,
    val_main_v126, val_main_v125, val_main_v124, val_main_v123, val_main_v122, val_main_v109]
  simp only [hy, v121_apply, v155_apply]
  exact turn_cases y s.val d

/-- The first result: the first 512 columns of the projection. -/
theorem v196_apply (i : Fin 32768) (e : Fin 512) (b : Fin 16) (s : Fin 2048) (hi : i.val = 2048 * b.val + s.val) :
    val_main_v196 (F := Ideal) x w (ix2 i e) = tproj x w b s ⟨e.val, by omega⟩ := by
  have hb : (⟨i.val / 2048, by omega⟩ : Fin 16) = b := Fin.ext (by dsimp only; omega)
  have hs : (⟨i.val % 2048, by omega⟩ : Fin 2048) = s := Fin.ext (by dsimp only; omega)
  pointwise [val_main_v196, val_main_v9, val_main_v8, val_main_v7]
  rw [hb, hs]
  rfl

/-- The second result: the queries. -/
theorem v198_apply (b h : Fin 16) (s : Fin 2048) (d : Fin 64) : val_main_v198 (F := Ideal) x w qg (ix4 b h s d) = tq x w qg b h s d := by
  pointwise [val_main_v198, val_main_v197, val_main_v184, val_main_v183, val_main_v182, val_main_v181, val_main_v180,
    val_main_cst_13, val_main_cst_14]
  rw [v93_apply, Cert.Head.tq_eq, ← Cert.Head.scale_eq]
  simp only [v24_apply]

/-- The third result: the keys. -/
theorem v200_apply (b : Fin 16) (h : Fin 4) (s : Fin 2048) (d : Fin 64) : val_main_v200 (F := Ideal) x w kg (ix4 b h s d) = tk x w kg b h s d := by
  pointwise [val_main_v200, val_main_v199]
  rw [v177_apply, Cert.Head.tk_eq]
  simp only [v108_apply]

/-- The fourth result: the values. -/
theorem v202_apply (b : Fin 16) (h : Fin 4) (d : Fin 64) (s : Fin 2048) :
    val_main_v202 (F := Ideal) x w (ix4 b h d s) = tproj x w b s (Cert.Kernel3Ideal.Block.col 7 ⟨64 * h.val + d.val, by omega⟩) := by
  pointwise [val_main_v202, val_main_v201, val_main_v179, val_main_v178, val_main_v7]
  have hc : Cert.Kernel3Ideal.Block.col 7 ⟨64 * h.val + d.val, by omega⟩ = ⟨1792 + (h.val * 64 + d.val), by omega⟩ :=
    Fin.ext (by unfold Cert.Kernel3Ideal.Block.col; change 256 * 7 + (64 * h.val + d.val) = 1792 + (h.val * 64 + d.val); omega)
  rw [hc]
  rfl

/-- The fifth result: the gates. -/
theorem v203_apply (i : Fin 32768) (e : Fin 2048) (b : Fin 16) (s : Fin 2048) (hi : i.val = 2048 * b.val + s.val) :
    val_main_v203 (F := Ideal) x w bg (ix2 i e) = tgate x w bg b s e := by
  have hb : (⟨i.val / 2048, by omega⟩ : Fin 16) = b := Fin.ext (by dsimp only; omega)
  have hs : (⟨i.val % 2048, by omega⟩ : Fin 2048) = s := Fin.ext (by dsimp only; omega)
  pointwise [val_main_v203, val_main_v195, val_main_v194, val_main_v193, val_main_v192, val_main_v191, val_main_v190,
    val_main_v189, val_main_v188, val_main_v187, val_main_v186, val_main_v185, val_main_v7, val_main_cst_15, val_main_cst_16]
  unfold tgate
  rw [hb, hs, zero_sub]
  rfl

end Cert.Reference3Ideal.RefValue
-- ==== Proof.InprojClaims.lean ====
module

public import proofs.«01_k».proof.Defs
public import proofs.«01_k».proof.Proof.InprojRef
public import proofs.«01_k».proof.Proof.Gen.Kernel3Ideal.Value

@[expose] public section

set_option maxRecDepth 16384

/-! The claims about the input projection. -/

noncomputable section

namespace Cert.Proof

open Idealize.ShloMosaic Idealize.SL.Sem Cert

/-- The input projection's reference runs and leaves its arguments as they were; it has no semaphore. -/
theorem frame_reference3 : Cert.quiescent_Reference3Ideal := fun m g _ =>
  (θ_run Cert.Reference3Ideal.defs _ _).mono (fun r h => ⟨fun c => (h c).2.2.2.2.2, sem_eq_zero_of_no_sems (by decide) r.2⟩)
    (Cert.Reference3Ideal.Value.run (F := Ideal) m g)

/-- The input projection's named constant. -/
theorem preserves_inproj : Cert.preserves_Kernel3_Kernel3Ideal := IdealRules.named_const.statement _ _ _ _ _ rfl

/-- A row of all the tokens is a token of an image. -/
theorem row_split (i : Fin 32768) : ∃ (b : Fin 16) (s : Fin 2048), i.val = 2048 * b.val + s.val :=
  ⟨⟨i.val / 2048, by omega⟩, ⟨i.val % 2048, by omega⟩, by dsimp only; omega⟩

/-- The input projection: the kernel's five results are the reference's. -/
theorem algebraic_inproj : Cert.algebraic_Kernel3Ideal_Reference3Ideal := by
  intro m g m' g' _ hagree
  have a0 (c : Dev Cert.Kernel3Ideal.nD) : StableHlo.launchContents m' c (Proc.devRef .tc Cert.Reference3Ideal.main_arg0)
      = m ((c.tc : Thread Cert.Kernel3Ideal.nD Cert.Kernel3Ideal.τ).loc Cert.Kernel3Ideal.main_arg0) := (hagree c).1
  have a1 (c : Dev Cert.Kernel3Ideal.nD) : StableHlo.launchContents m' c (Proc.devRef .tc Cert.Reference3Ideal.main_arg1)
      = m ((c.tc : Thread Cert.Kernel3Ideal.nD Cert.Kernel3Ideal.τ).loc Cert.Kernel3Ideal.main_arg1) := (hagree c).2.1
  have a2 (c : Dev Cert.Kernel3Ideal.nD) : StableHlo.launchContents m' c (Proc.devRef .tc Cert.Reference3Ideal.main_arg2)
      = m ((c.tc : Thread Cert.Kernel3Ideal.nD Cert.Kernel3Ideal.τ).loc Cert.Kernel3Ideal.main_arg2) := (hagree c).2.2.1
  have a3 (c : Dev Cert.Kernel3Ideal.nD) : StableHlo.launchContents m' c (Proc.devRef .tc Cert.Reference3Ideal.main_arg3)
      = m ((c.tc : Thread Cert.Kernel3Ideal.nD Cert.Kernel3Ideal.τ).loc Cert.Kernel3Ideal.main_arg3) := (hagree c).2.2.2.1
  have a4 (c : Dev Cert.Kernel3Ideal.nD) : StableHlo.launchContents m' c (Proc.devRef .tc Cert.Reference3Ideal.main_arg4)
      = m ((c.tc : Thread Cert.Kernel3Ideal.nD Cert.Kernel3Ideal.τ).loc Cert.Kernel3Ideal.main_arg4) := (hagree c).2.2.2.2
  refine ⟨fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N, Cert.Kernel3Ideal.Value.run_blocks m g, ?_⟩
  refine (θ_run Cert.Reference3Ideal.defs _ _).mono (fun r h c => ⟨?_, ?_, ?_, ?_, ?_, (h c).2.2.2.2.2⟩)
    (Cert.Reference3Ideal.Value.run (F := Ideal) m' g')
  · refine (h c).1.trans ?_
    rw [Cert.Reference3Ideal.Read.val_main_v196_eq]
    rw [a0 c, a1 c]
    refine funext fun (j : Cert.Kernel3Ideal.S32768x512.Idx) => ?_
    obtain ⟨i, e, rfl⟩ : ∃ (i : Fin 32768) (e : Fin 512), j = ix2 i e := ⟨j 0, j 1, eq_ix2 j⟩
    obtain ⟨b, s, hi⟩ := row_split i
    exact (Cert.Reference3Ideal.RefValue.v196_apply _ _ i e b s hi).trans (Cert.Kernel3Ideal.Whole.final8 m c i e b s hi).symm
  · refine (h c).2.1.trans ?_
    rw [Cert.Reference3Ideal.Read.val_main_v198_eq]
    rw [a0 c, a1 c, a3 c]
    refine funext fun (j : Cert.Kernel3Ideal.S16x16x2048x64.Idx) => ?_
    obtain ⟨b, h, s, d, rfl⟩ : ∃ (b h : Fin 16) (s : Fin 2048) (d : Fin 64), j = ix4 b h s d := ⟨j 0, j 1, j 2, j 3, eq_ix4 j⟩
    exact (Cert.Reference3Ideal.RefValue.v198_apply _ _ _ b h s d).trans (Cert.Kernel3Ideal.Whole.final9 m c b h s d).symm
  · refine (h c).2.2.1.trans ?_
    rw [Cert.Reference3Ideal.Read.val_main_v200_eq]
    rw [a0 c, a1 c, a4 c]
    refine funext fun (j : Cert.Kernel3Ideal.S16x4x2048x64.Idx) => ?_
    obtain ⟨b, h, s, d, rfl⟩ : ∃ (b : Fin 16) (h : Fin 4) (s : Fin 2048) (d : Fin 64), j = ix4 b h s d := ⟨j 0, j 1, j 2, j 3, eq_ix4 j⟩
    exact (Cert.Reference3Ideal.RefValue.v200_apply _ _ _ b h s d).trans (Cert.Kernel3Ideal.Whole.final10 m c b h s d).symm
  · refine (h c).2.2.2.1.trans ?_
    rw [Cert.Reference3Ideal.Read.val_main_v202_eq]
    rw [a0 c, a1 c]
    refine funext fun (j : Cert.Kernel3Ideal.S16x4x64x2048.Idx) => ?_
    obtain ⟨b, h, d, s, rfl⟩ : ∃ (b : Fin 16) (h : Fin 4) (d : Fin 64) (s : Fin 2048), j = ix4 b h d s := ⟨j 0, j 1, j 2, j 3, eq_ix4 j⟩
    exact (Cert.Reference3Ideal.RefValue.v202_apply _ _ b h d s).trans (Cert.Kernel3Ideal.Whole.final11 m c b h s d).symm
  · refine (h c).2.2.2.2.1.trans ?_
    rw [Cert.Reference3Ideal.Read.val_main_v203_eq]
    rw [a0 c, a1 c, a2 c]
    refine funext fun (j : Cert.Kernel3Ideal.S32768x2048.Idx) => ?_
    obtain ⟨i, e, rfl⟩ : ∃ (i : Fin 32768) (e : Fin 2048), j = ix2 i e := ⟨j 0, j 1, eq_ix2 j⟩
    obtain ⟨b, s, hi⟩ := row_split i
    exact (Cert.Reference3Ideal.RefValue.v203_apply _ _ _ i e b s hi).trans (Cert.Kernel3Ideal.Whole.final12 m c i e b s hi).symm

end Cert.Proof

end
-- ==== Proof.Layer.lean ====
module

public import Idealize.ShloMosaic.PureOps.Ideal
public import Idealize.ShloMosaic.Lib.Pointwise

@[expose] public section

/-!
  The functions of the rest of the layer on extended reals, with no program in sight.
-/

noncomputable section

open Idealize.ShloMosaic

namespace Cert.Layer

/-- The logistic function. -/
def logistic (t : EReal) : EReal := Ideal.div 1 (1 + Ideal.exp (-t))

/-- The factor on the residual, the fourth root of two. -/
def alpha : EReal := ((Real.sqrt (Real.sqrt 2) : ℝ) : EReal)

/-- Zero less a number is its negation. -/
theorem zero_sub_eq (t : EReal) : 0 - t = -t := by rw [sub_eq_add_neg, zero_add]

/-- The square root of a real number that is not negative. -/
theorem sqrt_coe {r : ℝ} (h : 0 ≤ r) : Ideal.sqrt (r : EReal) = ((Real.sqrt r : ℝ) : EReal) := by
  show (if r < 0 then (⊥ : EReal) else _) = _
  rw [if_neg (not_lt.mpr h)]

/-- Two square roots of two, one after the other, are `alpha`. -/
theorem sqrt_sqrt_two : Ideal.sqrt (Ideal.sqrt (Ideal.ofBits .f32 0x40000000#32)) = alpha := by
  rw [show Ideal.ofBits .f32 0x40000000#32 = ((2 : ℝ) : EReal) by
    simp [Ideal.ofBits, Ideal.ieee, -EReal.coe_mul]; norm_num]
  rw [sqrt_coe (by norm_num), sqrt_coe (Real.sqrt_nonneg 2)]
  rfl

/-- One coordinate of the gated feed-forward part: `x` times the two halves of `wi`, the first through `t · logistic t`
    times the second, and that times a column of the second matrix. -/
def swiglu (x : Fin 1024 → EReal) (wi : Fin 1024 → Fin 512 → EReal) (wd : Fin 256 → EReal) : EReal :=
  ∑ k : Fin 256, (∑ d, x d * wi d ⟨k.val, by omega⟩) * logistic (∑ d, x d * wi d ⟨k.val, by omega⟩)
    * (∑ d, x d * wi d ⟨256 + k.val, by omega⟩) * wd k

/-- One coordinate of the merge of the two branches and the residual: the second branch `mf` plus the gate times the
    projected first branch, projected, and added to `alpha` times the residual. -/
def mixed (o mf g x : Fin 1024 → EReal) (wap wo : Fin 1024 → Fin 1024 → EReal) (e : Fin 1024) : EReal :=
  alpha * x e + ∑ k, (mf k + g k * ∑ j, o j * wap j k) * wo k e

/-- The mean of 1024 numbers. -/
def mean (z : Fin 1024 → EReal) : EReal := Ideal.div (∑ k, z k) (Ideal.ofBits .f32 0x44800000#32)

/-- Layer normalisation of a row, with a factor and a summand per coordinate. -/
def lnorm (z g b : Fin 1024 → EReal) (e : Fin 1024) : EReal :=
  (z e - mean z) * Ideal.rsqrt (mean (fun k => (z k - mean z) * (z k - mean z)) + Ideal.ofBits .f32 0x3727C5AC#32) * g e + b e

/-- The merge of equal rows. -/
theorem mixed_congr {o o' mf mf' g g' x x' : Fin 1024 → EReal} {wap wap' wo wo' : Fin 1024 → Fin 1024 → EReal}
    (h0 : ∀ j, o j = o' j) (h1 : ∀ j, mf j = mf' j) (h2 : ∀ j, g j = g' j) (h3 : ∀ j, x j = x' j)
    (h4 : ∀ j k, wap j k = wap' j k) (h5 : ∀ j k, wo j k = wo' j k) : mixed o mf g x wap wo = mixed o' mf' g' x' wap' wo' := by
  obtain rfl := funext h0
  obtain rfl := funext h1
  obtain rfl := funext h2
  obtain rfl := funext h3
  obtain rfl : wap = wap' := funext fun j => funext (h4 j)
  obtain rfl : wo = wo' := funext fun j => funext (h5 j)
  rfl

/-- The normalisation of equal rows. -/
theorem lnorm_congr {z z' g g' b b' : Fin 1024 → EReal} (h0 : z = z') (h1 : ∀ e, g e = g' e) (h2 : ∀ e, b e = b' e) (e : Fin 1024) :
    lnorm z g b e = lnorm z' g' b' e := by
  obtain rfl := h0
  obtain rfl := funext h1
  obtain rfl := funext h2
  rfl

end Cert.Layer

end
-- ==== Proof.MixBlock.lean ====
module

public import proofs.«01_k».proof.Defs
public import proofs.«01_k».proof.Proof.Gen.Kernel4Ideal.Value
public import proofs.«01_k».proof.Proof.Layer
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

/-! The merge of the two branches, at one grid point: 512 rows in two halves. -/

noncomputable section

open Idealize.ShloMosaic Idealize.ShloMosaic.TcCoe Idealize.SL.Sem

namespace Cert.Kernel4Ideal.Block

open Cert.Kernel4Ideal Cert.Kernel4Ideal.Gen

section Half

variable (o mf g : Vec Ideal S256x1024 .bf16) (x : Vec Ideal S256x1024 .f32) (wap wo : Vec Ideal S1024x1024 .bf16)
  (lg lb : Vec Ideal S1x1024 .f32)

/-- The merged row before the normalisation. -/
def zrow (r : Fin 256) : Fin 1024 → EReal :=
  Layer.mixed (fun j => o (ix2 r j)) (fun k => mf (ix2 r k)) (fun k => g (ix2 r k)) (fun e => x (ix2 r e))
    (fun j k => wap (ix2 j k)) (fun k e => wo (ix2 k e))

/-- The normalised row of one half. -/
def half (r : Fin 256) (e : Fin 1024) : EReal :=
  Layer.lnorm (zrow o mf g x wap wo r) (fun e => lg (ix2 0 e)) (fun e => lb (ix2 0 e)) e

/-- The merged rows of the first half. -/
theorem pay4_apply (r : Fin 256) (e : Fin 1024) :
    k0_pay4 (F := Ideal) o wap mf g wo x (ix2 r e) = zrow o mf g x wap wo r e := by
  pointwise [k0_pay4]
  simp only [zrow, Layer.mixed]
  rfl

/-- The projected rows of the second half. -/
theorem pay3_apply (r : Fin 256) (e : Fin 1024) :
    k0_pay3 (F := Ideal) o wap mf g wo (ix2 r e) =
      ∑ k : Fin 1024, (mf (ix2 r k) + g (ix2 r k) * ∑ j : Fin 1024, o (ix2 r j) * wap (ix2 j k)) * wo (ix2 k e) := by
  pointwise [k0_pay3]

/-- The normalisation of the first half's rows. -/
theorem pay5_apply (z : Vec Ideal S256x1024 .f32) (r : Fin 256) (e : Fin 1024) :
    k0_pay5 (F := Ideal) z lg lb (ix2 r e) =
      Layer.lnorm (fun k => z (ix2 r k)) (fun e => lg (ix2 0 e)) (fun e => lb (ix2 0 e)) e := by
  pointwise [k0_pay5]
  simp only [Layer.lnorm, Layer.mean]

/-- The normalisation of the second half's rows. -/
theorem pay21_apply (v : Vec Ideal S256x1024 .f32) (r : Fin 256) (e : Fin 1024) :
    k0_pay21 (F := Ideal) (k0_pay18 lg) (k0_pay19 lb) (k0_pay20 v x) (ix2 r e) =
      Layer.lnorm (fun k => Layer.alpha * x (ix2 r k) + v (ix2 r k)) (fun e => lg (ix2 0 e)) (fun e => lb (ix2 0 e)) e := by
  pointwise [k0_pay21, k0_pay18, k0_pay19, k0_pay20]
  simp only [Layer.lnorm, Layer.mean]
  rfl

/-- The first half. -/
theorem half_lo (r : Fin 256) (e : Fin 1024) :
    k0_pay5 (F := Ideal) (k0_pay4 o wap mf g wo x) lg lb (ix2 r e) = half o mf g x wap wo lg lb r e := by
  rw [pay5_apply]
  simp only [pay4_apply]
  rfl

/-- The second half. -/
theorem half_hi (r : Fin 256) (e : Fin 1024) :
    k0_pay21 (F := Ideal) (k0_pay18 lg) (k0_pay19 lb) (k0_pay20 (k0_pay3 o wap mf g wo) x) (ix2 r e) = half o mf g x wap wo lg lb r e := by
  rw [pay21_apply]
  simp only [pay3_apply]
  rfl

end Half

/-- Two runs of 128 columns, one from each half of the columns, stored as the even and the odd rows of words. -/
theorem words_apply (y : FVec Ideal S256x1024 .f32) (s : Nat) (hs : S256x512.Slices ![0, s] S256x128) (h : S256x1024.Slices ![0, 0] S256x512)
    (h' : S256x1024.Slices ![0, 512] S256x512) (a : Fin 1) (q : Fin 512) (l : Fin 128) (r : Fin 256) (e : Fin 1024)
    (hr : r.val = q.val / 2) (he : e.val = q.val % 2 * 512 + s + l.val) :
    interleaveRows S1x512x128
        (shapeCast S1x256x128 (extractStridedSlice S256x128 ![0, s] (truncf .bf16 (extractStridedSlice S256x512 ![0, 0] y h) bitsLt_bf16_f32) hs) shapeCasts_S256x128_S1x256x128)
        (shapeCast S1x256x128 (extractStridedSlice S256x128 ![0, s] (truncf .bf16 (extractStridedSlice S256x512 ![0, 512] y h') bitsLt_bf16_f32) hs) shapeCasts_S256x128_S1x256x128)
        bitcasts_S1x512x128_w16_S1x256x128_w32 (ix3 a q l) = y (ix2 r e) := by
  pointwise []
  split
  · exact congrArg y (congrArg₂ (ix2 (n0 := 256) (n1 := 1024)) (Fin.ext hr.symm) (Fin.ext (by show s + l.val = e.val; omega)))
  · exact congrArg y (congrArg₂ (ix2 (n0 := 256) (n1 := 1024)) (Fin.ext hr.symm) (Fin.ext (by show 512 + (s + l.val) = e.val; omega)))

/-- A row of the first half of a block, loaded. -/
theorem ld_lo {w : EltTy} (x : Vec Ideal S512x1024 w) (r : Fin 256) (d : Fin 1024) (p : Fin 512) (hp : p.val = r.val) :
    View.ld x r0_0 (ix2 r d) = x (ix2 p d) :=
  View.ld_unit_apply_of x _ _ _ _ (ix2 p d) fun a => match a with
    | 0 => by show p.val = 0 + r.val; omega
    | 1 => by show d.val = 0 + d.val; omega

/-- A row of the second half of a block, loaded. -/
theorem ld_hi {w : EltTy} (x : Vec Ideal S512x1024 w) (r : Fin 256) (d : Fin 1024) (p : Fin 512) (hp : p.val = 256 + r.val) :
    View.ld x r0_2 (ix2 r d) = x (ix2 p d) :=
  View.ld_unit_apply_of x _ _ _ _ (ix2 p d) fun a => match a with
    | 0 => by show p.val = 256 + r.val; omega
    | 1 => by show d.val = 0 + d.val; omega

/-- A list of two zeros is the zero offset. -/
theorem hz2 : (![0, 0] : Fin 2 → Nat) = fun _ => 0 := funext fun a => by fin_cases a <;> rfl

section Outs

variable (x0 x1 x2 : Vec Ideal S512x1024 .bf16) (x3 : Vec Ideal S512x1024 .f32) (x4 x5 : Vec Ideal S1024x1024 .bf16)
  (x6 x7 : Vec Ideal S1x1024 .f32)

/-- The normalised row `p` of the block. -/
def rowOut (p : Fin 512) (e : Fin 1024) : EReal :=
  Layer.lnorm (Layer.mixed (fun j => x0 (ix2 p j)) (fun k => x1 (ix2 p k)) (fun k => x2 (ix2 p k)) (fun e => x3 (ix2 p e))
    (fun j k => x4 (ix2 j k)) (fun k e => x5 (ix2 k e))) (fun e => x6 (ix2 0 e)) (fun e => x7 (ix2 0 e)) e

/-- The first half's rows, from the loaded vectors. -/
theorem rows_lo (r : Fin 256) (e : Fin 1024) (p : Fin 512) (hp : p.val = r.val) :
    k0_pay5 (F := Ideal) (k0_pay30 x0 x1 x2 x3 x4 x5 x6 x7) (View.ld x6 r0_3) (View.ld x7 r0_3) (ix2 r e) =
      rowOut x0 x1 x2 x3 x4 x5 x6 x7 p e := by
  unfold k0_pay30
  rw [half_lo]
  exact Layer.lnorm_congr (Layer.mixed_congr (fun j => ld_lo x0 r j p hp) (fun j => ld_lo x1 r j p hp) (fun j => ld_lo x2 r j p hp)
    (fun j => ld_lo x3 r j p hp) (fun j k => congrFun (View.ld_unit_zero (S := S1024x1024) hz2 _ x4) (ix2 j k))
    (fun j k => congrFun (View.ld_unit_zero (S := S1024x1024) hz2 _ x5) (ix2 j k)))
    (fun e => congrFun (View.ld_unit_zero (S := S1x1024) hz2 _ x6) (ix2 0 e))
    (fun e => congrFun (View.ld_unit_zero (S := S1x1024) hz2 _ x7) (ix2 0 e)) e

/-- The second half's rows, from the loaded vectors. -/
theorem rows_hi (r : Fin 256) (e : Fin 1024) (p : Fin 512) (hp : p.val = 256 + r.val) :
    k0_pay21 (F := Ideal) (k0_pay31 x0 x1 x2 x3 x4 x5 x6 x7) (k0_pay32 x0 x1 x2 x3 x4 x5 x6 x7) (k0_pay33 x0 x1 x2 x3 x4 x5 x6 x7) (ix2 r e) =
      rowOut x0 x1 x2 x3 x4 x5 x6 x7 p e := by
  unfold k0_pay31 k0_pay32 k0_pay33
  rw [half_hi]
  exact Layer.lnorm_congr (Layer.mixed_congr (fun j => ld_hi x0 r j p hp) (fun j => ld_hi x1 r j p hp) (fun j => ld_hi x2 r j p hp)
    (fun j => ld_hi x3 r j p hp) (fun j k => congrFun (View.ld_unit_zero (S := S1024x1024) hz2 _ x4) (ix2 j k))
    (fun j k => congrFun (View.ld_unit_zero (S := S1024x1024) hz2 _ x5) (ix2 j k)))
    (fun e => congrFun (View.ld_unit_zero (S := S1x1024) hz2 _ x6) (ix2 0 e))
    (fun e => congrFun (View.ld_unit_zero (S := S1x1024) hz2 _ x7) (ix2 0 e)) e

/-- The block of the first result. -/
theorem out8_apply (p : Fin 512) (e : Fin 1024) :
    out0_8 (F := Ideal) x0 x1 x2 x3 x4 x5 x6 x7 (ix2 p e) = rowOut x0 x1 x2 x3 x4 x5 x6 x7 p e := by
  canon_tiles x h using cover0_8 ..
  · obtain ⟨r, d, rfl⟩ : ∃ r d, x = ix2 r d := ⟨x 0, x 1, eq_ix2 x⟩
    obtain rfl : e = d := Fin.ext h1
    exact rows_hi x0 x1 x2 x3 x4 x5 x6 x7 r e p h0
  · obtain ⟨r, d, rfl⟩ : ∃ r d, x = ix2 r d := ⟨x 0, x 1, eq_ix2 x⟩
    obtain rfl : e = d := Fin.ext h1
    exact rows_lo x0 x1 x2 x3 x4 x5 x6 x7 r e p h0

/-- A stored run of words of the first half. -/
theorem words_lo {s : Nat} (hs : S256x512.Slices ![0, s] S256x128) (a : Fin 1) (q : Fin 512) (l : Fin 128) (p : Fin 512) (e : Fin 1024)
    (hp : p.val = q.val / 2) (he : e.val = q.val % 2 * 512 + s + l.val) :
    interleaveRows S1x512x128
        (shapeCast S1x256x128 (extractStridedSlice S256x128 ![0, s] (truncf (F := Ideal) .bf16 (extractStridedSlice S256x512 ![0, 0]
          (k0_pay5 (F := Ideal) (k0_pay30 x0 x1 x2 x3 x4 x5 x6 x7) (View.ld x6 r0_3) (View.ld x7 r0_3)) slices_S256x1024_o0_0_S256x512) bitsLt_bf16_f32) hs) shapeCasts_S256x128_S1x256x128)
        (shapeCast S1x256x128 (extractStridedSlice S256x128 ![0, s] (truncf (F := Ideal) .bf16 (extractStridedSlice S256x512 ![0, 512]
          (k0_pay5 (F := Ideal) (k0_pay30 x0 x1 x2 x3 x4 x5 x6 x7) (View.ld x6 r0_3) (View.ld x7 r0_3)) slices_S256x1024_o0_512_S256x512) bitsLt_bf16_f32) hs) shapeCasts_S256x128_S1x256x128)
        bitcasts_S1x512x128_w16_S1x256x128_w32 (ix3 a q l) = rowOut x0 x1 x2 x3 x4 x5 x6 x7 p e :=
  (words_apply _ s hs _ _ a q l ⟨q.val / 2, by omega⟩ e rfl he).trans (rows_lo x0 x1 x2 x3 x4 x5 x6 x7 _ e p hp)

/-- A stored run of words of the second half. -/
theorem words_hi {s : Nat} (hs : S256x512.Slices ![0, s] S256x128) (a : Fin 1) (q : Fin 512) (l : Fin 128) (p : Fin 512) (e : Fin 1024)
    (hp : p.val = 256 + q.val / 2) (he : e.val = q.val % 2 * 512 + s + l.val) :
    interleaveRows S1x512x128
        (shapeCast S1x256x128 (extractStridedSlice S256x128 ![0, s] (truncf (F := Ideal) .bf16 (extractStridedSlice S256x512 ![0, 0]
          (k0_pay21 (F := Ideal) (k0_pay31 x0 x1 x2 x3 x4 x5 x6 x7) (k0_pay32 x0 x1 x2 x3 x4 x5 x6 x7) (k0_pay33 x0 x1 x2 x3 x4 x5 x6 x7)) slices_S256x1024_o0_0_S256x512) bitsLt_bf16_f32) hs) shapeCasts_S256x128_S1x256x128)
        (shapeCast S1x256x128 (extractStridedSlice S256x128 ![0, s] (truncf (F := Ideal) .bf16 (extractStridedSlice S256x512 ![0, 512]
          (k0_pay21 (F := Ideal) (k0_pay31 x0 x1 x2 x3 x4 x5 x6 x7) (k0_pay32 x0 x1 x2 x3 x4 x5 x6 x7) (k0_pay33 x0 x1 x2 x3 x4 x5 x6 x7)) slices_S256x1024_o0_512_S256x512) bitsLt_bf16_f32) hs) shapeCasts_S256x128_S1x256x128)
        bitcasts_S1x512x128_w16_S1x256x128_w32 (ix3 a q l) = rowOut x0 x1 x2 x3 x4 x5 x6 x7 p e :=
  (words_apply _ s hs _ _ a q l ⟨q.val / 2, by omega⟩ e rfl he).trans (rows_hi x0 x1 x2 x3 x4 x5 x6 x7 _ e p hp)

/-- The block of the second result: row `q` of the run `s` of 128 columns holds the token `q / 2`, the first half of its columns
    at the even rows and the second at the odd ones. -/
theorem out9_apply (s : Fin 4) (q : Fin 1024) (l : Fin 128) (p : Fin 512) (e : Fin 1024)
    (hp : p.val = q.val / 2) (he : e.val = q.val % 2 * 512 + 128 * s.val + l.val) :
    out0_9 (F := Ideal) x0 x1 x2 x3 x4 x5 x6 x7 (ix3 s q l) = rowOut x0 x1 x2 x3 x4 x5 x6 x7 p e := by
  canon_tiles x h using cover0_9 ..
  all_goals
    obtain ⟨a, r, d, rfl⟩ : ∃ a r d, x = ix3 a r d := ⟨x 0, x 1, x 2, eq_ix3 x⟩
    obtain rfl : l = d := Fin.ext h2
    have hs : s.val = _ := h0
    have hq : q.val = _ := h1
    have ha := a.isLt
    have hr := r.isLt
  · exact words_hi x0 x1 x2 x3 x4 x5 x6 x7 slices_S256x512_o0_384_S256x128 a r l p e (by simp at hq; omega) (by simp at hs hq; omega)
  · exact words_hi x0 x1 x2 x3 x4 x5 x6 x7 slices_S256x512_o0_256_S256x128 a r l p e (by simp at hq; omega) (by simp at hs hq; omega)
  · exact words_hi x0 x1 x2 x3 x4 x5 x6 x7 slices_S256x512_o0_128_S256x128 a r l p e (by simp at hq; omega) (by simp at hs hq; omega)
  · exact words_hi x0 x1 x2 x3 x4 x5 x6 x7 slices_S256x512_o0_0_S256x128 a r l p e (by simp at hq; omega) (by simp at hs hq; omega)
  · exact words_lo x0 x1 x2 x3 x4 x5 x6 x7 slices_S256x512_o0_384_S256x128 a r l p e (by simp at hq; omega) (by simp at hs hq; omega)
  · exact words_lo x0 x1 x2 x3 x4 x5 x6 x7 slices_S256x512_o0_256_S256x128 a r l p e (by simp at hq; omega) (by simp at hs hq; omega)
  · exact words_lo x0 x1 x2 x3 x4 x5 x6 x7 slices_S256x512_o0_128_S256x128 a r l p e (by simp at hq; omega) (by simp at hs hq; omega)
  · exact words_lo x0 x1 x2 x3 x4 x5 x6 x7 slices_S256x512_o0_0_S256x128 a r l p e (by simp at hq; omega) (by simp at hs hq; omega)

end Outs

end Cert.Kernel4Ideal.Block

end
-- ==== Proof.Mix.lean ====
module

public import proofs.«01_k».proof.Proof.MixBlock
public import proofs.«01_k».proof.Proof.Gen.Reference4Ideal.Run
public import proofs.«01_k».proof.Proof.Gen.Reference4Ideal.Read

@[expose] public section

set_option maxRecDepth 16384

/-! The merge of the two branches, over the whole grid, and the reference's. -/

noncomputable section

open Idealize.ShloMosaic Idealize.ShloMosaic.TcCoe Idealize.SL.Sem
open Idealize.ShloMosaic.Pipeline (Dat)

namespace Cert.Kernel4Ideal.Whole

open Cert.Kernel4Ideal Cert.Kernel4Ideal.Gen

/-- The merged row `i` before the normalisation. -/
def zed (o mf : Vec Ideal S32768x1024 .bf16) (g : Vec Ideal S32768x2048 .bf16) (x : Vec Ideal S32768x1024 .f32)
    (wap wo : Vec Ideal S1024x1024 .f32) (i : Fin 32768) : Fin 1024 → EReal :=
  Layer.mixed (fun j => o (ix2 i j)) (fun k => mf (ix2 i k)) (fun k => g (ix2 i ⟨1024 + k.val, by omega⟩))
    (fun e => x (ix2 i e)) (fun j k => wap (ix2 j k)) (fun k e => wo (ix2 k e))

/-- The first result at a row and a column. -/
def target (o mf : Vec Ideal S32768x1024 .bf16) (g : Vec Ideal S32768x2048 .bf16) (x : Vec Ideal S32768x1024 .f32)
    (wap wo : Vec Ideal S1024x1024 .f32) (lg lb : Vec Ideal S1024 .f32) (i : Fin 32768) (e : Fin 1024) : EReal :=
  Layer.lnorm (zed o mf g x wap wo i) (fun e => lg (ix1 e)) (fun e => lb (ix1 e)) e

variable (m : (ℓ : Loc nD τ sig) → Buf (Elt Ideal) ℓ)

/-- The first matrix as the region finds it. -/
theorem V_v0 (c : Dev nD) : V m c main_v0 = m ((c : Thread nD τ).loc main_arg4) := by
  unfold V
  simp only [hostOps0]
  after_results
  rfl

/-- The second matrix as the region finds it. -/
theorem V_v1 (c : Dev nD) : V m c main_v1 = m ((c : Thread nD τ).loc main_arg5) := by
  unfold V
  simp only [hostOps0]
  after_results
  rfl

/-- The factors of the normalisation as the region finds them. -/
theorem V_v2 (c : Dev nD) (e : Fin 1024) : V m c main_v2 (ix2 0 e) = m ((c : Thread nD τ).loc main_arg6) (ix1 e) := by
  unfold V
  simp only [hostOps0]
  after_results
  exact broadcastInDim_apply ![1] bcast_S1024_S1x1024_1 _ (ix2 0 e) (ix1 e) (fun a => match a with | 0 => rfl)

/-- The summands of the normalisation as the region finds them. -/
theorem V_v3 (c : Dev nD) (e : Fin 1024) : V m c main_v3 (ix2 0 e) = m ((c : Thread nD τ).loc main_arg7) (ix1 e) := by
  unfold V
  simp only [hostOps0]
  after_results
  exact broadcastInDim_apply ![1] bcast_S1024_S1x1024_1 _ (ix2 0 e) (ix1 e) (fun a => match a with | 0 => rfl)

/-- The blocks of rows at grid point `t`: from `512 t` on, of the gates the second 1024 columns. -/
theorem index_rows : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 1) ∧ (win0_3.index t 0 = t.val ∧ win0_3.index t 1 = 0)
    ∧ (win0_8.index t 0 = t.val ∧ win0_8.index t 1 = 0)
    ∧ (win0_9.index t 0 = 0 ∧ win0_9.index t 1 = t.val ∧ win0_9.index t 2 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 1) ∧ (win0_3.index t 0 = t.val ∧ win0_3.index t 1 = 0)
    ∧ (win0_8.index t 0 = t.val ∧ win0_8.index t 1 = 0)
    ∧ (win0_9.index t 0 = 0 ∧ win0_9.index t 1 = t.val ∧ win0_9.index t 2 = 0))

/-- The matrices and the vectors of the normalisation are whole blocks. -/
theorem index_const : ∀ t : Fin cfg0.N,
    (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N,
    (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0))

variable (c : Dev nD) (t : Fin cfg0.N)

/-- The attention's rows at grid point `t`. -/
theorem blk0 (r : Fin 512) (d : Fin 1024) (i : Fin 32768) (hi : i.val = 512 * t.val + r.val) :
    iblk m c 0 t (ix2 r d) = m ((c : Thread nD τ).loc main_arg0) (ix2 i d) := by
  refine Eq.trans (congrArg (V m c main_arg0) (funext fun a => Fin.ext ?_)) (congrFun (V_main_arg0 m c) (ix2 i d))
  obtain ⟨⟨e0, e1⟩, -⟩ := index_rows t
  refine (win0_0.rect_emb_val t (ix2 r d) a).trans ?_
  match a with
  | 0 => show win0_0.index t 0 * 512 + r.val = i.val; rw [e0]; omega
  | 1 => show win0_0.index t 1 * 1024 + d.val = d.val; rw [e1]; omega

/-- The Fourier branch's rows at grid point `t`. -/
theorem blk1 (r : Fin 512) (d : Fin 1024) (i : Fin 32768) (hi : i.val = 512 * t.val + r.val) :
    iblk m c 1 t (ix2 r d) = m ((c : Thread nD τ).loc main_arg1) (ix2 i d) := by
  refine Eq.trans (congrArg (V m c main_arg1) (funext fun a => Fin.ext ?_)) (congrFun (V_main_arg1 m c) (ix2 i d))
  obtain ⟨-, ⟨e0, e1⟩, -⟩ := index_rows t
  refine (win0_1.rect_emb_val t (ix2 r d) a).trans ?_
  match a with
  | 0 => show win0_1.index t 0 * 512 + r.val = i.val; rw [e0]; omega
  | 1 => show win0_1.index t 1 * 1024 + d.val = d.val; rw [e1]; omega

/-- The gates at grid point `t`: the second 1024 columns of its rows. -/
theorem blk2 (r : Fin 512) (d : Fin 1024) (i : Fin 32768) (hi : i.val = 512 * t.val + r.val) :
    iblk m c 2 t (ix2 r d) = m ((c : Thread nD τ).loc main_arg2) (ix2 i ⟨1024 + d.val, by omega⟩) := by
  refine Eq.trans (congrArg (V m c main_arg2) (funext fun a => Fin.ext ?_)) (congrFun (V_main_arg2 m c) (ix2 i ⟨1024 + d.val, by omega⟩))
  obtain ⟨-, -, ⟨e0, e1⟩, -⟩ := index_rows t
  refine (win0_2.rect_emb_val t (ix2 r d) a).trans ?_
  match a with
  | 0 => show win0_2.index t 0 * 512 + r.val = i.val; rw [e0]; omega
  | 1 => show win0_2.index t 1 * 1024 + d.val = 1024 + d.val; rw [e1]

/-- The residual's rows at grid point `t`. -/
theorem blk3 (r : Fin 512) (d : Fin 1024) (i : Fin 32768) (hi : i.val = 512 * t.val + r.val) :
    iblk m c 3 t (ix2 r d) = m ((c : Thread nD τ).loc main_arg3) (ix2 i d) := by
  refine Eq.trans (congrArg (V m c main_arg3) (funext fun a => Fin.ext ?_)) (congrFun (V_main_arg3 m c) (ix2 i d))
  obtain ⟨-, -, -, ⟨e0, e1⟩, -⟩ := index_rows t
  refine (win0_3.rect_emb_val t (ix2 r d) a).trans ?_
  match a with
  | 0 => show win0_3.index t 0 * 512 + r.val = i.val; rw [e0]; omega
  | 1 => show win0_3.index t 1 * 1024 + d.val = d.val; rw [e1]; omega

/-- The first matrix's block. -/
theorem blk4 (d k : Fin 1024) : iblk m c 4 t (ix2 d k) = m ((c : Thread nD τ).loc main_arg4) (ix2 d k) := by
  refine Eq.trans (congrArg (V m c main_v0) (funext fun a => Fin.ext ?_)) (congrFun (V_v0 m c) (ix2 d k))
  obtain ⟨⟨e0, e1⟩, -⟩ := index_const t
  refine (win0_4.rect_emb_val t (ix2 d k) a).trans ?_
  match a with
  | 0 => show win0_4.index t 0 * 1024 + d.val = d.val; rw [e0]; omega
  | 1 => show win0_4.index t 1 * 1024 + k.val = k.val; rw [e1]; omega

/-- The second matrix's block. -/
theorem blk5 (d k : Fin 1024) : iblk m c 5 t (ix2 d k) = m ((c : Thread nD τ).loc main_arg5) (ix2 d k) := by
  refine Eq.trans (congrArg (V m c main_v1) (funext fun a => Fin.ext ?_)) (congrFun (V_v1 m c) (ix2 d k))
  obtain ⟨-, ⟨e0, e1⟩, -⟩ := index_const t
  refine (win0_5.rect_emb_val t (ix2 d k) a).trans ?_
  match a with
  | 0 => show win0_5.index t 0 * 1024 + d.val = d.val; rw [e0]; omega
  | 1 => show win0_5.index t 1 * 1024 + k.val = k.val; rw [e1]; omega

/-- The block of the factors of the normalisation. -/
theorem blk6 (e : Fin 1024) : iblk m c 6 t (ix2 0 e) = m ((c : Thread nD τ).loc main_arg6) (ix1 e) := by
  refine Eq.trans (congrArg (V m c main_v2) (funext fun a => Fin.ext ?_)) (V_v2 m c e)
  obtain ⟨-, -, ⟨e0, e1⟩, -⟩ := index_const t
  refine (win0_6.rect_emb_val t (ix2 0 e) a).trans ?_
  match a with
  | 0 => show win0_6.index t 0 * 1 + 0 = 0; rw [e0]
  | 1 => show win0_6.index t 1 * 1024 + e.val = e.val; rw [e1]; omega

/-- The block of the summands of the normalisation. -/
theorem blk7 (e : Fin 1024) : iblk m c 7 t (ix2 0 e) = m ((c : Thread nD τ).loc main_arg7) (ix1 e) := by
  refine Eq.trans (congrArg (V m c main_v3) (funext fun a => Fin.ext ?_)) (V_v3 m c e)
  obtain ⟨-, -, -, e0, e1⟩ := index_const t
  refine (win0_7.rect_emb_val t (ix2 0 e) a).trans ?_
  match a with
  | 0 => show win0_7.index t 0 * 1 + 0 = 0; rw [e0]
  | 1 => show win0_7.index t 1 * 1024 + e.val = e.val; rw [e1]; omega

/-- A row of a block is a row of the arrays. -/
theorem row_eq (r : Fin 512) (e : Fin 1024) (i : Fin 32768) (hi : i.val = 512 * t.val + r.val) :
    Block.rowOut (iblk m c 0 t) (iblk m c 1 t) (iblk m c 2 t) (iblk m c 3 t) (iblk m c 4 t) (iblk m c 5 t) (iblk m c 6 t) (iblk m c 7 t) r e =
      target (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) i e := by
  unfold Block.rowOut target zed
  simp only [blk0 m c t r _ i hi, blk1 m c t r _ i hi, blk2 m c t r _ i hi, blk3 m c t r _ i hi, blk4 m c t, blk5 m c t, blk6 m c t, blk7 m c t]

/-- The first result after the whole grid has run. -/
theorem final8 (i : Fin 32768) (e : Fin 1024) :
    (dats m 0 c).arrAt 8 cfg0.N (ix2 i e) =
      target (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) i e := by
  have hN : cfg0.N = 64 := N_0
  have hlt := i.isLt
  obtain ⟨t, ht⟩ : ∃ t : Fin cfg0.N, t.val = i.val / 512 := ⟨⟨i.val / 512, by omega⟩, rfl⟩
  obtain ⟨r, hr⟩ : ∃ r : Fin 512, r.val = i.val % 512 := ⟨⟨i.val % 512, by omega⟩, rfl⟩
  have hb := congrFun (Cert.Kernel4Ideal.Value.blocks8 m c t (flush0_8 t)) (ix2 r e)
  rw [Cert.Kernel4Ideal.Value.flushed8] at hb
  have hi : ((cfg0.win 8).blk t).view.emb (ix2 r e) = ix2 i e := by
    funext a
    obtain ⟨-, -, -, -, ⟨e0, e1⟩, -⟩ := index_rows t
    refine Fin.ext ((win0_8.rect_emb_val t (ix2 r e) a).trans ?_)
    match a with
    | 0 => show win0_8.index t 0 * 512 + r.val = i.val; rw [e0]; omega
    | 1 => show win0_8.index t 1 * 1024 + e.val = e.val; rw [e1]; omega
  rw [← hi]
  exact hb.trans ((Block.out8_apply _ _ _ _ _ _ _ _ r e).trans (row_eq m c t r e i (by omega)))

/-- The second result after the whole grid has run. -/
theorem final9 (s : Fin 4) (q : Fin 65536) (l : Fin 128) (i : Fin 32768) (e : Fin 1024)
    (hi : i.val = q.val / 2) (he : e.val = q.val % 2 * 512 + 128 * s.val + l.val) :
    (dats m 0 c).arrAt 9 cfg0.N (ix3 s q l) =
      target (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) i e := by
  have hN : cfg0.N = 64 := N_0
  have hlt := q.isLt
  obtain ⟨t, ht⟩ : ∃ t : Fin cfg0.N, t.val = q.val / 1024 := ⟨⟨q.val / 1024, by omega⟩, rfl⟩
  obtain ⟨r, hr⟩ : ∃ r : Fin 1024, r.val = q.val % 1024 := ⟨⟨q.val % 1024, by omega⟩, rfl⟩
  obtain ⟨p, hp⟩ : ∃ p : Fin 512, p.val = r.val / 2 := ⟨⟨r.val / 2, by omega⟩, rfl⟩
  have hb := congrFun (Cert.Kernel4Ideal.Value.blocks9 m c t (flush0_9 t)) (ix3 s r l)
  rw [Cert.Kernel4Ideal.Value.flushed9] at hb
  have hj : ((cfg0.win 9).blk t).view.emb (ix3 s r l) = ix3 s q l := by
    funext a
    obtain ⟨-, -, -, -, -, e0, e1, e2⟩ := index_rows t
    refine Fin.ext ((win0_9.rect_emb_val t (ix3 s r l) a).trans ?_)
    match a with
    | 0 => show win0_9.index t 0 * 4 + s.val = s.val; rw [e0]; omega
    | 1 => show win0_9.index t 1 * 1024 + r.val = q.val; rw [e1]; omega
    | 2 => show win0_9.index t 2 * 128 + l.val = l.val; rw [e2]; omega
  rw [← hj]
  exact hb.trans ((Block.out9_apply _ _ _ _ _ _ _ _ s r l p e hp (by omega)).trans (row_eq m c t p e i (by omega)))

end Cert.Kernel4Ideal.Whole

namespace Cert.Reference4Ideal.RefValue

open Cert.Reference4Ideal Cert.Reference4Ideal.Gen Cert.Reference4Ideal.Read

section

variable (x0 x1 : Vec Ideal S32768x1024 .bf16) (x2 : Vec Ideal S32768x2048 .bf16) (x3 : Vec Ideal S32768x1024 .f32)
  (x4 x5 : Vec Ideal S1024x1024 .f32) (x6 x7 : Vec Ideal S1024 .f32)

/-- The projected first branch. -/
theorem v3_apply (i : Fin 32768) (k : Fin 1024) :
    val_main_v3 (F := Ideal) x0 x4 (ix2 i k) = ∑ j : Fin 1024, x0 (ix2 i j) * x4 (ix2 j k) := by
  rw [val_main_v3_apply]
  refine Finset.sum_congr rfl fun j _ => congrArg₂ (· * ·) ?_ (congrArg x4 (funext fun a => ?_))
  · exact congrArg x0 (funext fun a => match a with | 0 => rfl | 1 => rfl)
  · match a with | 0 => rfl | 1 => rfl

/-- The merged row before the normalisation. -/
theorem v12_apply (i : Fin 32768) (e : Fin 1024) :
    val_main_v12 (F := Ideal) x0 x1 x2 x3 x4 x5 (ix2 i e) = Kernel4Ideal.Whole.zed x0 x1 x2 x3 x4 x5 i e := by
  rw [val_main_v12_apply, val_main_v10_apply, val_main_v9_apply, val_main_v1_apply, val_main_v0_apply, val_main_v11_apply]
  refine congrArg₂ (· + ·) (congrArg (· * x3 (ix2 i e)) Layer.sqrt_sqrt_two) ?_
  refine Finset.sum_congr rfl fun k _ => congrArg₂ (· * ·) ?_ (congrArg x5 (funext fun a => match a with | 0 => rfl | 1 => rfl))
  rw [show (lidx_main_v11 (ix2 i e) k : S32768x1024.Idx) = ix2 i k from funext fun a => match a with | 0 => rfl | 1 => rfl,
    val_main_v8_apply, val_main_v7_apply, val_main_v6_apply, val_main_v5_apply, val_main_v4_apply, v3_apply]
  refine congrArg (x1 (ix2 i k) + · * _) ?_
  exact congrArg x2 (funext fun a => match a with | 0 => rfl | 1 => rfl)

/-- The mean of a merged row. -/
theorem v16_apply (i : Fin 32768) (y : Fin 1) :
    val_main_v16 (F := Ideal) x0 x1 x2 x3 x4 x5 (ix2 i y) = Layer.mean (Kernel4Ideal.Whole.zed x0 x1 x2 x3 x4 x5 i) := by
  rw [val_main_v16_apply, val_main_v15_apply, val_main_v14_apply, val_main_v13_apply]
  refine congrArg (Ideal.div · _) ?_
  refine (congrArg (· + _) Ideal.ofBits_zero_f32).trans ((zero_add _).trans ?_)
  refine Finset.sum_congr rfl fun k _ => ?_
  rw [← v12_apply]
  exact congrArg (val_main_v12 (F := Ideal) x0 x1 x2 x3 x4 x5) (funext fun a => match a with | 0 => rfl | 1 => rfl)

/-- A coordinate less the mean of its row. -/
theorem v18_apply (i : Fin 32768) (e : Fin 1024) :
    val_main_v18 (F := Ideal) x0 x1 x2 x3 x4 x5 (ix2 i e) =
      Kernel4Ideal.Whole.zed x0 x1 x2 x3 x4 x5 i e - Layer.mean (Kernel4Ideal.Whole.zed x0 x1 x2 x3 x4 x5 i) := by
  rw [val_main_v18_apply, val_main_v17_apply, v12_apply,
    show (idx_main_v17 (ix2 i e) : S32768x1.Idx) = ix2 i 0 from funext fun a => match a with | 0 => rfl | 1 => rfl, v16_apply]
  rfl

/-- The reference's first result. -/
theorem v36_apply (i : Fin 32768) (e : Fin 1024) :
    val_main_v36 (F := Ideal) x0 x1 x2 x3 x4 x5 x6 x7 (ix2 i e) = Kernel4Ideal.Whole.target x0 x1 x2 x3 x4 x5 x6 x7 i e := by
  rw [val_main_v36_apply, val_main_v33_apply, val_main_v30_apply, val_main_v25_apply, val_main_v24_apply, v12_apply,
    show (idx_main_v24 (ix2 i e) : S32768x1.Idx) = ix2 i 0 from funext fun a => match a with | 0 => rfl | 1 => rfl, v16_apply,
    val_main_v29_apply, val_main_v28_apply, val_main_v27_apply, val_main_v23_apply, val_main_v22_apply, val_main_v26_apply,
    val_main_v21_apply, val_main_v20_apply, val_main_v32_apply, val_main_v31_apply, val_main_v35_apply, val_main_v34_apply]
  unfold Kernel4Ideal.Whole.target Layer.lnorm
  refine congrArg₂ (· + ·) (congrArg₂ (· * ·) (congrArg (fun u : EReal =>
    (Kernel4Ideal.Whole.zed x0 x1 x2 x3 x4 x5 i e - Layer.mean (Kernel4Ideal.Whole.zed x0 x1 x2 x3 x4 x5 i))
      * Ideal.rsqrt (Ideal.div u (Ideal.ofBits .f32 0x44800000#32) + Ideal.ofBits .f32 0x3727C5AC#32)) ?_) ?_) ?_
  · refine (congrArg (· + _) Ideal.ofBits_zero_f32).trans ((zero_add _).trans ?_)
    refine Finset.sum_congr rfl fun k _ => ?_
    rw [val_main_v19_apply,
      show (idx_main_v20 _ k : S32768x1024.Idx) = ix2 i k from funext fun a => match a with | 0 => rfl | 1 => rfl, v18_apply]
    rfl
  · exact congrArg x6 (funext fun a => match a with | 0 => rfl)
  · exact congrArg x7 (funext fun a => match a with | 0 => rfl)

/-- The reference's second result. -/
theorem v40_apply (s : Fin 4) (q : Fin 65536) (l : Fin 128) (i : Fin 32768) (e : Fin 1024)
    (hi : i.val = q.val / 2) (he : e.val = q.val % 2 * 512 + 128 * s.val + l.val) :
    val_main_v40 (F := Ideal) x0 x1 x2 x3 x4 x5 x6 x7 (ix3 s q l) = Kernel4Ideal.Whole.target x0 x1 x2 x3 x4 x5 x6 x7 i e := by
  have h0 := s.isLt
  have h1 := q.isLt
  have h2 := l.isLt
  rw [val_main_v40_apply,
    show (idx_main_v40 (ix3 s q l) : S4x32768x2x128.Idx) = ix4 s i ⟨q.val % 2, by omega⟩ l from funext fun a => by
      match a with
      | 0 => exact Fin.ext (by show ((s.val * 65536 + q.val) * 128 + l.val) / 8388608 = s.val; omega)
      | 1 => exact Fin.ext (by show ((s.val * 65536 + q.val) * 128 + l.val) / 256 % 32768 = i.val; rw [show ((s.val * 65536 + q.val) * 128 + l.val) / 256 = 32768 * s.val + q.val / 2 by omega]; omega)
      | 2 => exact Fin.ext (by show ((s.val * 65536 + q.val) * 128 + l.val) / 128 % 2 = q.val % 2; omega)
      | 3 => exact Fin.ext (by show ((s.val * 65536 + q.val) * 128 + l.val) % 128 = l.val; omega),
    val_main_v39_apply, val_main_v38_apply, val_main_v37_apply, ← v36_apply]
  refine congrArg (val_main_v36 (F := Ideal) x0 x1 x2 x3 x4 x5 x6 x7) (funext fun a => ?_)
  match a with
  | 0 => exact Fin.ext (by show (((i.val * 2 + q.val % 2) * 4 + s.val) * 128 + l.val) / 1024 = i.val; omega)
  | 1 => exact Fin.ext (by show (((i.val * 2 + q.val % 2) * 4 + s.val) * 128 + l.val) % 1024 = e.val; omega)

end

end Cert.Reference4Ideal.RefValue

end
-- ==== Proof.Shared.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Layer
public import Idealize.ShloMosaic.Lib.Pipeline.Value
public import Idealize.ShloMosaic.Lib.Pointwise
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.Kernel5Ideal.Whole

open Cert.Kernel5Ideal Cert.Kernel5Ideal.Gen

/-- The result at a row and a column: the row times `alpha` plus its gated feed-forward part. -/
def target (x : Vec Ideal S32768x1024 .f32) (wi : Vec Ideal S1024x512 .f32) (wd : Vec Ideal S256x1024 .f32)
    (i : Fin 32768) (e : Fin 1024) : EReal :=
  Layer.alpha * x (ix2 i e) + Layer.swiglu (fun d => x (ix2 i d)) (fun d k => wi (ix2 d k)) (fun k => wd (ix2 k e))

/-- What the body computes from a block of rows and the two matrices. -/
theorem pay1_apply (x : Vec Ideal S512x1024 .f32) (wi : Vec Ideal S1024x512 .bf16) (wd : Vec Ideal S256x1024 .bf16)
    (r : Fin 512) (e : Fin 1024) :
    k0_pay1 (F := Ideal) x wi wd (ix2 r e) =
      Layer.alpha * x (ix2 r e) + Layer.swiglu (fun d => x (ix2 r d)) (fun d k => wi (ix2 d k)) (fun k => wd (ix2 k e)) := by
  pointwise [k0_pay1]
  simp only [Layer.swiglu, Layer.logistic, Ideal.ofBits_zero_f32, Ideal.ofBits_one_f32, Layer.zero_sub_eq]
  rfl

variable (m : (ℓ : Loc nD τ sig) → Buf (Elt Ideal) ℓ)

/-- The first matrix as the region finds it. -/
theorem V_v0 (c : Dev nD) : V m c main_v0 = m ((c : Thread nD τ).loc main_arg1) := by
  unfold V
  simp only [hostOps0]
  after_results
  rfl

/-- The second matrix as the region finds it. -/
theorem V_v1 (c : Dev nD) : V m c main_v1 = m ((c : Thread nD τ).loc main_arg2) := by
  unfold V
  simp only [hostOps0]
  after_results
  rfl

/-- The blocks at grid point `t`: the rows from `512 t` on, and the whole of each matrix. -/
theorem index_all : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0))

variable (c : Dev nD) (t : Fin cfg0.N)

/-- The rows' block at grid point `t`. -/
theorem blk0 (r : Fin 512) (d : Fin 1024) (i : Fin 32768) (hi : i.val = 512 * t.val + r.val) :
    iblk m c 0 t (ix2 r d) = m ((c : Thread nD τ).loc main_arg0) (ix2 i d) := by
  refine Eq.trans (congrArg (V m c main_arg0) (funext fun a => Fin.ext ?_)) (congrFun (V_main_arg0 m c) (ix2 i d))
  obtain ⟨⟨e0, e1⟩, -⟩ := index_all t
  refine (win0_0.rect_emb_val t (ix2 r d) a).trans ?_
  match a with
  | 0 => show win0_0.index t 0 * 512 + r.val = i.val; rw [e0]; omega
  | 1 => show win0_0.index t 1 * 1024 + d.val = d.val; rw [e1]; omega

/-- The first matrix's block. -/
theorem blk1 (d : Fin 1024) (k : Fin 512) : iblk m c 1 t (ix2 d k) = m ((c : Thread nD τ).loc main_arg1) (ix2 d k) := by
  refine Eq.trans (congrArg (V m c main_v0) (funext fun a => Fin.ext ?_)) (congrFun (V_v0 m c) (ix2 d k))
  obtain ⟨-, ⟨e0, e1⟩, -⟩ := index_all t
  refine (win0_1.rect_emb_val t (ix2 d k) a).trans ?_
  match a with
  | 0 => show win0_1.index t 0 * 1024 + d.val = d.val; rw [e0]; omega
  | 1 => show win0_1.index t 1 * 512 + k.val = k.val; rw [e1]; omega

/-- The second matrix's block. -/
theorem blk2 (k : Fin 256) (e : Fin 1024) : iblk m c 2 t (ix2 k e) = m ((c : Thread nD τ).loc main_arg2) (ix2 k e) := by
  refine Eq.trans (congrArg (V m c main_v1) (funext fun a => Fin.ext ?_)) (congrFun (V_v1 m c) (ix2 k e))
  obtain ⟨-, -, ⟨e0, e1⟩, -⟩ := index_all t
  refine (win0_2.rect_emb_val t (ix2 k e) a).trans ?_
  match a with
  | 0 => show win0_2.index t 0 * 256 + k.val = k.val; rw [e0]; omega
  | 1 => show win0_2.index t 1 * 1024 + e.val = e.val; rw [e1]; omega

/-- A list of two zeros is the zero offset. -/
theorem hz2 : (![0, 0] : Fin 2 → Nat) = fun _ => 0 := funext fun a => by fin_cases a <;> rfl

/-- The kernel's result after the whole grid has run. -/
theorem final_apply (i : Fin 32768) (e : Fin 1024) :
    (dats m 0 c).arrAt 3 cfg0.N (ix2 i e) =
      target (m ((c : Thread nD τ).loc main_arg0)) (m ((c : Thread nD τ).loc main_arg1)) (m ((c : Thread nD τ).loc main_arg2)) i e := by
  have hN : cfg0.N = 64 := N_0
  have hlt := i.isLt
  obtain ⟨t, ht⟩ : ∃ t : Fin cfg0.N, t.val = i.val / 512 := ⟨⟨i.val / 512, by omega⟩, rfl⟩
  obtain ⟨r, hr⟩ : ∃ r : Fin 512, r.val = i.val % 512 := ⟨⟨i.val % 512, by omega⟩, rfl⟩
  have hir : i.val = 512 * t.val + r.val := by omega
  have hb := congrFun (Cert.Kernel5Ideal.Value.blocks3 m c t (flush0_3 t)) (ix2 r e)
  rw [Cert.Kernel5Ideal.Value.flushed3] at hb
  have hi : ((cfg0.win 3).blk t).view.emb (ix2 r e) = ix2 i e := by
    funext a
    obtain ⟨-, -, -, e0, e1⟩ := index_all t
    refine Fin.ext ((win0_3.rect_emb_val t (ix2 r e) a).trans ?_)
    match a with
    | 0 => show win0_3.index t 0 * 512 + r.val = i.val; rw [e0]; omega
    | 1 => show win0_3.index t 1 * 1024 + e.val = e.val; rw [e1]; omega
  rw [← hi]
  refine hb.trans ?_
  show out0_3 (iblk m c 0 t) (iblk m c 1 t) (iblk m c 2 t) (ix2 r e) = _
  unfold out0_3
  rw [View.canon_unit_zero hz2]
  simp only [View.ld_unit_zero (S := S512x1024) hz2, View.ld_unit_zero (S := S1024x512) hz2, View.ld_unit_zero (S := S256x1024) hz2]
  refine (pay1_apply (iblk m c 0 t) (iblk m c 1 t) (iblk m c 2 t) r e).trans ?_
  unfold target
  simp only [blk0 m c t r _ i hir, blk1 m c t, blk2 m c t]

end Cert.Kernel5Ideal.Whole

namespace Cert.Reference5Ideal.RefValue

open Cert.Reference5Ideal Cert.Reference5Ideal.Gen Cert.Reference5Ideal.Read

/-- The reference's result at a row and a column. -/
theorem v10_apply (x0 : Vec Ideal S32768x1024 .f32) (x1 : Vec Ideal S1024x512 .f32) (x2 : Vec Ideal S256x1024 .f32)
    (i : Fin 32768) (e : Fin 1024) :
    val_main_v10 (F := Ideal) x0 x1 x2 (ix2 i e) = Kernel5Ideal.Whole.target x0 x1 x2 i e := by
  have hcall (k : Fin 256) : val_main_call0_v5 (F := Ideal) x0 x1 (ix2 i k) =
      Layer.logistic (val_main_v3 (F := Ideal) x0 x1 (ix2 i k)) := by
    rw [val_main_call0_v5_apply, val_main_call0_v4_apply, val_main_call0_v3_apply, val_main_call0_v2_apply, val_main_call0_v1_apply,
      val_main_call0_v0_apply]
    unfold Layer.logistic
    rw [← Ideal.ofBits_one_f32]
    rfl
  have h2 (k : Fin 512) : val_main_v2 (F := Ideal) x0 x1 (ix2 i k) = ∑ d : Fin 1024, x0 (ix2 i d) * x1 (ix2 d k) := by
    rw [val_main_v2_apply]
    refine Finset.sum_congr rfl fun d _ => congrArg₂ (· * ·) (congrArg x0 (funext fun a => ?_)) (congrArg x1 (funext fun a => ?_))
    · match a with | 0 => rfl | 1 => rfl
    · match a with | 0 => rfl | 1 => rfl
  rw [val_main_v10_apply, val_main_v6_apply, val_main_v5_apply, val_main_v1_apply, val_main_v0_apply]
  unfold Kernel5Ideal.Whole.target
  refine congrArg₂ (· + ·) (congrArg (· * x0 (ix2 i e)) Layer.sqrt_sqrt_two) ?_
  rw [val_main_v9_apply]
  unfold Layer.swiglu
  refine Finset.sum_congr rfl fun k _ => congrArg₂ (· * ·) ?_ (congrArg x2 (funext fun a => ?_))
  · rw [val_main_v8_apply, val_main_v7_apply, val_main_v4_apply]
    rw [show (lidx_main_v9 (ix2 i e) k : S32768x256.Idx) = ix2 i k from funext fun a => by match a with | 0 => rfl | 1 => rfl, hcall,
      val_main_v3_apply,
      show (idx_main_v3 (ix2 i k) : S32768x512.Idx) = ix2 i ⟨k.val, by omega⟩ from funext fun a => by match a with | 0 => rfl | 1 => rfl,
      show (idx_main_v4 (ix2 i k) : S32768x512.Idx) = ix2 i ⟨256 + k.val, by omega⟩ from funext fun a => by match a with | 0 => rfl | 1 => rfl,
      h2, h2]
    rfl
  · match a with | 0 => rfl | 1 => rfl

end Cert.Reference5Ideal.RefValue

end
-- ==== Proof.MixShared.lean ====
module

public import proofs.«01_k».proof.Defs
public import proofs.«01_k».proof.Proof.Mix
public import proofs.«01_k».proof.Proof.Shared
public import proofs.«01_k».proof.Proof.Gen.Kernel4Ideal.Value
public import proofs.«01_k».proof.Proof.Gen.Kernel5Ideal.Value
public import Idealize.ShloMosaic.Lib.Bf16Pair

@[expose] public section

set_option maxRecDepth 16384

/-! The claims about the merge of the two branches and about the shared expert. -/

noncomputable section

namespace Cert.Proof

open Idealize.ShloMosaic Idealize.SL.Sem Cert

/-- The merge's reference runs and leaves its arguments as they were; it has no semaphore. -/
theorem frame_reference4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The shared expert's reference runs and leaves its arguments as they were; it has no semaphore. -/
theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The merge's named constant, its packed words and the rows they are stored as. -/
theorem preserves_mix : Cert.preserves_Kernel4_Kernel4Ideal :=
  ⟨IdealRules.named_const.statement _ _ _ _ _ rfl, IdealRules.bf16_pair.packStatement _,
    IdealRules.bf16_pair.statement Cert.Kernel4Ideal.S1x512x128 Cert.Kernel4Ideal.S1x256x128⟩

/-- The shared expert's named constant. -/
theorem preserves_shared : Cert.preserves_Kernel5_Kernel5Ideal := IdealRules.named_const.statement _ _ _ _ _ rfl

/-- The merge: both results of the kernel are the reference's. -/
theorem algebraic_mix : Cert.algebraic_Kernel4Ideal_Reference4Ideal := by
  intro m g m' g' _ hagree
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N, Cert.Kernel4Ideal.Value.run_blocks m g, ?_⟩
  refine (θ_run Cert.Reference4Ideal.defs _ _).mono (fun r h c => ⟨?_, ?_, (h c).2.2⟩)
    (Cert.Reference4Ideal.Value.run (F := Ideal) m' g')
  · refine (h c).1.trans ?_
    rw [Cert.Reference4Ideal.Read.val_main_v36_eq]
    obtain ⟨h0, h1, h2, h3, h4, h5, h6, h7⟩ := hagree c
    rw [h0, h1, h2, h3, h4, h5, h6, h7]
    refine funext fun (j : Cert.Kernel4Ideal.S32768x1024.Idx) => ?_
    obtain ⟨i, e, rfl⟩ : ∃ (i : Fin 32768) (e : Fin 1024), j = ix2 i e := ⟨j 0, j 1, eq_ix2 j⟩
    exact (Cert.Reference4Ideal.RefValue.v36_apply _ _ _ _ _ _ _ _ i e).trans (Cert.Kernel4Ideal.Whole.final8 m c i e).symm
  · refine (h c).2.1.trans ?_
    rw [Cert.Reference4Ideal.Read.val_main_v40_eq]
    obtain ⟨h0, h1, h2, h3, h4, h5, h6, h7⟩ := hagree c
    rw [h0, h1, h2, h3, h4, h5, h6, h7]
    refine funext fun (j : Cert.Kernel4Ideal.S4x65536x128.Idx) => ?_
    obtain ⟨s, q, l, rfl⟩ : ∃ (s : Fin 4) (q : Fin 65536) (l : Fin 128), j = ix3 s q l :=
      ⟨j 0, j 1, j 2, funext fun a => match a with | 0 => rfl | 1 => rfl | 2 => rfl⟩
    obtain ⟨i, hi⟩ : ∃ i : Fin 32768, i.val = q.val / 2 := ⟨⟨q.val / 2, by omega⟩, rfl⟩
    obtain ⟨e, he⟩ : ∃ e : Fin 1024, e.val = q.val % 2 * 512 + 128 * s.val + l.val := ⟨⟨q.val % 2 * 512 + 128 * s.val + l.val, by omega⟩, rfl⟩
    exact (Cert.Reference4Ideal.RefValue.v40_apply _ _ _ _ _ _ _ _ s q l i e hi he).trans
      (Cert.Kernel4Ideal.Whole.final9 m c s q l i e hi he).symm

/-- The shared expert: the kernel's result is the reference's. -/
theorem algebraic_shared : Cert.algebraic_Kernel5Ideal_Reference5Ideal := by
  intro m g m' g' _ hagree
  refine ⟨fun c => (Cert.Kernel5Ideal.Gen.dats m 0 c).arrAt 3 Cert.Kernel5Ideal.cfg0.N, Cert.Kernel5Ideal.Value.run_blocks m g, ?_⟩
  refine (θ_run Cert.Reference5Ideal.defs _ _).mono (fun r h c => ⟨?_, (h c).2⟩)
    (Cert.Reference5Ideal.Value.run (F := Ideal) m' g')
  refine (h c).1.trans ?_
  rw [Cert.Reference5Ideal.Read.val_main_v10_eq]
  obtain ⟨h0, h1, h2⟩ := hagree c
  rw [h0, h1, h2]
  refine funext fun (j : Cert.Kernel5Ideal.S32768x1024.Idx) => ?_
  obtain ⟨i, e, rfl⟩ : ∃ (i : Fin 32768) (e : Fin 1024), j = ix2 i e := ⟨j 0, j 1, eq_ix2 j⟩
  exact (Cert.Reference5Ideal.RefValue.v10_apply _ _ _ i e).trans (Cert.Kernel5Ideal.Whole.final_apply m c i e).symm

end Cert.Proof

end
-- ==== Proof.FourBlock.lean ====
module

public import proofs.«01_k».proof.Defs
public import proofs.«01_k».proof.Proof.Gen.Kernel6Ideal.Value
public import Idealize.ShloMosaic.Lib.Pipeline.Value
public import Idealize.ShloMosaic.Lib.Pointwise
public import Idealize.ShloMosaic.Lib.Tactic

@[expose] public section

set_option maxRecDepth 16384

/-!
  One grid point of the Fourier branch. At the first block of rows of a batch the body transforms the channels into its
  scratch, cosines above sines; at every block it transforms the positions from there, projects, and applies the gates.
-/

noncomputable section

open Idealize.ShloMosaic Idealize.ShloMosaic.TcCoe Idealize.SL.Sem
open Idealize.ShloMosaic.Pipeline (Dat)

namespace Cert.Kernel6Ideal.Block

open Cert.Kernel6Ideal Cert.Kernel6Ideal.Gen

/-- A list of three zeros is the zero offset, and likewise of length two. -/
theorem hz3 : (![0, 0, 0] : Fin 3 → Nat) = fun _ => 0 := funext fun a => by fin_cases a <;> rfl
/-- See `hz3`. -/
theorem hz2 : (![0, 0] : Fin 2 → Nat) = fun _ => 0 := funext fun a => by fin_cases a <;> rfl

/-- The channels' transform: row `t` of its first 2048 is the sum with the cosines at position `t`, of its last the one
    with the sines. Each half of 256 columns is transformed by itself. -/
def stage (x0 : Vec Ideal S1x2048x512 .bf16) (x1 : Vec Ideal S2x256x512 .bf16) : Vec Ideal S4096x512 .bf16 := fun j =>
  have h0 : (j 0 : Nat) < 4096 := (j 0).isLt
  have h1 : (j 1 : Nat) < 512 := (j 1).isLt
  ∑ k : Fin 256, x0 (ix3 0 ⟨(j 0 : Nat) % 2048, by omega⟩ ⟨256 * ((j 1 : Nat) / 256) + k.val, by omega⟩) *
    x1 (ix3 ⟨(j 1 : Nat) / 256, by omega⟩ k ⟨256 * ((j 0 : Nat) / 2048) + (j 1 : Nat) % 256, by omega⟩)

/-- The four stores into the scratch: two halves of the columns, each with cosines and sines. -/
def pieces (x0 : Vec Ideal S1x2048x512 .bf16) (x1 : Vec Ideal S2x256x512 .bf16) : List (View.Piece (Elt Ideal) S4096x512 .bf16) :=
  [⟨Rect.unit ![2048, 256] ![2048, 256] inb_S4096x512_S2048x256_2048_256,
      k0_pay6 (F := Ideal) (View.ld x0 (Rect.unit ![0, 0, 256] ![1, 2048, 256] inb_S1x2048x512_S1x2048x256_0_0_256))
        (View.ld x1 (Rect.unit ![1, 0, 0] ![1, 256, 512] inb_S2x256x512_S1x256x512_1_0_0))⟩,
    ⟨Rect.unit ![0, 256] ![2048, 256] inb_S4096x512_S2048x256_0_256,
      k0_pay5 (F := Ideal) (View.ld x0 (Rect.unit ![0, 0, 256] ![1, 2048, 256] inb_S1x2048x512_S1x2048x256_0_0_256))
        (View.ld x1 (Rect.unit ![1, 0, 0] ![1, 256, 512] inb_S2x256x512_S1x256x512_1_0_0))⟩,
    ⟨Rect.unit ![2048, 0] ![2048, 256] inb_S4096x512_S2048x256_2048_0,
      k0_pay3 (F := Ideal) (View.ld x0 (Rect.unit ![0, 0, 0] ![1, 2048, 256] inb_S1x2048x512_S1x2048x256_0_0_0))
        (View.ld x1 (Rect.unit ![0, 0, 0] ![1, 256, 512] inb_S2x256x512_S1x256x512_0_0_0))⟩,
    ⟨Rect.unit ![0, 0] ![2048, 256] inb_S4096x512_S2048x256_0_0,
      k0_pay2 (F := Ideal) (View.ld x0 (Rect.unit ![0, 0, 0] ![1, 2048, 256] inb_S1x2048x512_S1x2048x256_0_0_0))
        (View.ld x1 (Rect.unit ![0, 0, 0] ![1, 256, 512] inb_S2x256x512_S1x256x512_0_0_0))⟩]

/-- The stores cover the scratch. -/
theorem pieces_cover (x0 : Vec Ideal S1x2048x512 .bf16) (x1 : Vec Ideal S2x256x512 .bf16) (y : S4096x512.Idx) :
    ∃ p ∈ pieces x0 x1, y ∈ p.1.set :=
  View.cover_of_tiledL (pieces x0 x1) S2048x256.size (by sl_kernel_rfl) y

/-- A half of the columns, transformed with the cosines. -/
theorem pay2_apply (v : Vec Ideal S1x2048x256 .bf16) (w : Vec Ideal S1x256x512 .bf16) (t : Fin 2048) (e : Fin 256) :
    k0_pay2 (F := Ideal) v w (ix2 t e) = ∑ k : Fin 256, v (ix3 0 t k) * w (ix3 0 k ⟨e.val, by omega⟩) := by
  pointwise [k0_pay2, k0_pay1]

/-- A half of the columns, transformed with the sines. -/
theorem pay3_apply (v : Vec Ideal S1x2048x256 .bf16) (w : Vec Ideal S1x256x512 .bf16) (t : Fin 2048) (e : Fin 256) :
    k0_pay3 (F := Ideal) v w (ix2 t e) = ∑ k : Fin 256, v (ix3 0 t k) * w (ix3 0 k ⟨256 + e.val, by omega⟩) := by
  pointwise [k0_pay3, k0_pay1]

/-- The half `h` of the columns as loaded, transformed with the table's half `q`, is the transform at the rows and
    columns it is stored to. -/
theorem part_eq (x0 : Vec Ideal S1x2048x512 .bf16) (x1 : Vec Ideal S2x256x512 .bf16) (h q : Nat) (hh : h < 2) (hq : q < 2)
    (i0 i1) (t : Fin 2048) (e : Fin 256) (y : S4096x512.Idx) (y0 : (y 0 : Nat) = 2048 * q + t.val) (y1 : (y 1 : Nat) = 256 * h + e.val) :
    ∑ k : Fin 256, View.ld x0 (Rect.unit (s := S1x2048x512) ![0, 0, 256 * h] ![1, 2048, 256] i0) (ix3 0 t k) *
        View.ld x1 (Rect.unit (s := S2x256x512) ![h, 0, 0] ![1, 256, 512] i1) (ix3 0 k ⟨256 * q + e.val, by omega⟩) =
      stage x0 x1 y := by
  have ht := t.isLt
  have he := e.isLt
  unfold stage
  refine Finset.sum_congr rfl fun k _ => congrArg₂ (· * ·) (congrArg x0 (funext fun a => Fin.ext ?_)) (congrArg x1 (funext fun a => Fin.ext ?_))
  · match a with
    | ⟨0, _⟩ => rfl
    | ⟨1, _⟩ => show 0 + 1 * t.val = (y 0 : Nat) % 2048; omega
    | ⟨2, _⟩ => show 256 * h + 1 * k.val = 256 * ((y 1 : Nat) / 256) + k.val; omega
  · match a with
    | ⟨0, _⟩ => show h + 1 * 0 = (y 1 : Nat) / 256; omega
    | ⟨1, _⟩ => show 0 + 1 * k.val = k.val; omega
    | ⟨2, _⟩ => show 0 + 1 * (256 * q + e.val) = 256 * ((y 0 : Nat) / 2048) + (y 1 : Nat) % 256; omega

/-- What the scratch holds after the stores. -/
theorem canon_eq (x0 : Vec Ideal S1x2048x512 .bf16) (x1 : Vec Ideal S2x256x512 .bf16) : View.canon (pieces x0 x1) = stage x0 x1 := by
  funext y
  refine View.canon_apply_of_pieces (stage x0 x1) _ ?_ y (pieces_cover x0 x1 y)
  intro p hp x
  simp only [pieces, List.mem_cons, List.not_mem_nil, or_false] at hp
  rcases hp with rfl | rfl | rfl | rfl
  · change S2048x256.Idx at x
    obtain ⟨t, e, rfl⟩ : ∃ (t : Fin 2048) (e : Fin 256), x = ix2 t e := ⟨x 0, x 1, eq_ix2 x⟩
    refine (pay3_apply _ _ t e).trans (part_eq x0 x1 1 1 (by decide) (by decide) inb_S1x2048x512_S1x2048x256_0_0_256
      inb_S2x256x512_S1x256x512_1_0_0 t e _ ?_ ?_)
    · show 2048 + 1 * t.val = 2048 * 1 + t.val; omega
    · show 256 + 1 * e.val = 256 * 1 + e.val; omega
  · change S2048x256.Idx at x
    obtain ⟨t, e, rfl⟩ : ∃ (t : Fin 2048) (e : Fin 256), x = ix2 t e := ⟨x 0, x 1, eq_ix2 x⟩
    refine (pay2_apply _ _ t e).trans (Eq.trans ?_ (part_eq x0 x1 1 0 (by decide) (by decide) inb_S1x2048x512_S1x2048x256_0_0_256
      inb_S2x256x512_S1x256x512_1_0_0 t e _ ?_ ?_))
    · simp only [Nat.mul_zero, Nat.zero_add, Nat.mul_one]
    · show 0 + 1 * t.val = 2048 * 0 + t.val; omega
    · show 256 + 1 * e.val = 256 * 1 + e.val; omega
  · change S2048x256.Idx at x
    obtain ⟨t, e, rfl⟩ : ∃ (t : Fin 2048) (e : Fin 256), x = ix2 t e := ⟨x 0, x 1, eq_ix2 x⟩
    refine (pay3_apply _ _ t e).trans (part_eq x0 x1 0 1 (by decide) (by decide) inb_S1x2048x512_S1x2048x256_0_0_0
      inb_S2x256x512_S1x256x512_0_0_0 t e _ ?_ ?_)
    · show 2048 + 1 * t.val = 2048 * 1 + t.val; omega
    · show 0 + 1 * e.val = 256 * 0 + e.val; omega
  · change S2048x256.Idx at x
    obtain ⟨t, e, rfl⟩ : ∃ (t : Fin 2048) (e : Fin 256), x = ix2 t e := ⟨x 0, x 1, eq_ix2 x⟩
    refine (pay2_apply _ _ t e).trans (Eq.trans ?_ (part_eq x0 x1 0 0 (by decide) (by decide) inb_S1x2048x512_S1x2048x256_0_0_0
      inb_S2x256x512_S1x256x512_0_0_0 t e _ ?_ ?_))
    · simp only [Nat.mul_zero, Nat.zero_add]
    · show 0 + 1 * t.val = 2048 * 0 + t.val; omega
    · show 0 + 1 * e.val = 256 * 0 + e.val; omega

section Runs

variable (c : Dev nD) (i : grid0.Coords) (arg2 : Memref sig .tc .vmem S1x2048x512 .bf16) (harg2 : arg2.IsWhole) (arg3 : Memref sig .tc .vmem S2x256x512 .bf16) (harg3 : arg3.IsWhole) (arg4 : Memref sig .tc .vmem S512x4096 .bf16) (harg4 : arg4.IsWhole) (arg5 : Memref sig .tc .vmem S512x1024 .bf16) (harg5 : arg5.IsWhole) (arg6 : Memref sig .tc .vmem S1x512x1024 .bf16) (harg6 : arg6.IsWhole) (arg7 : Memref sig .tc .vmem S1x512x1024 .bf16) (harg7 : arg7.IsWhole) (arg8 : Memref sig .tc .vmem S4096x512 .bf16) (harg8 : arg8.IsWhole)
    (x0 : Vec Ideal S1x2048x512 .bf16) (x1 : Vec Ideal S2x256x512 .bf16) (x2 : Vec Ideal S512x4096 .bf16) (x3 : Vec Ideal S512x1024 .bf16) (x4 : Vec Ideal S1x512x1024 .bf16)

/-- What the body leaves in the scratch at the first block of rows of a batch. -/
theorem scratch_eq (hc0 : cond0_0 i) :
    sout0_A_0 (F := Ideal) c i arg2 harg2 arg3 harg3 arg4 harg4 arg5 harg5 arg6 harg6 arg7 harg7 arg8 harg8 hc0 x0 x1 x2 x3 x4 = stage x0 x1 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg2.read_unread, harg3.read_unread]
  exact canon_eq x0 x1

/-- What the body writes to the result's block there. -/
theorem out_first (hc0 : cond0_0 i) :
    out0_A_5 (F := Ideal) c i arg2 harg2 arg3 harg3 arg4 harg4 arg5 harg5 arg6 harg6 arg7 harg7 arg8 harg8 hc0 x0 x1 x2 x3 x4 =
      k0_pay7 x2 (stage x0 x1) x3 x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz3]
  have hs : arg8.view.readCov (pieces x0 x1) (Rect.unit ![0, 0] ![4096, 512] inb_S4096x512_S4096x512_0_0).toLoadRect = stage x0 x1 := by
    rw [View.readCov_eq_canon_ld _ _ _ (pieces_cover x0 x1), View.ld_unit_zero (S := S4096x512) hz2, canon_eq]
  unfold pieces at hs
  simp only [View.readAt_eq_ld, harg2.read_unread, harg3.read_unread, harg4.read_unread, harg5.read_unread, harg6.read_unread,
    View.ld_unit_zero (S := S512x4096) hz2, View.ld_unit_zero (S := S512x1024) hz2, View.ld_unit_zero (S := S1x512x1024) hz3]
  exact congrArg (fun v => k0_pay7 x2 v x3 x4) hs

/-- What the body writes to the result's block at the other blocks of rows, from what the scratch holds. -/
theorem out_next (hc0 : ¬cond0_0 i) (xs : Vec Ideal S4096x512 .bf16) :
    out0_B_5 (F := Ideal) c i arg2 harg2 arg3 harg3 arg4 harg4 arg5 harg5 arg6 harg6 arg7 harg7 arg8 harg8 hc0 x0 x1 x2 x3 x4 xs =
      k0_pay7 x2 xs x3 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs)]
  unfold kernelRun0_B
  dsimp only
  sl_unfold_words
  rw [View.canon_unit_zero hz3]
  simp only [View.readAt_eq_ld, harg4.read_unread, harg5.read_unread, harg6.read_unread, harg8.read_unread,
    View.ld_unit_zero (S := S512x4096) hz2, View.ld_unit_zero (S := S512x1024) hz2, View.ld_unit_zero (S := S1x512x1024) hz3,
    View.ld_unit_zero (S := S4096x512) hz2]

end Runs

/-- The block the body stores, read at a row and a column. -/
theorem pay7_apply (v3 : Vec Ideal S512x4096 .bf16) (v5 : Vec Ideal S4096x512 .bf16) (v8 : Vec Ideal S512x1024 .bf16) (v11 : Vec Ideal S1x512x1024 .bf16)
    (r : Fin 512) (e : Fin 1024) :
    k0_pay7 (F := Ideal) v3 v5 v8 v11 (ix3 0 r e) =
      v11 (ix3 0 r e) * ∑ d : Fin 512, (∑ k : Fin 4096, v3 (ix2 r k) * v5 (ix2 k d)) * v8 (ix2 d e) := by
  pointwise [k0_pay7]

end Cert.Kernel6Ideal.Block

end
-- ==== Proof.FourFn.lean ====
module

public import Idealize.ShloMosaic.PureOps.Ideal
public import Mathlib.Analysis.SpecialFunctions.Trigonometric.Inverse
public import Mathlib.Analysis.SpecialFunctions.Trigonometric.Basic
public import Mathlib.Data.EReal.Operations

@[expose] public section

/-! The entries of the two Fourier transforms: cosines and sines of whole fractions of the circle, over the root of its number of parts. -/

noncomputable section

open Idealize.ShloMosaic

namespace Cert.Fourier

/-- The cosine of `k` of `n` parts of the circle, over the root of `n`. -/
def dcos (n k : Nat) : EReal := ((Real.cos (2 * Real.pi * k / n) / Real.sqrt n : ℝ) : EReal)

/-- The sine of `k` of `n` parts of the circle, over the root of `n`. -/
def dsin (n k : Nat) : EReal := ((Real.sin (2 * Real.pi * k / n) / Real.sqrt n : ℝ) : EReal)

/-- Whole turns taken off. -/
theorem turns (n k : Nat) (hn : n ≠ 0) : 2 * Real.pi * (k : ℝ) / n = 2 * Real.pi * ((k % n : Nat) : ℝ) / n + (k / n : Nat) * (2 * Real.pi) := by
  have h : (k : ℝ) = ((k % n : Nat) : ℝ) + n * ((k / n : Nat) : ℝ) := by exact_mod_cast (Nat.mod_add_div k n).symm
  have hn' : (n : ℝ) ≠ 0 := by exact_mod_cast hn
  rw [h]
  field_simp

theorem cos_turns (n k : Nat) (hn : n ≠ 0) : Real.cos (2 * Real.pi * ((k % n : Nat) : ℝ) / n) = Real.cos (2 * Real.pi * k / n) := by
  rw [turns n k hn, Real.cos_add_nat_mul_two_pi]

theorem sin_turns (n k : Nat) (hn : n ≠ 0) : Real.sin (2 * Real.pi * ((k % n : Nat) : ℝ) / n) = Real.sin (2 * Real.pi * k / n) := by
  rw [turns n k hn, Real.sin_add_nat_mul_two_pi]

/-- The product of two small numbers, as words. -/
theorem prod_int (i j : Nat) (h : i * j < 2 ^ 31) : (IntOp.muli (BitVec.ofNat 32 i) (BitVec.ofNat 32 j)).toInt = ((i * j : Nat) : Int) := by
  unfold IntOp.muli
  rw [← BitVec.ofNat_mul, BitVec.toInt_eq_toNat_of_lt (by rw [BitVec.toNat_ofNat]; omega), BitVec.toNat_ofNat, Nat.mod_eq_of_lt (by omega)]

/-- The remainder of the product by `n`. -/
theorem rem_word (i j n : Nat) (h : i * j < 2 ^ 31) (hn : n ≠ 0) (hn' : n < 2 ^ 31) :
    IntOp.remsi ArithUnit.host (IntOp.muli (BitVec.ofNat 32 i) (BitVec.ofNat 32 j)) (BitVec.ofNat 32 n) = BitVec.ofNat 32 (i * j % n) := by
  have hd : (BitVec.ofNat 32 n).toInt = (n : Int) := by
    rw [BitVec.toInt_eq_toNat_of_lt (by rw [BitVec.toNat_ofNat]; omega), BitVec.toNat_ofNat, Nat.mod_eq_of_lt (by omega)]
  have hm : i * j % n < n := Nat.mod_lt _ (Nat.pos_of_ne_zero hn)
  unfold IntOp.remsi
  rw [if_neg]
  · apply BitVec.eq_of_toInt_eq
    rw [BitVec.toInt_srem, prod_int i j h, hd, BitVec.toInt_eq_toNat_of_lt (by rw [BitVec.toNat_ofNat]; omega), BitVec.toNat_ofNat,
      Nat.mod_eq_of_lt (by omega)]
    exact (Int.ofNat_tmod (i * j) n).symm
  · rintro (h0 | ⟨-, h1⟩)
    · rw [h0] at hd
      have h2 : (0 : Int) = n := hd
      omega
    · rw [h1] at hd
      have h2 : (-1 : Int) = n := hd
      omega

/-- A small number is not negative. -/
theorem slt_zero (a : Nat) (ha : a < 2 ^ 31) : IntOp.cmpi CmpIPredicate.slt (BitVec.ofNat 32 a) 0#32 = 0#1 := by
  have h : (BitVec.ofNat 32 a).toInt = (a : Int) := by
    rw [BitVec.toInt_eq_toNat_of_lt (by rw [BitVec.toNat_ofNat]; omega), BitVec.toNat_ofNat, Nat.mod_eq_of_lt (by omega)]
  have h0 : ¬ ((a : Int) < 0) := by omega
  simp [IntOp.cmpi, BitVec.slt, h, h0]

/-- The correction for unlike signs is not taken between a small number and a divisor that is not negative. -/
theorem no_fix (a : Nat) (d x : BitVec 32) (q : BitVec 1) (ha : a < 2 ^ 31) (hd : IntOp.cmpi CmpIPredicate.slt d 0#32 = 0#1) :
    Scalar.select (IntOp.andi (IntOp.cmpi CmpIPredicate.ne (IntOp.cmpi CmpIPredicate.slt (BitVec.ofNat 32 a) 0#32)
      (IntOp.cmpi CmpIPredicate.slt d 0#32)) q) x (BitVec.ofNat 32 a) = BitVec.ofNat 32 a := by
  rw [slt_zero a ha, hd]
  have e : IntOp.andi (IntOp.cmpi CmpIPredicate.ne 0#1 0#1) q = 0#1 := by revert q; decide
  rw [e]
  rfl

/-- The whole circle, as the programs compute it. -/
theorem circle : Ideal.ofBits .f32 0x40000000#32 * Ideal.acos (Ideal.ofBits .f32 0xBF800000#32) = ((2 * Real.pi : ℝ) : EReal) := by
  rw [show Ideal.ofBits .f32 0x40000000#32 = ((2 : ℝ) : EReal) by
      simp [Ideal.ofBits, Ideal.ieee, -EReal.coe_mul]; norm_num,
    show Ideal.ofBits .f32 0xBF800000#32 = ((-1 : ℝ) : EReal) by
      simp [Ideal.ofBits, Ideal.ieee, -EReal.coe_mul]; norm_num]
  rw [Ideal.acos_coe, if_pos (by norm_num), Real.arccos_neg_one, ← EReal.coe_mul]

/-- The numbers of parts and the channels' factor. -/
theorem bits64 : Ideal.ofBits .f32 0x42800000#32 = ((64 : ℝ) : EReal) := by
  simp [Ideal.ofBits, Ideal.ieee, -EReal.coe_mul]; norm_num
/-- See `bits64`. -/
theorem bits2048 : Ideal.ofBits .f32 0x45000000#32 = ((2048 : ℝ) : EReal) := by
  simp [Ideal.ofBits, Ideal.ieee, -EReal.coe_mul]; norm_num
/-- See `bits64`. -/
theorem bits8 : Ideal.ofBits .f32 0x3E000000#32 = ((1 / 8 : ℝ) : EReal) := by
  simp [Ideal.ofBits, Ideal.ieee, -EReal.coe_mul]; norm_num

/-- The angle of a word. -/
def angle (k : BitVec 32) (n : BitVec 32) : EReal :=
  Ideal.div (Ideal.ofBits .f32 0x40000000#32 * Ideal.acos (Ideal.ofBits .f32 0xBF800000#32) * FloatOps.sitofp (F := Ideal) .f32 k) (Ideal.ofBits .f32 n)

theorem angle_eq (k n : BitVec 32) (a N : Nat) (hk : k.toInt = (a : Int)) (hN : N ≠ 0) (hn : Ideal.ofBits .f32 n = ((N : ℝ) : EReal)) :
    angle k n = ((2 * Real.pi * a / N : ℝ) : EReal) := by
  unfold angle
  rw [circle, hn, Ideal.div_coe (by exact_mod_cast hN)]
  show _ * ((k.toInt : ℝ) : EReal) * _ = _
  rw [hk, ← EReal.coe_mul, ← EReal.coe_mul]
  congr 1
  push_cast
  ring

theorem root_eq (n : BitVec 32) (N : Nat) (hn : Ideal.ofBits .f32 n = ((N : ℝ) : EReal)) : Ideal.sqrt (Ideal.ofBits .f32 n) = ((Real.sqrt N : ℝ) : EReal) := by
  rw [hn, Ideal.sqrt_coe, if_neg (by have : (0 : ℝ) ≤ N := Nat.cast_nonneg N; linarith)]

/-- The reference's entries: the cosine and the sine of the unreduced angle over the root. -/
theorem ref_cos (i j N : Nat) (n : BitVec 32) (h : i * j < 2 ^ 31) (hN : N ≠ 0) (hn : Ideal.ofBits .f32 n = ((N : ℝ) : EReal)) :
    Ideal.div (Ideal.cos (angle (IntOp.muli (BitVec.ofNat 32 i) (BitVec.ofNat 32 j)) n)) (Ideal.sqrt (Ideal.ofBits .f32 n)) = dcos N (i * j) := by
  have hr : Real.sqrt N ≠ 0 := (Real.sqrt_pos.mpr (by exact_mod_cast Nat.pos_of_ne_zero hN)).ne'
  rw [angle_eq _ n (i * j) N (prod_int i j h) hN hn, root_eq n N hn, Ideal.div_coe hr]
  show ((Real.cos _ : ℝ) : EReal) * _ = _
  rw [← EReal.coe_mul, mul_one_div]
  rfl

/-- See `ref_cos`. -/
theorem ref_sin (i j N : Nat) (n : BitVec 32) (h : i * j < 2 ^ 31) (hN : N ≠ 0) (hn : Ideal.ofBits .f32 n = ((N : ℝ) : EReal)) :
    Ideal.div (Ideal.sin (angle (IntOp.muli (BitVec.ofNat 32 i) (BitVec.ofNat 32 j)) n)) (Ideal.sqrt (Ideal.ofBits .f32 n)) = dsin N (i * j) := by
  have hr : Real.sqrt N ≠ 0 := (Real.sqrt_pos.mpr (by exact_mod_cast Nat.pos_of_ne_zero hN)).ne'
  rw [angle_eq _ n (i * j) N (prod_int i j h) hN hn, root_eq n N hn, Ideal.div_coe hr]
  show ((Real.sin _ : ℝ) : EReal) * _ = _
  rw [← EReal.coe_mul, mul_one_div]
  rfl

/-- The angle with whole turns taken off. -/
theorem low_angle (k N : Nat) (n : BitVec 32) (hN : N ≠ 0) (hN' : N < 2 ^ 31) (hn : Ideal.ofBits .f32 n = ((N : ℝ) : EReal)) :
    angle (BitVec.ofNat 32 (k % N)) n = ((2 * Real.pi * ((k % N : Nat) : ℝ) / N : ℝ) : EReal) := by
  have hm : k % N < N := Nat.mod_lt _ (Nat.pos_of_ne_zero hN)
  refine angle_eq _ n _ N ?_ hN hn
  rw [BitVec.toInt_eq_toNat_of_lt (by rw [BitVec.toNat_ofNat]; omega), BitVec.toNat_ofNat, Nat.mod_eq_of_lt (by omega)]

/-- The kernel's tables' cosine of the reduced angle, times the factor. -/
theorem low_cos (k N : Nat) (n : BitVec 32) (r : ℝ) (hN : N ≠ 0) (hN' : N < 2 ^ 31) (hn : Ideal.ofBits .f32 n = ((N : ℝ) : EReal))
    (hr : r = 1 / Real.sqrt N) : Ideal.cos (angle (BitVec.ofNat 32 (k % N)) n) * (r : EReal) = dcos N k := by
  rw [low_angle k N n hN hN' hn]
  show ((Real.cos _ : ℝ) : EReal) * _ = _
  rw [cos_turns _ _ hN, hr, ← EReal.coe_mul, mul_one_div]
  rfl

/-- See `low_cos`. -/
theorem low_sin (k N : Nat) (n : BitVec 32) (r : ℝ) (hN : N ≠ 0) (hN' : N < 2 ^ 31) (hn : Ideal.ofBits .f32 n = ((N : ℝ) : EReal))
    (hr : r = 1 / Real.sqrt N) : Ideal.sin (angle (BitVec.ofNat 32 (k % N)) n) * (r : EReal) = dsin N k := by
  rw [low_angle k N n hN hN' hn]
  show ((Real.sin _ : ℝ) : EReal) * _ = _
  rw [sin_turns _ _ hN, hr, ← EReal.coe_mul, mul_one_div]
  rfl

/-- The channels' factor is one over the root of 64. -/
theorem eighth : (1 / 8 : ℝ) = 1 / Real.sqrt ((64 : Nat) : ℝ) := by
  rw [show ((64 : Nat) : ℝ) = 8 ^ 2 by norm_num, Real.sqrt_sq (by norm_num)]

/-- The positions' factor, as the kernel's table computes it. -/
theorem seq_factor : Ideal.div 1 (Ideal.sqrt (Ideal.ofBits .f32 0x45000000#32)) =
    ((1 / Real.sqrt ((2048 : Nat) : ℝ) : ℝ) : EReal) := by
  have hr : Real.sqrt ((2048 : Nat) : ℝ) ≠ 0 := (Real.sqrt_pos.mpr (by norm_num)).ne'
  rw [root_eq _ 2048 (by rw [bits2048]; norm_num), Ideal.div_coe hr, one_mul]

end Cert.Fourier

end
-- ==== Proof.FourHost.lean ====
module

public import proofs.«01_k».proof.Proof.FourBlock
public import proofs.«01_k».proof.Proof.FourFn

@[expose] public section

set_option maxRecDepth 16384

/-! What the region of the Fourier branch finds in its inputs. -/

noncomputable section

open Idealize.ShloMosaic Idealize.ShloMosaic.TcCoe Idealize.SL.Sem

namespace Cert.Kernel6Ideal.Whole

open Cert.Kernel6Ideal Cert.Kernel6Ideal.Gen Cert.Fourier

/-- A number below 4, compared with another. -/
theorem run_eq : ∀ k l : Fin 4, IntOp.cmpi CmpIPredicate.eq (BitVec.ofNat 32 k.val) (BitVec.ofNat 32 l.val) = if k.val = l.val then 1#1 else 0#1 := by
  decide +kernel

/-- A number below 2, compared with 0. -/
theorem zero_bit : ∀ l : Fin 2, IntOp.cmpi CmpIPredicate.eq (BitVec.ofNat 32 l.val) 0#32 = if l.val = 0 then 1#1 else 0#1 := by
  decide +kernel

/-- The divisors are not zero, so that they are not replaced. -/
theorem divisor_2048 : Scalar.select (IntOp.cmpi CmpIPredicate.eq 2048#32 0#32) 1#32 2048#32 = 2048#32 := rfl
/-- See `divisor_2048`. -/
theorem divisor_64 : Scalar.select (IntOp.cmpi CmpIPredicate.eq 64#32 0#32) 1#32 64#32 = 64#32 := rfl

variable (m : (ℓ : Loc nD τ sig) → Buf (Elt Ideal) ℓ)

/-- The projection's matrix as the region finds it. -/
theorem V_v50 (c : Dev nD) (d : Fin 512) (e : Fin 1024) : V m c main_v50 (ix2 d e) = m ((c : Thread nD τ).loc main_arg2) (ix2 d e) := by
  unfold V
  simp only [hostOps0, hostOps0_1, hostOps0_2, hostOps0_3, hostOps0_4, hostOps0_5, hostOps0_6, hostOps0_7, hostOps0_8, hostOps0_9,
    hostOps0_10, List.flatten_cons, List.flatten_nil,
    List.append_nil, List.cons_append, List.nil_append]
  after_results
  pointwise []

/-- The positions' table as the region finds it. -/
theorem V_v49 (c : Dev nD) (s : Fin 2048) (k : Fin 4096) : V m c main_v49 (ix2 s k) =
    if k.val / 2048 = 0 then dcos 2048 (s.val * (k.val % 2048)) else -dsin 2048 (s.val * (k.val % 2048)) := by
  unfold V
  simp only [hostOps0, hostOps0_1, hostOps0_2, hostOps0_3, hostOps0_4, hostOps0_5, hostOps0_6, hostOps0_7, hostOps0_8, hostOps0_9,
    hostOps0_10, List.flatten_cons, List.flatten_nil,
    List.append_nil, List.cons_append, List.nil_append]
  after_results
  simp only [StableHlo.TRef.toBuf, StableHlo.TRef.ofBuf]
  pointwise []
  simp only [cast_eq, id]
  pointwise []
  have hs := s.isLt
  have hk := k.isLt
  have hp : s.val * (k.val % 2048) < 2 ^ 31 :=
    lt_of_le_of_lt (Nat.mul_le_mul (by omega : s.val ≤ 2048) (by omega : k.val % 2048 ≤ 2048)) (by norm_num)
  have hn : Ideal.ofBits .f32 0x45000000#32 = (((2048 : Nat) : ℝ) : EReal) := by rw [bits2048]; norm_num
  have hm : s.val * (k.val % 2048) % 2048 < 2 ^ 31 := lt_trans (Nat.mod_lt _ (by norm_num)) (by norm_num : 2048 < 2 ^ 31)
  simp only [divisor_2048, rem_word s.val (k.val % 2048) 2048 hp (by norm_num) (by norm_num), no_fix _ 2048#32 _ _ hm (by decide)]
  rw [zero_bit ⟨k.val / 2048, by omega⟩, seq_factor]
  dsimp only
  split
  · exact low_cos (s.val * (k.val % 2048)) 2048 _ _ (by norm_num) (by norm_num) hn rfl
  · exact (neg_mul _ _).trans (congrArg Neg.neg (low_sin (s.val * (k.val % 2048)) 2048 _ _ (by norm_num) (by norm_num) hn rfl))

/-- The channels' table as the region finds it. -/
theorem V_v47 (c : Dev nD) (h : Fin 2) (k : Fin 256) (e : Fin 512) : V m c main_v47 (ix3 h k e) =
    if k.val / 64 = e.val / 64 % 4 then
      (if e.val / 256 = 0 then dcos 64 (k.val % 64 * (e.val % 64)) else dsin 64 (k.val % 64 * (e.val % 64)))
    else 0 := by
  unfold V
  simp only [hostOps0, hostOps0_1, hostOps0_2, hostOps0_3, hostOps0_4, hostOps0_5, hostOps0_6, hostOps0_7, hostOps0_8, hostOps0_9,
    hostOps0_10, List.flatten_cons, List.flatten_nil,
    List.append_nil, List.cons_append, List.nil_append]
  after_results
  simp only [StableHlo.TRef.toBuf, StableHlo.TRef.ofBuf]
  pointwise []
  simp only [cast_eq, id]
  pointwise []
  have hk := k.isLt
  have he := e.isLt
  have hp : k.val % 64 * (e.val % 64) < 2 ^ 31 :=
    lt_of_le_of_lt (Nat.mul_le_mul (by omega : k.val % 64 ≤ 64) (by omega : e.val % 64 ≤ 64)) (by norm_num)
  have hn : Ideal.ofBits .f32 0x42800000#32 = (((64 : Nat) : ℝ) : EReal) := by rw [bits64]; norm_num
  have hm : (k.val % 64) * (e.val % 64) % 64 < 2 ^ 31 := lt_trans (Nat.mod_lt _ (by norm_num)) (by norm_num : 64 < 2 ^ 31)
  simp only [divisor_64, rem_word (k.val % 64) (e.val % 64) 64 hp (by norm_num) (by norm_num), no_fix _ 64#32 _ _ hm (by decide)]
  rw [run_eq ⟨k.val / 64, by omega⟩ ⟨e.val / 64 % 4, by omega⟩, zero_bit ⟨e.val / 256, by omega⟩, bits8]
  dsimp only
  split
  · split
    · exact low_cos ((k.val % 64) * (e.val % 64)) 64 _ _ (by norm_num) (by norm_num) hn eighth
    · exact low_sin ((k.val % 64) * (e.val % 64)) 64 _ _ (by norm_num) (by norm_num) hn eighth
  · rfl

end Cert.Kernel6Ideal.Whole

end
-- ==== Proof.FourWhole.lean ====
module

public import proofs.«01_k».proof.Proof.FourHost

@[expose] public section

set_option maxRecDepth 16384

/-! The Fourier branch over the whole grid. -/

noncomputable section

open Idealize.ShloMosaic Idealize.ShloMosaic.TcCoe Idealize.SL.Sem
open Idealize.ShloMosaic.Pipeline (Dat)

namespace Cert.Kernel6Ideal.Whole

open Cert.Kernel6Ideal Cert.Kernel6Ideal.Gen Cert.Fourier

/-- The channels' table: four groups of 64 channels side by side, the cosines and then the sines. -/
def chanT (k : Fin 256) (e : Fin 512) : EReal :=
  if k.val / 64 = e.val / 64 % 4 then
    (if e.val / 256 = 0 then dcos 64 (k.val % 64 * (e.val % 64)) else dsin 64 (k.val % 64 * (e.val % 64)))
  else 0

/-- The positions' table: the cosines and then the sines, negated. -/
def seqT (s : Fin 2048) (k : Fin 4096) : EReal :=
  if k.val / 2048 = 0 then dcos 2048 (s.val * (k.val % 2048)) else -dsin 2048 (s.val * (k.val % 2048))

section Targets

variable (u : Vec Ideal S16x2048x512 .bf16) (g : Vec Ideal S16x2048x2048 .bf16) (w : Vec Ideal S512x1024 .f32)

/-- The channels' transform of batch `b`: 2048 rows with the cosines, 2048 with the sines. -/
def stageT (b : Fin 16) (j : Fin 4096) (d : Fin 512) : EReal :=
  ∑ k : Fin 256, u (ix3 b ⟨j.val % 2048, by omega⟩ ⟨256 * (d.val / 256) + k.val, by omega⟩) *
    chanT k ⟨256 * (j.val / 2048) + d.val % 256, by omega⟩

/-- The branch's result. -/
def branchT (b : Fin 16) (s : Fin 2048) (e : Fin 1024) : EReal :=
  g (ix3 b s ⟨e.val, by omega⟩) * ∑ d : Fin 512, (∑ k : Fin 4096, seqT s k * stageT u b k d) * w (ix2 d e)

end Targets

/-- The blocks at grid point `t`. -/
theorem index_facts : ∀ t : Fin cfg0.N,
    (win0_0.index t 0 = t.val / 4 ∧ win0_0.index t 1 = 0 ∧ win0_0.index t 2 = 0)
    ∧ (win0_1.index t 0 = 0 ∧ win0_1.index t 1 = 0 ∧ win0_1.index t 2 = 0)
    ∧ (win0_2.index t 0 = t.val % 4 ∧ win0_2.index t 1 = 0)
    ∧ (win0_3.index t 0 = 0 ∧ win0_3.index t 1 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0) :=
  (by decide +kernel : ∀ t : Fin grid0.N,
    (win0_0.index t 0 = t.val / 4 ∧ win0_0.index t 1 = 0 ∧ win0_0.index t 2 = 0)
    ∧ (win0_1.index t 0 = 0 ∧ win0_1.index t 1 = 0 ∧ win0_1.index t 2 = 0)
    ∧ (win0_2.index t 0 = t.val % 4 ∧ win0_2.index t 1 = 0)
    ∧ (win0_3.index t 0 = 0 ∧ win0_3.index t 1 = 0)
    ∧ (win0_4.index t 0 = t.val / 4 ∧ win0_4.index t 1 = t.val % 4 ∧ win0_4.index t 2 = 0)
    ∧ (win0_5.index t 0 = t.val / 4 ∧ win0_5.index t 1 = t.val % 4 ∧ win0_5.index t 2 = 0))

variable (m : (ℓ : Loc nD τ sig) → Buf (Elt Ideal) ℓ) (c : Dev nD) (t : Fin cfg0.N)

/-- The batch's channels. -/
theorem blk0 (s : Fin 2048) (d : Fin 512) (b : Fin 16) (hb : b.val = t.val / 4) :
    iblk m c 0 t (ix3 0 s d) = m ((c : Thread nD τ).loc main_arg0) (ix3 b s d) := by
  refine Eq.trans (congrArg (V m c main_arg0) (funext fun a => Fin.ext ?_)) (congrFun (V_main_arg0 m c) (ix3 b s d))
  obtain ⟨⟨e0, e1, e2⟩, -⟩ := index_facts t
  refine (win0_0.rect_emb_val t (ix3 0 s d) a).trans ?_
  match a with
  | 0 => show win0_0.index t 0 * 1 + 0 = b.val; rw [e0]; omega
  | 1 => show win0_0.index t 1 * 2048 + s.val = s.val; rw [e1]; omega
  | 2 => show win0_0.index t 2 * 512 + d.val = d.val; rw [e2]; omega

/-- The channels' table. -/
theorem blk1 (h : Fin 2) (k : Fin 256) (e : Fin 512) : iblk m c 1 t (ix3 h k e) = chanT k e := by
  refine Eq.trans (congrArg (V m c main_v47) (funext fun a => Fin.ext ?_)) (V_v47 m c h k e)
  obtain ⟨-, ⟨e0, e1, e2⟩, -⟩ := index_facts t
  refine (win0_1.rect_emb_val t (ix3 h k e) a).trans ?_
  match a with
  | 0 => show win0_1.index t 0 * 2 + h.val = h.val; rw [e0]; omega
  | 1 => show win0_1.index t 1 * 256 + k.val = k.val; rw [e1]; omega
  | 2 => show win0_1.index t 2 * 512 + e.val = e.val; rw [e2]; omega

/-- The positions' table at grid point `t`. -/
theorem blk2 (r : Fin 512) (k : Fin 4096) (s : Fin 2048) (hs : s.val = 512 * (t.val % 4) + r.val) : iblk m c 2 t (ix2 r k) = seqT s k := by
  refine Eq.trans (congrArg (V m c main_v49) (funext fun a => Fin.ext ?_)) (V_v49 m c s k)
  obtain ⟨-, -, ⟨e0, e1⟩, -⟩ := index_facts t
  refine (win0_2.rect_emb_val t (ix2 r k) a).trans ?_
  match a with
  | 0 => show win0_2.index t 0 * 512 + r.val = s.val; rw [e0]; omega
  | 1 => show win0_2.index t 1 * 4096 + k.val = k.val; rw [e1]; omega

/-- The projection's matrix. -/
theorem blk3 (d : Fin 512) (e : Fin 1024) : iblk m c 3 t (ix2 d e) = m ((c : Thread nD τ).loc main_arg2) (ix2 d e) := by
  refine Eq.trans (congrArg (V m c main_v50) (funext fun a => Fin.ext ?_)) (V_v50 m c d e)
  obtain ⟨-, -, -, ⟨e0, e1⟩, -⟩ := index_facts t
  refine (win0_3.rect_emb_val t (ix2 d e) a).trans ?_
  match a with
  | 0 => show win0_3.index t 0 * 512 + d.val = d.val; rw [e0]; omega
  | 1 => show win0_3.index t 1 * 1024 + e.val = e.val; rw [e1]; omega

/-- The gates at grid point `t`. -/
theorem blk4 (r : Fin 512) (e : Fin 1024) (b : Fin 16) (hb : b.val = t.val / 4) (s : Fin 2048) (hs : s.val = 512 * (t.val % 4) + r.val) :
    iblk m c 4 t (ix3 0 r e) = m ((c : Thread nD τ).loc main_arg1) (ix3 b s ⟨e.val, by omega⟩) := by
  refine Eq.trans (congrArg (V m c main_arg1) (funext fun a => Fin.ext ?_)) (congrFun (V_main_arg1 m c) (ix3 b s ⟨e.val, by omega⟩))
  obtain ⟨-, -, -, -, ⟨e0, e1, e2⟩, -⟩ := index_facts t
  refine (win0_4.rect_emb_val t (ix3 0 r e) a).trans ?_
  match a with
  | 0 => show win0_4.index t 0 * 1 + 0 = b.val; rw [e0]; omega
  | 1 => show win0_4.index t 1 * 512 + r.val = s.val; rw [e1]; omega
  | 2 => show win0_4.index t 2 * 1024 + e.val = e.val; rw [e2]; omega

/-- The channels' transform of the batch of grid point `t`, from its blocks. -/
theorem stage_eq (b : Fin 16) (hb : b.val = t.val / 4) (j : Fin 4096) (d : Fin 512) :
    Block.stage (iblk m c 0 t) (iblk m c 1 t) (ix2 j d) = stageT (m ((c : Thread nD τ).loc main_arg0)) b j d :=
  Finset.sum_congr rfl fun k _ => congrArg₂ (· * ·) (blk0 m c t _ _ b hb) (blk1 m c t _ k _)

/-- After grid point `n` the scratch holds the transform of its batch: the first point of the batch writes it, the other
    three leave it. -/
theorem scratch_eq (n : Nat) : ∀ (hn : n < cfg0.N) (b : Fin 16), b.val = n / 4 → ∀ (j : Fin 4096) (d : Fin 512),
    (outsAt0 m c n hn).2 (ix2 j d) = stageT (m ((c : Thread nD τ).loc main_arg0)) b j d := by
  induction n with
  | zero =>
    intro hn b hb j d
    have h := congrArg Prod.snd (outsAt0_A m c ⟨0, hn⟩ rfl)
    refine (congrFun h (ix2 j d)).trans ?_
    dsimp only
    rw [Block.scratch_eq]
    exact stage_eq m c ⟨0, hn⟩ b hb j d
  | succ n ih =>
    intro hn b hb j d
    by_cases h0 : (n + 1) % 4 = 0
    · have h := congrArg Prod.snd (outsAt0_A m c ⟨n + 1, hn⟩ h0)
      refine (congrFun h (ix2 j d)).trans ?_
      dsimp only
      rw [Block.scratch_eq]
      exact stage_eq m c ⟨n + 1, hn⟩ b hb j d
    · have h := congrArg Prod.snd (outsAt0_B m c ⟨n + 1, hn⟩ h0)
      refine (congrFun h (ix2 j d)).trans ?_
      exact ih (Nat.lt_of_succ_lt hn) b (by omega) j d

/-- What is written back at grid point `t`: its positions' transform, projected and gated. -/
theorem pay_eq (v : Vec Ideal S4096x512 .bf16) (r : Fin 512) (e : Fin 1024) (b : Fin 16) (hb : b.val = t.val / 4) (s : Fin 2048)
    (hs : s.val = 512 * (t.val % 4) + r.val) (hv : ∀ j d, v (ix2 j d) = stageT (m ((c : Thread nD τ).loc main_arg0)) b j d) :
    k0_pay7 (F := Ideal) (iblk m c 2 t) v (iblk m c 3 t) (iblk m c 4 t) (ix3 0 r e) =
      branchT (m ((c : Thread nD τ).loc main_arg0)) (m ((c : Thread nD τ).loc main_arg1)) (m ((c : Thread nD τ).loc main_arg2)) b s e :=
  (Block.pay7_apply _ _ _ _ r e).trans (congrArg₂ (· * ·) (blk4 m c t r e b hb s hs) (Finset.sum_congr rfl fun d _ =>
    congrArg₂ (· * ·) (Finset.sum_congr rfl fun k _ => congrArg₂ (· * ·) (blk2 m c t r k s hs) (hv k d)) (blk3 m c t d e)))

/-- The result after the whole grid has run. -/
theorem final5 (b : Fin 16) (s : Fin 2048) (e : Fin 1024) :
    (dats m 0 c).arrAt 5 cfg0.N (ix3 b s e) =
      branchT (m ((c : Thread nD τ).loc main_arg0)) (m ((c : Thread nD τ).loc main_arg1)) (m ((c : Thread nD τ).loc main_arg2)) b s e := by
  have hN : cfg0.N = 64 := N_0
  have hlb := b.isLt
  have hls := s.isLt
  obtain ⟨t, ht⟩ : ∃ t : Fin cfg0.N, t.val = 4 * b.val + s.val / 512 := ⟨⟨4 * b.val + s.val / 512, by omega⟩, rfl⟩
  obtain ⟨r, hr⟩ : ∃ r : Fin 512, r.val = s.val % 512 := ⟨⟨s.val % 512, by omega⟩, rfl⟩
  have hb := congrFun (Cert.Kernel6Ideal.Value.blocks5 m c t (flush0_5 t)) (ix3 0 r e)
  have hj : ((cfg0.win 5).blk t).view.emb (ix3 0 r e) = ix3 b s e := by
    funext a
    obtain ⟨-, -, -, -, -, e0, e1, e2⟩ := index_facts t
    refine Fin.ext ((win0_5.rect_emb_val t (ix3 0 r e) a).trans ?_)
    match a with
    | 0 => show win0_5.index t 0 * 1 + 0 = b.val; rw [e0]; omega
    | 1 => show win0_5.index t 1 * 512 + r.val = s.val; rw [e1]; omega
    | 2 => show win0_5.index t 2 * 1024 + e.val = e.val; rw [e2]; omega
  rw [← hj]
  refine hb.trans ?_
  by_cases h0 : t.val % 4 = 0
  · rw [Cert.Kernel6Ideal.Value.flushed5_A m c t h0, Block.out_first]
    exact pay_eq m c t _ r e b (by omega) s (by omega) (stage_eq m c t b (by omega))
  · rw [Cert.Kernel6Ideal.Value.flushed5_B m c t h0, Block.out_next]
    exact pay_eq m c t _ r e b (by omega) s (by omega) (scratch_eq m c (t.val - 1) (Nat.lt_of_le_of_lt (Nat.sub_le _ _) t.isLt) b (by omega))

end Cert.Kernel6Ideal.Whole

end
-- ==== Proof.FourRef.lean ====
module

public import proofs.«01_k».proof.Proof.FourWhole
public import proofs.«01_k».proof.Proof.Gen.Reference6Ideal.Run
public import proofs.«01_k».proof.Proof.Gen.Reference6Ideal.Read

@[expose] public section

set_option maxRecDepth 16384

/-! The reference of the Fourier branch, read at an index, and that the kernel's sums are the reference's. -/

noncomputable section

open Idealize.ShloMosaic Idealize.ShloMosaic.TcCoe Idealize.SL.Sem

namespace Cert.Reference6Ideal.RefValue

open Cert.Reference6Ideal Cert.Reference6Ideal.Gen Cert.Reference6Ideal.Read Cert.Fourier

open Cert.Kernel6Ideal.Whole (chanT seqT stageT branchT)

/-- The products of two places in a transform are small. -/
theorem prod_small {n : Nat} (hn : n ≤ 2048) (i j : Fin n) : i.val * j.val < 2 ^ 31 :=
  lt_of_le_of_lt (Nat.mul_le_mul (by omega : i.val ≤ 2048) (by omega : j.val ≤ 2048)) (by norm_num)

/-- The channels' cosines. -/
theorem v18_apply (c d : Fin 64) : val_main_v18 (F := Ideal) (ix2 c d) = dcos 64 (c.val * d.val) := by
  pointwise [val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_cst, val_main_cst_0,
    val_main_cst_1, val_main_cst_2]
  exact ref_cos c.val d.val 64 _ (prod_small (by norm_num) c d) (by norm_num) (by rw [bits64]; norm_num)

/-- The channels' sines. -/
theorem v22_apply (c d : Fin 64) : val_main_v22 (F := Ideal) (ix2 c d) = dsin 64 (c.val * d.val) := by
  pointwise [val_main_v22, val_main_v21, val_main_v20, val_main_v19, val_main_v14, val_main_v13, val_main_v12, val_main_v11, val_main_v10,
    val_main_v9, val_main_v8, val_main_v7, val_main_v6, val_main_v5, val_main_v4, val_main_v3, val_main_v2, val_main_cst, val_main_cst_0,
    val_main_cst_1, val_main_cst_3]
  exact ref_sin c.val d.val 64 _ (prod_small (by norm_num) c d) (by norm_num) (by rw [bits64]; norm_num)

/-- The positions' cosines. -/
theorem v39_apply (s t : Fin 2048) : val_main_v39 (F := Ideal) (ix2 s t) = dcos 2048 (s.val * t.val) := by
  pointwise [val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_cst_4, val_main_cst_5,
    val_main_cst_6, val_main_cst_7]
  exact ref_cos s.val t.val 2048 _ (prod_small (by norm_num) s t) (by norm_num) (by rw [bits2048]; norm_num)

/-- The positions' sines, negated. -/
theorem v48_apply (s t : Fin 2048) : val_main_v48 (F := Ideal) (ix2 s t) = -dsin 2048 (s.val * t.val) := by
  pointwise [val_main_v48, val_main_v43, val_main_v42, val_main_v41, val_main_v40, val_main_v35, val_main_v34, val_main_v33, val_main_v32, val_main_v31,
    val_main_v30, val_main_v29, val_main_v28, val_main_v27, val_main_v26, val_main_v25, val_main_v24, val_main_v23, val_main_cst_4, val_main_cst_5,
    val_main_cst_6, val_main_cst_8]
  exact congrArg Neg.neg (ref_sin s.val t.val 2048 _ (prod_small (by norm_num) s t) (by norm_num) (by rw [bits2048]; norm_num))

variable (u : Vec Ideal S16x2048x512 .bf16) (g : Vec Ideal S16x2048x2048 .bf16) (w : Vec Ideal S512x1024 .f32)

/-- One group's channels transformed by the matrix `f`. -/
def group (f : Nat → EReal) (b : Fin 16) (t : Fin 2048) (d : Fin 512) : EReal :=
  ∑ c : Fin 64, u (ix3 b t ⟨64 * (d.val / 64) + c.val, by omega⟩) * f (c.val * (d.val % 64))

/-- The groups' channels, as the reference reads them. -/
theorem v1_apply (b : Fin 16) (t : Fin 2048) (q : Fin 8) (c : Fin 64) :
    val_main_v1 (F := Ideal) u (ix4 b t q c) = u (ix3 b t ⟨64 * q.val + c.val, by omega⟩) := by
  have h := val_main_v0_apply (F := Ideal) u (ix4 b t q c)
  refine Eq.trans h (congrArg u (funext fun a => Fin.ext ?_))
  have hb := b.isLt
  have ht := t.isLt
  have hq := q.isLt
  have hc := c.isLt
  match a with
  | ⟨0, _⟩ => show (((b.val * 2048 + t.val) * 8 + q.val) * 64 + c.val) / 1048576 = b.val; omega
  | ⟨1, _⟩ => show (((b.val * 2048 + t.val) * 8 + q.val) * 64 + c.val) / 512 % 2048 = t.val; omega
  | ⟨2, _⟩ => show (((b.val * 2048 + t.val) * 8 + q.val) * 64 + c.val) % 512 = 64 * q.val + c.val; omega

/-- The channels' transform with the cosines. -/
theorem v44_apply (b : Fin 16) (t : Fin 2048) (d : Fin 512) :
    val_main_v44 (F := Ideal) u (ix4 b t ⟨d.val / 64, by omega⟩ ⟨d.val % 64, by omega⟩) = group u (dcos 64) b t d := by
  refine (val_main_v44_apply u _).trans (Finset.sum_congr rfl fun c _ => congrArg₂ (· * ·) ?_ ?_)
  · exact (congrArg _ (funext fun a => match a with | ⟨0, _⟩ => rfl | ⟨1, _⟩ => rfl | ⟨2, _⟩ => rfl | ⟨3, _⟩ => rfl)).trans
      (v1_apply u b t ⟨d.val / 64, by omega⟩ c)
  · exact (congrArg _ (funext fun a => match a with | ⟨0, _⟩ => rfl | ⟨1, _⟩ => rfl)).trans (v18_apply c ⟨d.val % 64, by omega⟩)

/-- The channels' transform with the sines. -/
theorem v45_apply (b : Fin 16) (t : Fin 2048) (d : Fin 512) :
    val_main_v45 (F := Ideal) u (ix4 b t ⟨d.val / 64, by omega⟩ ⟨d.val % 64, by omega⟩) = group u (dsin 64) b t d := by
  refine (val_main_v45_apply u _).trans (Finset.sum_congr rfl fun c _ => congrArg₂ (· * ·) ?_ ?_)
  · exact (congrArg _ (funext fun a => match a with | ⟨0, _⟩ => rfl | ⟨1, _⟩ => rfl | ⟨2, _⟩ => rfl | ⟨3, _⟩ => rfl)).trans
      (v1_apply u b t ⟨d.val / 64, by omega⟩ c)
  · exact (congrArg _ (funext fun a => match a with | ⟨0, _⟩ => rfl | ⟨1, _⟩ => rfl)).trans (v22_apply c ⟨d.val % 64, by omega⟩)

/-- The positions' transform: the cosines' sum and the sines' sum. -/
def freq (b : Fin 16) (s : Fin 2048) (d : Fin 512) : EReal :=
  ∑ t : Fin 2048, group u (dcos 64) b t d * dcos 2048 (s.val * t.val) + ∑ t : Fin 2048, group u (dsin 64) b t d * -dsin 2048 (s.val * t.val)

/-- The transform as the reference computes it. -/
theorem v52_apply (b : Fin 16) (s : Fin 2048) (d : Fin 512) : val_main_v52 (F := Ideal) u (ix3 b s d) = freq u b s d := by
  have hb := b.isLt
  have hs := s.isLt
  have hd := d.isLt
  refine (val_main_v52_apply (F := Ideal) u (ix3 b s d)).trans ?_
  have hi : idx_main_v52 (ix3 b s d) = ix4 b s ⟨d.val / 64, by omega⟩ ⟨d.val % 64, by omega⟩ := by
    funext a
    refine Fin.ext ?_
    match a with
    | ⟨0, _⟩ => show ((b.val * 2048 + s.val) * 512 + d.val) / 1048576 = b.val; omega
    | ⟨1, _⟩ => show ((b.val * 2048 + s.val) * 512 + d.val) / 512 % 2048 = s.val; omega
    | ⟨2, _⟩ => show ((b.val * 2048 + s.val) * 512 + d.val) / 64 % 8 = d.val / 64; omega
    | ⟨3, _⟩ => show ((b.val * 2048 + s.val) * 512 + d.val) % 64 = d.val % 64; omega
  rw [hi, val_main_v51_apply, val_main_v47_apply, val_main_v50_apply]
  refine congrArg₂ (· + ·) ?_ ?_
  · refine (val_main_v46_apply u _).trans (Finset.sum_congr rfl fun t _ => congrArg₂ (· * ·) ?_ ?_)
    · exact (congrArg _ (funext fun a => match a with | ⟨0, _⟩ => rfl | ⟨1, _⟩ => rfl | ⟨2, _⟩ => rfl | ⟨3, _⟩ => rfl)).trans (v44_apply u b t d)
    · exact (congrArg _ (funext fun a => match a with | ⟨0, _⟩ => rfl | ⟨1, _⟩ => rfl)).trans (v39_apply s t)
  · refine (val_main_v49_apply u _).trans (Finset.sum_congr rfl fun t _ => congrArg₂ (· * ·) ?_ ?_)
    · exact (congrArg _ (funext fun a => match a with | ⟨0, _⟩ => rfl | ⟨1, _⟩ => rfl | ⟨2, _⟩ => rfl | ⟨3, _⟩ => rfl)).trans (v45_apply u b t d)
    · exact (congrArg _ (funext fun a => match a with | ⟨0, _⟩ => rfl | ⟨1, _⟩ => rfl)).trans (v48_apply s t)

/-- The kernel's sum over 256 channels is the sum over the 64 of the channel's own group: the table is zero elsewhere. -/
theorem stage_group (b : Fin 16) (q : Fin 2) (t : Fin 2048) (d : Fin 512) (j : Fin 4096) (hj : j.val = 2048 * q.val + t.val) :
    stageT u b j d = group u (if q.val = 0 then dcos 64 else dsin 64) b t d := by
  have hq := q.isLt
  have ht := t.isLt
  have hd := d.isLt
  unfold stageT group
  let E : Fin 4 × Fin 64 ≃ Fin 256 := finProdFinEquiv
  have hE (a : Fin 4) (c : Fin 64) : (E (a, c)).val = 64 * a.val + c.val := show c.val + 64 * a.val = 64 * a.val + c.val from Nat.add_comm _ _
  rw [← E.sum_comp, Fintype.sum_prod_type, Finset.sum_eq_single ⟨d.val / 64 % 4, by omega⟩]
  · refine Finset.sum_congr rfl fun c _ => ?_
    have hc := c.isLt
    have h := hE ⟨d.val / 64 % 4, by omega⟩ c
    dsimp only at h
    refine congrArg₂ (· * ·) (congrArg u (funext fun a => Fin.ext ?_)) ?_
    · match a with
      | ⟨0, _⟩ => rfl
      | ⟨1, _⟩ => show j.val % 2048 = t.val; omega
      | ⟨2, _⟩ => show 256 * (d.val / 256) + (E (⟨d.val / 64 % 4, by omega⟩, c)).val = 64 * (d.val / 64) + c.val; rw [h]; omega
    · unfold chanT
      dsimp only
      rw [if_pos (by rw [h]; omega), show (256 * (j.val / 2048) + d.val % 256) / 256 = q.val by omega,
        show (256 * (j.val / 2048) + d.val % 256) % 64 = d.val % 64 by omega, show (E (⟨d.val / 64 % 4, by omega⟩, c)).val % 64 = c.val by rw [h]; omega]
      split <;> rfl
  · intro a _ ha
    refine Finset.sum_eq_zero fun c _ => ?_
    have hc := c.isLt
    unfold chanT
    dsimp only
    rw [if_neg, mul_zero]
    rw [hE]
    intro h
    exact ha (Fin.ext (by dsimp only; omega))
  · intro h; exact absurd (Finset.mem_univ _) h

/-- The kernel's one sum of 4096 terms is the reference's two sums. -/
theorem freq_eq (b : Fin 16) (s : Fin 2048) (d : Fin 512) : ∑ k : Fin 4096, seqT s k * stageT u b k d = freq u b s d := by
  let E : Fin 2 × Fin 2048 ≃ Fin 4096 := finProdFinEquiv
  have hE (q : Fin 2) (t : Fin 2048) : (E (q, t)).val = 2048 * q.val + t.val := show t.val + 2048 * q.val = 2048 * q.val + t.val from Nat.add_comm _ _
  rw [← E.sum_comp, Fintype.sum_prod_type, Fin.sum_univ_two]
  unfold freq
  refine congrArg₂ (· + ·) (Finset.sum_congr rfl fun t _ => ?_) (Finset.sum_congr rfl fun t _ => ?_)
  · rw [stage_group u b 0 t d _ (hE 0 t), mul_comm, if_pos (show (0 : Fin 2).val = 0 from rfl)]
    have h : (E (0, t)).val = t.val := (hE 0 t).trans (by simp)
    unfold seqT
    rw [h, if_pos (by omega), show t.val % 2048 = t.val by omega]
  · rw [stage_group u b 1 t d _ (hE 1 t), mul_comm, if_neg (by decide)]
    have h : (E (1, t)).val = 2048 + t.val := (hE 1 t).trans (by simp)
    unfold seqT
    rw [h, if_neg (by omega), show (2048 + t.val) % 2048 = t.val by omega]

/-- The reference's result is the kernel's. -/
theorem v57_apply (b : Fin 16) (s : Fin 2048) (e : Fin 1024) : val_main_v57 (F := Ideal) u g w (ix3 b s e) = branchT u g w b s e := by
  show (val_main_v54 (F := Ideal) g (ix3 b s e) : EReal) * val_main_v53 (F := Ideal) u w (ix3 b s e) = _
  unfold branchT
  refine congrArg₂ (· * ·) ?_ ?_
  · refine (val_main_v54_apply (F := Ideal) g (ix3 b s e)).trans (congrArg g (funext fun a => Fin.ext ?_))
    match a with
    | ⟨0, _⟩ => rfl
    | ⟨1, _⟩ => rfl
    | ⟨2, _⟩ => rfl
  · refine (val_main_v53_apply u w _).trans (Finset.sum_congr rfl fun d _ => congrArg₂ (· * ·) ?_ ?_)
    · exact (congrArg _ (funext fun a => match a with | ⟨0, _⟩ => rfl | ⟨1, _⟩ => rfl | ⟨2, _⟩ => rfl)).trans
        ((v52_apply u b s d).trans (freq_eq u b s d).symm)
    · exact congrArg w (funext fun a => match a with | ⟨0, _⟩ => rfl | ⟨1, _⟩ => rfl)

end Cert.Reference6Ideal.RefValue

end
-- ==== Proof.FourClaims.lean ====
module

public import proofs.«01_k».proof.Defs
public import proofs.«01_k».proof.Proof.FourRef
public import proofs.«01_k».proof.Proof.Gen.Kernel6.Frame
public import proofs.«01_k».proof.Proof.Gen.Kernel6Ideal.Frame

@[expose] public section

set_option maxRecDepth 16384

/-! The claims about the Fourier branch. -/

noncomputable section

namespace Cert.Proof

open Idealize.ShloMosaic Idealize.SL.Sem Cert

/-- The Fourier branch's reference runs and leaves its arguments as they were; it has no semaphore. -/
theorem frame_reference6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The Fourier branch's kernel is read as printed. -/
theorem preserves_fourier : Cert.preserves_Kernel6_Kernel6Ideal := trivial

/-- The Fourier branch: the kernel's result is the reference's. -/
theorem algebraic_fourier : Cert.algebraic_Kernel6Ideal_Reference6Ideal := by
  intro m g m' g' _ hagree
  refine ⟨fun c => (Cert.Kernel6Ideal.Gen.dats m 0 c).arrAt 5 Cert.Kernel6Ideal.cfg0.N, Cert.Kernel6Ideal.Value.run_blocks m g, ?_⟩
  refine (θ_run Cert.Reference6Ideal.defs _ _).mono (fun r h c => ⟨?_, (h c).2⟩)
    (Cert.Reference6Ideal.Value.run (F := Ideal) m' g')
  refine (h c).1.trans ?_
  rw [Cert.Reference6Ideal.Read.val_main_v57_eq]
  obtain ⟨h0, h1, h2⟩ := hagree c
  rw [h0, h1, h2]
  refine funext fun (j : Cert.Kernel6Ideal.S16x2048x1024.Idx) => ?_
  obtain ⟨b, s, e, rfl⟩ : ∃ (b : Fin 16) (s : Fin 2048) (e : Fin 1024), j = ix3 b s e :=
    ⟨j 0, j 1, j 2, funext fun a => match a with | 0 => rfl | 1 => rfl | 2 => rfl⟩
  exact (Cert.Reference6Ideal.RefValue.v57_apply _ _ _ b s e).trans (Cert.Kernel6Ideal.Whole.final5 m c b s e).symm

end Cert.Proof

end
-- ==== Proof.FinishRow.lean ====
module

public import proofs.«01_k».proof.Proof.Layer
public import Idealize.ShloMosaic.PureOps.Ideal
public import Idealize.ShloMosaic.Lib.Pointwise

@[expose] public section

/-! The last normalisation of a row, with no program in sight: two numbers in one word, and the weighted sum of eight rows. -/

noncomputable section

open Idealize.ShloMosaic

namespace Cert.Finish

/-- The number a word holds for column `e`: its low half for the first 512 columns, its high half for the others. -/
def num (e : Fin 1024) (w : BitVec 32) : EReal :=
  if e.val < 512 then Ideal.ofBits .bf16 (w.extractLsb' 0 16) else Ideal.ofBits .bf16 (w.extractLsb' 16 16)

/-- Sixteen bits read as a number of sixteen bits are the same sixteen bits above sixteen zeros read as one of thirty-two. -/
theorem wide (h : BitVec 16) : Ideal.ofBits .f32 (h ++ 0#16) = Ideal.ofBits .bf16 h := by
  have hs : (h ++ 0#16).extractLsb' 31 1 = h.extractLsb' 15 1 := by
    refine BitVec.eq_of_toNat_eq ?_
    simp only [BitVec.extractLsb'_toNat, BitVec.toNat_append, Nat.shiftRight_eq_div_pow, BitVec.toNat_ofNat, Nat.zero_mod, Nat.or_zero,
      Nat.shiftLeft_eq]
    omega
  have hx : (h ++ 0#16).extractLsb' 23 8 = h.extractLsb' 7 8 := by
    refine BitVec.eq_of_toNat_eq ?_
    simp only [BitVec.extractLsb'_toNat, BitVec.toNat_append, Nat.shiftRight_eq_div_pow, BitVec.toNat_ofNat, Nat.zero_mod, Nat.or_zero,
      Nat.shiftLeft_eq]
    omega
  have hf : ((h ++ 0#16).extractLsb' 0 23).toNat = (h.extractLsb' 0 7).toNat * 65536 := by
    simp only [BitVec.extractLsb'_toNat, BitVec.toNat_append, Nat.shiftRight_zero, BitVec.toNat_ofNat, Nat.zero_mod, Nat.or_zero,
      Nat.shiftLeft_eq]
    omega
  have ht : (h.extractLsb' 0 7).toNat * 65536 = 0 ↔ (h.extractLsb' 0 7).toNat = 0 := by omega
  simp only [Ideal.ofBits, Ideal.ieee, hf, show 8 + 23 = 31 from rfl, show 8 + 7 = 15 from rfl]
  simp only [hs, hx, ht]
  split
  · rfl
  split
  · refine congrArg (fun r : ℝ => (r : EReal)) ?_
    rw [show ((1 : Int) - (2 ^ (8 - 1) - 1) - ((7 : Nat) : Int)) = ((1 : Int) - (2 ^ (8 - 1) - 1) - ((23 : Nat) : Int)) + 16 by norm_num,
      zpow_add₀ (by norm_num)]
    norm_num
    ring_nf
  · refine congrArg (fun r : ℝ => (r : EReal)) ?_
    rw [show (((h.extractLsb' 7 8).toNat : Int) - (2 ^ (8 - 1) - 1) - ((7 : Nat) : Int))
        = (((h.extractLsb' 7 8).toNat : Int) - (2 ^ (8 - 1) - 1) - ((23 : Nat) : Int)) + 16 by push_cast; ring,
      zpow_add₀ (by norm_num)]
    push_cast
    ring

/-- A word shifted up by sixteen holds its low half. -/
theorem low (w : BitVec 32) : Ideal.ofBits .f32 (w <<< 16) = Ideal.ofBits .bf16 (w.extractLsb' 0 16) := by
  rw [← wide]
  refine congrArg (Ideal.ofBits .f32) (BitVec.eq_of_toNat_eq ?_)
  simp only [BitVec.toNat_shiftLeft, BitVec.extractLsb'_toNat, BitVec.toNat_append, Nat.shiftRight_zero, BitVec.toNat_ofNat, Nat.zero_mod,
    Nat.or_zero, Nat.shiftLeft_eq]
  omega

/-- A word is its two halves. -/
theorem halves (w : BitVec 32) : w = w.extractLsb' 16 16 ++ w.extractLsb' 0 16 := by
  refine BitVec.eq_of_toNat_eq ?_
  have hw := w.isLt
  rw [BitVec.toNat_append, ← Nat.shiftLeft_add_eq_or_of_lt (BitVec.isLt _), Nat.shiftLeft_eq]
  simp only [BitVec.extractLsb'_toNat, Nat.shiftRight_eq_div_pow]
  omega

/-- A word with its low half cleared holds its high half. -/
theorem high (w : BitVec 32) : Ideal.ofBits .f32 (w &&& 4294901760#32) = Ideal.ofBits .bf16 (w.extractLsb' 16 16) := by
  rw [← wide]
  refine congrArg (Ideal.ofBits .f32) ?_
  have hm : (4294901760#32 : BitVec (16 + 16)) = BitVec.allOnes 16 ++ 0#16 := by decide
  refine (congrArg₂ (fun x y : BitVec (16 + 16) => x &&& y) (halves w) hm).trans ?_
  show (_ ++ _) &&& (_ ++ _) = _
  rw [BitVec.and_append, BitVec.and_allOnes, BitVec.and_zero]

/-- A row before the normalisation: the given row and the weighted sum of eight rows, each in 512 words. -/
def row (p : Fin 1024 → EReal) (wt : Fin 8 → EReal) (words : Fin 4 → Fin 8 → Fin 128 → BitVec 32) (e : Fin 1024) : EReal :=
  p e + ∑ j : Fin 8, wt j * num e (words ⟨e.val / 128 % 4, Nat.mod_lt _ (by decide)⟩ j ⟨e.val % 128, Nat.mod_lt _ (by decide)⟩)

/-- The rows of equal entries. -/
theorem row_congr {p p' : Fin 1024 → EReal} {wt wt' : Fin 8 → EReal} {x x' : Fin 4 → Fin 8 → Fin 128 → BitVec 32}
    (h0 : ∀ e, p e = p' e) (h1 : ∀ j, wt j = wt' j) (h2 : ∀ k j l, x k j l = x' k j l) : row p wt x = row p' wt' x' := by
  obtain rfl := funext h0
  obtain rfl := funext h1
  obtain rfl : x = x' := funext fun k => funext fun j => funext (h2 k j)
  rfl

end Cert.Finish

end
-- ==== Proof.FinishBlock.lean ====
module

public import proofs.«01_k».proof.Defs
public import proofs.«01_k».proof.Proof.Gen.Kernel7Ideal.Frame
public import proofs.«01_k».proof.Proof.FinishRow
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384

/-! The last normalisation, at one grid point: 512 rows. -/

noncomputable section

open Idealize.ShloMosaic Idealize.ShloMosaic.TcCoe Idealize.SL.Sem

namespace Cert.Kernel7Ideal.Block

open Cert.Kernel7Ideal Cert.Kernel7Ideal.Gen

/-- The words of 128 columns as a matrix. -/
def flat (x : Vec Ideal S1x1x512x128 .i32) : IVec S512x128 32 := shapeCast S512x128 x shapeCasts_S1x1x512x128_S512x128

/-- The numbers in the low halves. -/
def lows (x : Vec Ideal S1x1x512x128 .i32) : FVec Ideal S512x128 .f32 :=
  bitcastToFloat .f32 (shli (flat x) (broadcast S512x128 16#32))

/-- The numbers in the high halves. -/
def highs (x : Vec Ideal S1x1x512x128 .i32) : FVec Ideal S512x128 .f32 :=
  bitcastToFloat .f32 (andi (flat x) (broadcast S512x128 4294901760#32))

/-- The eight runs of 128 columns of one expert's rows. -/
def runs (x : Fin 4 → Vec Ideal S1x1x512x128 .i32) : Fin 8 → FVec Ideal S512x128 .f32
  | 0 => lows (x 0) | 1 => lows (x 1) | 2 => lows (x 2) | 3 => lows (x 3)
  | 4 => highs (x 0) | 5 => highs (x 1) | 6 => highs (x 2) | 7 => highs (x 3)

/-- One expert's rows, weighted, added to what has been summed. -/
def step (a : FVec Ideal S512x1024 .f32) (u : Vec Ideal S512x1 .f32) (x : Fin 4 → Vec Ideal S1x1x512x128 .i32) : FVec Ideal S512x1024 .f32 :=
  addf a (mulf (broadcastTo S512x1024 u broadcasts_S512x1_S512x1024)
    (concatenate S512x1024 1 [⟨S512x128, lows (x 0)⟩, ⟨S512x128, lows (x 1)⟩, ⟨S512x128, lows (x 2)⟩, ⟨S512x128, lows (x 3)⟩,
      ⟨S512x128, highs (x 0)⟩, ⟨S512x128, highs (x 1)⟩, ⟨S512x128, highs (x 2)⟩, ⟨S512x128, highs (x 3)⟩]
      concatenates_S512x128_S512x128_S512x128_S512x128_S512x128_S512x128_S512x128_S512x128_S512x1024_d1))

/-- A word of the matrix. -/
theorem flat_apply (x : Vec Ideal S1x1x512x128 .i32) (p : Fin 512) (l : Fin 128) : flat x (ix2 p l) = x (ix4 0 0 p l) := by
  pointwise [flat]

/-- A low half. -/
theorem lows_apply (x : Vec Ideal S1x1x512x128 .i32) (p : Fin 512) (l : Fin 128) :
    lows x (ix2 p l) = Ideal.ofBits .bf16 ((x (ix4 0 0 p l) : BitVec 32).extractLsb' 0 16) := by
  rw [← Finish.low, ← flat_apply x p l]
  rfl

/-- A high half. -/
theorem highs_apply (x : Vec Ideal S1x1x512x128 .i32) (p : Fin 512) (l : Fin 128) :
    highs x (ix2 p l) = Ideal.ofBits .bf16 ((x (ix4 0 0 p l) : BitVec 32).extractLsb' 16 16) := by
  rw [← Finish.high, ← flat_apply x p l]
  rfl

/-- A number of the runs. -/
theorem runs_apply (x : Fin 4 → Vec Ideal S1x1x512x128 .i32) (p : Fin 512) (e : Fin 1024) (n : Fin 8) (k : Fin 4) (l : Fin 128)
    (hn : n.val = e.val / 128) (hk : k.val = n.val % 4) : runs x n (ix2 p l) = Finish.num e (x k (ix4 0 0 p l)) := by
  unfold Finish.num
  obtain rfl : k = ⟨n.val % 4, Nat.mod_lt _ (by decide)⟩ := Fin.ext hk
  match n, hn with
  | 0, hn | 1, hn | 2, hn | 3, hn => exact (lows_apply _ p l).trans (if_pos (by simp at hn; omega)).symm
  | 4, hn | 5, hn | 6, hn | 7, hn => exact (highs_apply _ p l).trans (if_neg (by simp at hn; omega)).symm

/-- One expert's rows, weighted, added. -/
theorem step_apply (a : FVec Ideal S512x1024 .f32) (u : Vec Ideal S512x1 .f32) (x : Fin 4 → Vec Ideal S1x1x512x128 .i32)
    (p : Fin 512) (e : Fin 1024) :
    step a u x (ix2 p e) = a (ix2 p e) + u (ix2 p 0) *
      Finish.num e (x ⟨e.val / 128 % 4, Nat.mod_lt _ (by decide)⟩ (ix4 0 0 p ⟨e.val % 128, Nat.mod_lt _ (by decide)⟩)) := by
  have h : concatenate S512x1024 1 [⟨S512x128, lows (x 0)⟩, ⟨S512x128, lows (x 1)⟩, ⟨S512x128, lows (x 2)⟩, ⟨S512x128, lows (x 3)⟩,
      ⟨S512x128, highs (x 0)⟩, ⟨S512x128, highs (x 1)⟩, ⟨S512x128, highs (x 2)⟩, ⟨S512x128, highs (x 3)⟩]
      concatenates_S512x128_S512x128_S512x128_S512x128_S512x128_S512x128_S512x128_S512x128_S512x1024_d1 (ix2 p e) =
      runs x ⟨e.val / 128, by omega⟩ (ix2 p ⟨e.val % 128, Nat.mod_lt _ (by decide)⟩) :=
    concatenate_ofFn_apply (t := S512x1024) (s₁ := S512x128) 1 (runs x)
      concatenates_S512x128_S512x128_S512x128_S512x128_S512x128_S512x128_S512x128_S512x128_S512x1024_d1 rfl 128 rfl (ix2 p e)
      ⟨e.val / 128, by omega⟩ rfl (ix2 p ⟨e.val % 128, Nat.mod_lt _ (by decide)⟩) rfl
      (fun b hb => match b, hb with | 0, _ => rfl | 1, hb => absurd rfl hb)
  refine congrArg (a (ix2 p e) + ·) (congrArg₂ (· * ·) ?_ (h.trans (runs_apply x p e _ _ _ rfl rfl)))
  pointwise []

variable (x0 : Vec Ideal S512x1024 .f32) (x1 : Vec Ideal S512x8 .f32) (x2 : Vec Ideal S4x8x512x128 .i32)
  (x3 x4 : Vec Ideal S1x1024 .f32)

/-- What is normalised, from the loaded vectors. -/
def summed : FVec Ideal S512x1024 .f32 :=
  step (step (step (step (step (step (step (step (View.ld x0 r0_0)
    (View.ld x1 r0_5) ![View.ld x2 r0_1, View.ld x2 r0_2, View.ld x2 r0_3, View.ld x2 r0_4])
    (View.ld x1 r0_10) ![View.ld x2 r0_6, View.ld x2 r0_7, View.ld x2 r0_8, View.ld x2 r0_9])
    (View.ld x1 r0_15) ![View.ld x2 r0_11, View.ld x2 r0_12, View.ld x2 r0_13, View.ld x2 r0_14])
    (View.ld x1 r0_20) ![View.ld x2 r0_16, View.ld x2 r0_17, View.ld x2 r0_18, View.ld x2 r0_19])
    (View.ld x1 r0_25) ![View.ld x2 r0_21, View.ld x2 r0_22, View.ld x2 r0_23, View.ld x2 r0_24])
    (View.ld x1 r0_30) ![View.ld x2 r0_26, View.ld x2 r0_27, View.ld x2 r0_28, View.ld x2 r0_29])
    (View.ld x1 r0_35) ![View.ld x2 r0_31, View.ld x2 r0_32, View.ld x2 r0_33, View.ld x2 r0_34])
    (View.ld x1 r0_40) ![View.ld x2 r0_36, View.ld x2 r0_37, View.ld x2 r0_38, View.ld x2 r0_39]

/-- One expert's rows from the loaded words and the loaded weights. -/
theorem step_ld (j : Fin 8) (a : FVec Ideal S512x1024 .f32) (hu) (h0) (h1) (h2) (h3) (p : Fin 512) (e : Fin 1024) :
    step a (View.ld x1 (Rect.unit (s := S512x8) ![0, j.val] S512x1.size hu))
      ![View.ld x2 (Rect.unit (s := S4x8x512x128) ![0, j.val, 0, 0] S1x1x512x128.size h0),
        View.ld x2 (Rect.unit (s := S4x8x512x128) ![1, j.val, 0, 0] S1x1x512x128.size h1),
        View.ld x2 (Rect.unit (s := S4x8x512x128) ![2, j.val, 0, 0] S1x1x512x128.size h2),
        View.ld x2 (Rect.unit (s := S4x8x512x128) ![3, j.val, 0, 0] S1x1x512x128.size h3)] (ix2 p e) =
      a (ix2 p e) + x1 (ix2 p j) *
        Finish.num e (x2 (ix4 ⟨e.val / 128 % 4, Nat.mod_lt _ (by decide)⟩ j p ⟨e.val % 128, Nat.mod_lt _ (by decide)⟩)) := by
  have hx : ∀ (k : Fin 4) (l : Fin 128),
      (![View.ld x2 (Rect.unit (s := S4x8x512x128) ![0, j.val, 0, 0] S1x1x512x128.size h0),
        View.ld x2 (Rect.unit (s := S4x8x512x128) ![1, j.val, 0, 0] S1x1x512x128.size h1),
        View.ld x2 (Rect.unit (s := S4x8x512x128) ![2, j.val, 0, 0] S1x1x512x128.size h2),
        View.ld x2 (Rect.unit (s := S4x8x512x128) ![3, j.val, 0, 0] S1x1x512x128.size h3)] : Fin 4 → Vec Ideal S1x1x512x128 .i32) k (ix4 0 0 p l) =
      x2 (ix4 k j p l) := fun k l => match k with
    | 0 | 1 | 2 | 3 => View.ld_unit_apply_of x2 _ _ _ _ (ix4 _ j p l) fun a => match a with
      | 0 => rfl
      | 1 => rfl
      | 2 => (Nat.zero_add _).symm
      | 3 => (Nat.zero_add _).symm
  have hw : View.ld x1 (Rect.unit (s := S512x8) ![0, j.val] S512x1.size hu) (ix2 p 0) = x1 (ix2 p j) :=
    View.ld_unit_apply_of x1 _ _ _ _ (ix2 p j) fun a => match a with
      | 0 => (Nat.zero_add _).symm
      | 1 => rfl
  refine (step_apply _ _ _ p e).trans ?_
  rw [hx, hw]

/-- A list of two zeros is the zero offset. -/
theorem hz2 : (![0, 0] : Fin 2 → Nat) = fun _ => 0 := funext fun a => by fin_cases a <;> rfl

/-- What is normalised: the row and the weighted sum of the eight experts' rows. -/
theorem summed_apply (p : Fin 512) (e : Fin 1024) :
    summed x0 x1 x2 (ix2 p e) =
      Finish.row (fun e => x0 (ix2 p e)) (fun j => x1 (ix2 p j)) (fun k j l => x2 (ix4 k j p l)) e := by
  refine ((step_ld x1 x2 7 _ _ _ _ _ _ p e).trans <| congrArg (· + _) <|
    (step_ld x1 x2 6 _ _ _ _ _ _ p e).trans <| congrArg (· + _) <|
    (step_ld x1 x2 5 _ _ _ _ _ _ p e).trans <| congrArg (· + _) <|
    (step_ld x1 x2 4 _ _ _ _ _ _ p e).trans <| congrArg (· + _) <|
    (step_ld x1 x2 3 _ _ _ _ _ _ p e).trans <| congrArg (· + _) <|
    (step_ld x1 x2 2 _ _ _ _ _ _ p e).trans <| congrArg (· + _) <|
    (step_ld x1 x2 1 _ _ _ _ _ _ p e).trans <| congrArg (· + _) <|
    (step_ld x1 x2 0 _ _ _ _ _ _ p e).trans <| congrArg (· + _) <|
      congrFun (View.ld_unit_zero (S := S512x1024) hz2 _ x0) (ix2 p e)).trans ?_
  unfold Finish.row
  rw [Fin.sum_univ_eight]
  simp only [add_assoc]

/-- The normalisation of the summed rows. -/
def normed (z : FVec Ideal S512x1024 .f32) (g b : Vec Ideal S1x1024 .f32) : FVec Ideal S512x1024 .f32 :=
  let mean (y : FVec Ideal S512x1024 .f32) : FVec Ideal S512x1 .f32 :=
    divf (shapeCast S512x1 (multiReduction .add [1] S512 y 0x00000000#32 reduces_S512x1024_S512 (.inl rfl) rfl) shapeCasts_S512_S512x1)
      (broadcast S512x1 (Scalar.ofBits .f32 0x44800000#32))
  let d := subf z (broadcastTo S512x1024 (mean z) broadcasts_S512x1_S512x1024)
  addf (mulf (mulf d (broadcastTo S512x1024 (rsqrt (addf (mean (mulf d d)) (broadcast S512x1 (Scalar.ofBits .f32 0x3727C5AC#32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- A normalised row. -/
theorem normed_apply (z : FVec Ideal S512x1024 .f32) (g b : Vec Ideal S1x1024 .f32) (p : Fin 512) (e : Fin 1024) :
    normed z g b (ix2 p e) = Layer.lnorm (fun k => z (ix2 p k)) (fun e => g (ix2 0 e)) (fun e => b (ix2 0 e)) e := by
  pointwise [normed]
  simp only [Layer.lnorm, Layer.mean]

/-- The block is the normalised sum. -/
theorem out5_eq : out0_5 (F := Ideal) x0 x1 x2 x3 x4 =
    View.canon [⟨r0_0, normed (summed x0 x1 x2) (View.ld x3 r0_41) (View.ld x4 r0_41)⟩] := rfl

/-- The block of the result. -/
theorem out5_apply (p : Fin 512) (e : Fin 1024) :
    out0_5 (F := Ideal) x0 x1 x2 x3 x4 (ix2 p e) =
      Layer.lnorm (Finish.row (fun e => x0 (ix2 p e)) (fun j => x1 (ix2 p j)) (fun k j l => x2 (ix4 k j p l)))
        (fun e => x3 (ix2 0 e)) (fun e => x4 (ix2 0 e)) e := by
  rw [out5_eq]
  canon_tiles x h using cover0_5 ..
  obtain ⟨r, d, rfl⟩ : ∃ r d, x = ix2 r d := ⟨x 0, x 1, eq_ix2 x⟩
  obtain rfl : e = d := Fin.ext h1
  obtain rfl : p = r := Fin.ext h0
  refine (normed_apply _ _ _ p e).trans (Layer.lnorm_congr (funext fun k => summed_apply x0 x1 x2 p k) (fun e => ?_) (fun e => ?_) e)
  · exact congrFun (View.ld_unit_zero (S := S1x1024) hz2 _ x3) (ix2 0 e)
  · exact congrFun (View.ld_unit_zero (S := S1x1024) hz2 _ x4) (ix2 0 e)

end Cert.Kernel7Ideal.Block

end
-- ==== Proof.FinishWhole.lean ====
module

public import proofs.«01_k».proof.Proof.FinishBlock

@[expose] public section

set_option maxRecDepth 16384

/-! The last normalisation over the four grids: each call writes 8192 rows and leaves the others. -/

noncomputable section

open Idealize.ShloMosaic Idealize.ShloMosaic.TcCoe Idealize.SL.Sem
open Idealize.ShloMosaic.Pipeline (Dat)

namespace Cert.Kernel7Ideal.Whole

open Cert.Kernel7Ideal Cert.Kernel7Ideal.Gen

/-- A row of the result: row `i` of the rows and of the weights, row `r` of a call's words. -/
def target (p : Vec Ideal S32768x1024 .f32) (wt : Vec Ideal S32768x8 .f32) (x : Vec Ideal S4x8x8192x128 .i32)
    (g b : Vec Ideal S1x1024 .f32) (i : Fin 32768) (r : Fin 8192) (e : Fin 1024) : EReal :=
  Layer.lnorm (Finish.row (fun e => p (ix2 i e)) (fun j => wt (ix2 i j)) (fun k j l => x (ix4 k j r l)))
    (fun e => g (ix2 0 e)) (fun e => b (ix2 0 e)) e

/-- A coordinate of an array under a block: the block's place times its extent, and the coordinate in the block. -/
theorem coord {x idx v i : Nat} (B q : Nat) (h : x = idx * B + q) (hv : idx = v) (hi : v * B + q = i) : x = i := by
  rw [h, hv, hi]

/-- A place in a matrix by its two coordinates. -/
theorem ext2 {n0 n1 : Nat} {x : (⟨2, ![n0, n1]⟩ : Shape).Idx} {i : Fin n0} {e : Fin n1} (h0 : (x 0).val = i.val) (h1 : (x 1).val = e.val) : x = ix2 i e :=
  funext fun a => match a with | 0 => Fin.ext h0 | 1 => Fin.ext h1

/-- A place in an array of four axes by its four coordinates. -/
theorem ext4 {n0 n1 n2 n3 : Nat} {x : (⟨4, ![n0, n1, n2, n3]⟩ : Shape).Idx} {k : Fin n0} {j : Fin n1} {r : Fin n2} {l : Fin n3} (h0 : (x 0).val = k.val)
    (h1 : (x 1).val = j.val) (h2 : (x 2).val = r.val) (h3 : (x 3).val = l.val) : x = ix4 k j r l :=
  funext fun a => match a with | 0 => Fin.ext h0 | 1 => Fin.ext h1 | 2 => Fin.ext h2 | 3 => Fin.ext h3

/-- A row of a block is a row of the arrays. -/
theorem row_eq {x0 : Vec Ideal S512x1024 .f32} {x1 : Vec Ideal S512x8 .f32} {x2 : Vec Ideal S4x8x512x128 .i32} {x3 x4 : Vec Ideal S1x1024 .f32}
    {p : Vec Ideal S32768x1024 .f32} {wt : Vec Ideal S32768x8 .f32} {x : Vec Ideal S4x8x8192x128 .i32} {g b : Vec Ideal S1x1024 .f32}
    {q : Fin 512} {i : Fin 32768} {r : Fin 8192} (h0 : ∀ e, x0 (ix2 q e) = p (ix2 i e)) (h1 : ∀ j, x1 (ix2 q j) = wt (ix2 i j))
    (h2 : ∀ k j l, x2 (ix4 k j q l) = x (ix4 k j r l)) (h3 : ∀ e, x3 (ix2 0 e) = g (ix2 0 e)) (h4 : ∀ e, x4 (ix2 0 e) = b (ix2 0 e)) (e : Fin 1024) :
    out0_5 (F := Ideal) x0 x1 x2 x3 x4 (ix2 q e) = target p wt x g b i r e :=
  (Block.out5_apply x0 x1 x2 x3 x4 q e).trans (Layer.lnorm_congr (Finish.row_congr h0 h1 h2) h3 h4 e)

/-- Where a call's blocks lie: block `T` of the rows, block `t` of its words, the whole of the factors and summands. -/
def Placed (T t : Nat) (I0 I1 : Fin 2 → Nat) (I2 : Fin 4 → Nat) (I3 I4 I5 : Fin 2 → Nat) : Prop :=
  (I0 0 = T ∧ I0 1 = 0) ∧ (I1 0 = T ∧ I1 1 = 0) ∧ (I2 0 = 0 ∧ I2 1 = 0 ∧ I2 2 = t ∧ I2 3 = 0) ∧ (I3 0 = 0 ∧ I3 1 = 0) ∧ (I4 0 = 0 ∧ I4 1 = 0)
    ∧ (I5 0 = T ∧ I5 1 = 0)

instance (T t : Nat) (I0 I1 : Fin 2 → Nat) (I2 : Fin 4 → Nat) (I3 I4 I5 : Fin 2 → Nat) : Decidable (Placed T t I0 I1 I2 I3 I4 I5) := by
  unfold Placed; infer_instance

section

variable {T t : Nat} {I0 I1 I3 I4 I5 : Fin 2 → Nat} {I2 : Fin 4 → Nat}

/-- A place of the result under its block. -/
theorem emb_eq (hI : Placed T t I0 I1 I2 I3 I4 I5) {E : S512x1024.Idx → S32768x1024.Idx}
    (h : ∀ y a, (E y a).val = I5 a * S512x1024.size a + (y a).val) (q : Fin 512) (e : Fin 1024) (i : Fin 32768)
    (hi : i.val = 512 * T + q.val) : E (ix2 q e) = ix2 i e :=
  have ⟨_, _, _, _, _, g0, g1⟩ := hI
  ext2 (coord 512 q.val (h (ix2 q e) 0) g0 (by omega)) (coord 1024 e.val (h (ix2 q e) 1) g1 (by omega))

/-- A row of a block's value from the arrays that the blocks are read from. -/
theorem block_target (hI : Placed T t I0 I1 I2 I3 I4 I5) {x0 : Vec Ideal S512x1024 .f32} {x1 : Vec Ideal S512x8 .f32} {x2 : Vec Ideal S4x8x512x128 .i32}
    {x3 x4 : Vec Ideal S1x1024 .f32} (p : Vec Ideal S32768x1024 .f32) (wt : Vec Ideal S32768x8 .f32) (x : Vec Ideal S4x8x8192x128 .i32)
    (g b : Vec Ideal S1x1024 .f32) (E0 : S512x1024.Idx → S32768x1024.Idx) (E1 : S512x8.Idx → S32768x8.Idx)
    (E2 : S4x8x512x128.Idx → S4x8x8192x128.Idx) (E3 E4 : S1x1024.Idx → S1x1024.Idx)
    (r0 : ∀ y, x0 y = p (E0 y)) (r1 : ∀ y, x1 y = wt (E1 y)) (r2 : ∀ y, x2 y = x (E2 y)) (r3 : ∀ y, x3 y = g (E3 y)) (r4 : ∀ y, x4 y = b (E4 y))
    (h0 : ∀ y a, (E0 y a).val = I0 a * S512x1024.size a + (y a).val) (h1 : ∀ y a, (E1 y a).val = I1 a * S512x8.size a + (y a).val)
    (h2 : ∀ y a, (E2 y a).val = I2 a * S4x8x512x128.size a + (y a).val) (h3 : ∀ y a, (E3 y a).val = I3 a * S1x1024.size a + (y a).val)
    (h4 : ∀ y a, (E4 y a).val = I4 a * S1x1024.size a + (y a).val)
    {q : Fin 512} {i : Fin 32768} {r : Fin 8192} (hi : i.val = 512 * T + q.val) (hr : r.val = 512 * t + q.val) (e : Fin 1024) :
    out0_5 (F := Ideal) x0 x1 x2 x3 x4 (ix2 q e) = target p wt x g b i r e := by
  obtain ⟨⟨a0, a1⟩, ⟨b0, b1⟩, ⟨c0, c1, c2, c3⟩, ⟨d0, d1⟩, ⟨f0, f1⟩, -⟩ := hI
  refine row_eq (fun e => (r0 _).trans (congrArg p (ext2 ?_ ?_))) (fun j => (r1 _).trans (congrArg wt (ext2 ?_ ?_)))
    (fun k j l => (r2 _).trans (congrArg x (ext4 ?_ ?_ ?_ ?_))) (fun e => (r3 _).trans (congrArg g (ext2 ?_ ?_)))
    (fun e => (r4 _).trans (congrArg b (ext2 ?_ ?_))) e
  · exact coord 512 q.val (h0 (ix2 q e) 0) a0 (by omega)
  · exact coord 1024 e.val (h0 (ix2 q e) 1) a1 (by omega)
  · exact coord 512 q.val (h1 (ix2 q j) 0) b0 (by omega)
  · exact coord 8 j.val (h1 (ix2 q j) 1) b1 (by omega)
  · exact coord 4 k.val (h2 (ix4 k j q l) 0) c0 (by omega)
  · exact coord 8 j.val (h2 (ix4 k j q l) 1) c1 (by omega)
  · exact coord 512 q.val (h2 (ix4 k j q l) 2) c2 (by omega)
  · exact coord 128 l.val (h2 (ix4 k j q l) 3) c3 (by omega)
  · exact coord 1 0 (h3 (ix2 0 e) 0) d0 rfl
  · exact coord 1024 e.val (h3 (ix2 0 e) 1) d1 (by omega)
  · exact coord 1 0 (h4 (ix2 0 e) 0) f0 rfl
  · exact coord 1024 e.val (h4 (ix2 0 e) 1) f1 (by omega)

/-- No row of another call lies under a block of call `k`. -/
theorem outside (k : Nat) (hk : k < 4) (ht : t < 16) (hI : Placed (16 * k + t) t I0 I1 I2 I3 I4 I5) {E : S512x1024.Idx → S32768x1024.Idx}
    (h : ∀ y a, (E y a).val = I5 a * S512x1024.size a + (y a).val) {i : Fin 32768} {e : Fin 1024} (hi : i.val / 8192 ≠ k)
    (y : S512x1024.Idx) : E y ≠ ix2 i e := by
  obtain ⟨q, d, rfl⟩ : ∃ (q : Fin 512) (d : Fin 1024), y = ix2 q d := ⟨y 0, y 1, eq_ix2 y⟩
  rw [emb_eq hI h q d ⟨512 * (16 * k + t) + q.val, by omega⟩ rfl]
  intro hy
  have h0 : 512 * (16 * k + t) + q.val = i.val := congrArg Fin.val (congrFun hy 0)
  omega

/-- The block and the row in it of a row of a call's words. -/
theorem split (r : Fin 8192) : ∃ (t : Fin 16) (q : Fin 512), r.val = 512 * t.val + q.val :=
  ⟨⟨r.val / 512, by omega⟩, ⟨r.val % 512, by omega⟩, by show r.val = 512 * (r.val / 512) + r.val % 512; omega⟩

end

section

variable (V : (c : Dev nD) → (b : Ref sig .tc) → Buf (Elt Ideal) ((c : Thread nD τ).loc b)) (c : Dev nD)

/-- The blocks of the first call. -/
theorem index0 : ∀ t : Fin cfg0.N, Placed (16 * 0 + t.val) t.val (win0_0.index t) (win0_1.index t) (win0_2.index t) (win0_3.index t) (win0_4.index t) (win0_5.index t) :=
  (by decide +kernel : ∀ t : Fin grid0.N, Placed (16 * 0 + t.val) t.val (win0_0.index t) (win0_1.index t) (win0_2.index t) (win0_3.index t) (win0_4.index t) (win0_5.index t))

/-- The blocks of the first call's result share no row. -/
theorem disjoint0 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (Fin.ext (Nat.add_left_cancel
    ((index0 t).2.2.2.2.2.1.symm.trans ((congrFun h 0).trans (index0 t').2.2.2.2.2.1))))

/-- The first call's rows. -/
theorem rows0 (i : Fin 32768) (r : Fin 8192) (e : Fin 1024) (hi : i.val = 8192 * 0 + r.val) :
    (dat0 V c).arrAt 5 cfg0.N (ix2 i e) =
      target (V c main_arg0) (V c main_arg1) (V c main_arg2) (V c main_v0) (V c main_v1) i r e := by
  obtain ⟨t, q, hr⟩ : ∃ (t : Fin cfg0.N) (q : Fin 512), r.val = 512 * t.val + q.val := split r
  rw [← emb_eq (index0 t) (win0_5.rect_emb_val t) q e i (by omega)]
  exact (congrFun ((dat0 V c).read_blk_arrAt_eq_flushed 5 disjoint0 cfg0.N t t.isLt (flush0_5 t)) (ix2 q e)).trans
    ((congrFun (after0_5 V c t) (ix2 q e)).trans (block_target (index0 t) (V c main_arg0) (V c main_arg1) (V c main_arg2) (V c main_v0)
      (V c main_v1) ((cfg0.win 0).blk t).view.emb ((cfg0.win 1).blk t).view.emb ((cfg0.win 2).blk t).view.emb ((cfg0.win 3).blk t).view.emb ((cfg0.win 4).blk t).view.emb
      (fun _ => rfl) (fun _ => rfl) (fun _ => rfl) (fun _ => rfl) (fun _ => rfl)
      (win0_0.rect_emb_val t) (win0_1.rect_emb_val t) (win0_2.rect_emb_val t) (win0_3.rect_emb_val t) (win0_4.rect_emb_val t) (by omega) hr e))

/-- The rows that the first call leaves. -/
theorem rest0 (i : Fin 32768) (e : Fin 1024) (hi : i.val / 8192 ≠ 0) : (dat0 V c).arrAt 5 cfg0.N (ix2 i e) = V c main_v2 (ix2 i e) := by
  rw [(dat0 V c).arrAt_apply_of_forall_not_mem 5 cfg0.N (ix2 i e) fun t _ _ h => ?_, A_eq0]
  obtain ⟨y, hy⟩ := View.exists_emb_of_mem_set _ h
  exact outside 0 (by decide) t.isLt (index0 t) (win0_5.rect_emb_val t) hi y hy

/-- The blocks of the second call. -/
theorem index1 : ∀ t : Fin cfg1.N, Placed (16 * 1 + t.val) t.val (win1_0.index t) (win1_1.index t) (win1_2.index t) (win1_3.index t) (win1_4.index t) (win1_5.index t) :=
  (by decide +kernel : ∀ t : Fin grid1.N, Placed (16 * 1 + t.val) t.val (win1_0.index t) (win1_1.index t) (win1_2.index t) (win1_3.index t) (win1_4.index t) (win1_5.index t))

/-- The blocks of the second call's result share no row. -/
theorem disjoint1 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun h => hne (Fin.ext (Nat.add_left_cancel
    ((index1 t).2.2.2.2.2.1.symm.trans ((congrFun h 0).trans (index1 t').2.2.2.2.2.1))))

/-- The second call's rows. -/
theorem rows1 (i : Fin 32768) (r : Fin 8192) (e : Fin 1024) (hi : i.val = 8192 * 1 + r.val) :
    (dat1 V c).arrAt 5 cfg1.N (ix2 i e) =
      target (V c main_v2) (V c main_arg1) (V c main_arg3) (V c main_v3) (V c main_v4) i r e := by
  obtain ⟨t, q, hr⟩ : ∃ (t : Fin cfg1.N) (q : Fin 512), r.val = 512 * t.val + q.val := split r
  rw [← emb_eq (index1 t) (win1_5.rect_emb_val t) q e i (by omega)]
  exact (congrFun ((dat1 V c).read_blk_arrAt_eq_flushed 5 disjoint1 cfg1.N t t.isLt (flush1_5 t)) (ix2 q e)).trans
    ((congrFun (after1_5 V c t) (ix2 q e)).trans (block_target (index1 t) (V c main_v2) (V c main_arg1) (V c main_arg3) (V c main_v3)
      (V c main_v4) ((cfg1.win 0).blk t).view.emb ((cfg1.win 1).blk t).view.emb ((cfg1.win 2).blk t).view.emb ((cfg1.win 3).blk t).view.emb ((cfg1.win 4).blk t).view.emb
      (fun _ => rfl) (fun _ => rfl) (fun _ => rfl) (fun _ => rfl) (fun _ => rfl)
      (win1_0.rect_emb_val t) (win1_1.rect_emb_val t) (win1_2.rect_emb_val t) (win1_3.rect_emb_val t) (win1_4.rect_emb_val t) (by omega) hr e))

/-- The rows that the second call leaves. -/
theorem rest1 (i : Fin 32768) (e : Fin 1024) (hi : i.val / 8192 ≠ 1) : (dat1 V c).arrAt 5 cfg1.N (ix2 i e) = V c main_v5 (ix2 i e) := by
  rw [(dat1 V c).arrAt_apply_of_forall_not_mem 5 cfg1.N (ix2 i e) fun t _ _ h => ?_, A_eq1]
  obtain ⟨y, hy⟩ := View.exists_emb_of_mem_set _ h
  exact outside 1 (by decide) t.isLt (index1 t) (win1_5.rect_emb_val t) hi y hy

/-- The blocks of the third call. -/
theorem index2 : ∀ t : Fin cfg2.N, Placed (16 * 2 + t.val) t.val (win2_0.index t) (win2_1.index t) (win2_2.index t) (win2_3.index t) (win2_4.index t) (win2_5.index t) :=
  (by decide +kernel : ∀ t : Fin grid2.N, Placed (16 * 2 + t.val) t.val (win2_0.index t) (win2_1.index t) (win2_2.index t) (win2_3.index t) (win2_4.index t) (win2_5.index t))

/-- The blocks of the third call's result share no row. -/
theorem disjoint2 : ∀ t t' : Fin cfg2.N, (cfg2.win 5).flush t = true → (cfg2.win 5).flush t' = true → t ≠ t' →
    Disjoint ((cfg2.win 5).blk t).view.set ((cfg2.win 5).blk t').view.set :=
  fun t t' _ _ hne => (cfg2.win 5).disjoint_blk fun h => hne (Fin.ext (Nat.add_left_cancel
    ((index2 t).2.2.2.2.2.1.symm.trans ((congrFun h 0).trans (index2 t').2.2.2.2.2.1))))

/-- The third call's rows. -/
theorem rows2 (i : Fin 32768) (r : Fin 8192) (e : Fin 1024) (hi : i.val = 8192 * 2 + r.val) :
    (dat2 V c).arrAt 5 cfg2.N (ix2 i e) =
      target (V c main_v5) (V c main_arg1) (V c main_arg4) (V c main_v6) (V c main_v7) i r e := by
  obtain ⟨t, q, hr⟩ : ∃ (t : Fin cfg2.N) (q : Fin 512), r.val = 512 * t.val + q.val := split r
  rw [← emb_eq (index2 t) (win2_5.rect_emb_val t) q e i (by omega)]
  exact (congrFun ((dat2 V c).read_blk_arrAt_eq_flushed 5 disjoint2 cfg2.N t t.isLt (flush2_5 t)) (ix2 q e)).trans
    ((congrFun (after2_5 V c t) (ix2 q e)).trans (block_target (index2 t) (V c main_v5) (V c main_arg1) (V c main_arg4) (V c main_v6)
      (V c main_v7) ((cfg2.win 0).blk t).view.emb ((cfg2.win 1).blk t).view.emb ((cfg2.win 2).blk t).view.emb ((cfg2.win 3).blk t).view.emb ((cfg2.win 4).blk t).view.emb
      (fun _ => rfl) (fun _ => rfl) (fun _ => rfl) (fun _ => rfl) (fun _ => rfl)
      (win2_0.rect_emb_val t) (win2_1.rect_emb_val t) (win2_2.rect_emb_val t) (win2_3.rect_emb_val t) (win2_4.rect_emb_val t) (by omega) hr e))

/-- The rows that the third call leaves. -/
theorem rest2 (i : Fin 32768) (e : Fin 1024) (hi : i.val / 8192 ≠ 2) : (dat2 V c).arrAt 5 cfg2.N (ix2 i e) = V c main_v8 (ix2 i e) := by
  rw [(dat2 V c).arrAt_apply_of_forall_not_mem 5 cfg2.N (ix2 i e) fun t _ _ h => ?_, A_eq2]
  obtain ⟨y, hy⟩ := View.exists_emb_of_mem_set _ h
  exact outside 2 (by decide) t.isLt (index2 t) (win2_5.rect_emb_val t) hi y hy

/-- The blocks of the fourth call. -/
theorem index3 : ∀ t : Fin cfg3.N, Placed (16 * 3 + t.val) t.val (win3_0.index t) (win3_1.index t) (win3_2.index t) (win3_3.index t) (win3_4.index t) (win3_5.index t) :=
  (by decide +kernel : ∀ t : Fin grid3.N, Placed (16 * 3 + t.val) t.val (win3_0.index t) (win3_1.index t) (win3_2.index t) (win3_3.index t) (win3_4.index t) (win3_5.index t))

/-- The blocks of the fourth call's result share no row. -/
theorem disjoint3 : ∀ t t' : Fin cfg3.N, (cfg3.win 5).flush t = true → (cfg3.win 5).flush t' = true → t ≠ t' →
    Disjoint ((cfg3.win 5).blk t).view.set ((cfg3.win 5).blk t').view.set :=
  fun t t' _ _ hne => (cfg3.win 5).disjoint_blk fun h => hne (Fin.ext (Nat.add_left_cancel
    ((index3 t).2.2.2.2.2.1.symm.trans ((congrFun h 0).trans (index3 t').2.2.2.2.2.1))))

/-- The fourth call's rows. -/
theorem rows3 (i : Fin 32768) (r : Fin 8192) (e : Fin 1024) (hi : i.val = 8192 * 3 + r.val) :
    (dat3 V c).arrAt 5 cfg3.N (ix2 i e) =
      target (V c main_v8) (V c main_arg1) (V c main_arg5) (V c main_v9) (V c main_v10) i r e := by
  obtain ⟨t, q, hr⟩ : ∃ (t : Fin cfg3.N) (q : Fin 512), r.val = 512 * t.val + q.val := split r
  rw [← emb_eq (index3 t) (win3_5.rect_emb_val t) q e i (by omega)]
  exact (congrFun ((dat3 V c).read_blk_arrAt_eq_flushed 5 disjoint3 cfg3.N t t.isLt (flush3_5 t)) (ix2 q e)).trans
    ((congrFun (after3_5 V c t) (ix2 q e)).trans (block_target (index3 t) (V c main_v8) (V c main_arg1) (V c main_arg5) (V c main_v9)
      (V c main_v10) ((cfg3.win 0).blk t).view.emb ((cfg3.win 1).blk t).view.emb ((cfg3.win 2).blk t).view.emb ((cfg3.win 3).blk t).view.emb ((cfg3.win 4).blk t).view.emb
      (fun _ => rfl) (fun _ => rfl) (fun _ => rfl) (fun _ => rfl) (fun _ => rfl)
      (win3_0.rect_emb_val t) (win3_1.rect_emb_val t) (win3_2.rect_emb_val t) (win3_3.rect_emb_val t) (win3_4.rect_emb_val t) (by omega) hr e))

/-- The rows that the fourth call leaves. -/
theorem rest3 (i : Fin 32768) (e : Fin 1024) (hi : i.val / 8192 ≠ 3) : (dat3 V c).arrAt 5 cfg3.N (ix2 i e) = V c main_v11 (ix2 i e) := by
  rw [(dat3 V c).arrAt_apply_of_forall_not_mem 5 cfg3.N (ix2 i e) fun t _ _ h => ?_, A_eq3]
  obtain ⟨y, hy⟩ := View.exists_emb_of_mem_set _ h
  exact outside 3 (by decide) t.isLt (index3 t) (win3_5.rect_emb_val t) hi y hy

end

end Cert.Kernel7Ideal.Whole

end
-- ==== Proof.FinishChain.lean ====
module

public import proofs.«01_k».proof.Proof.FinishWhole

@[expose] public section

set_option maxRecDepth 16384

/-! The last normalisation: the four calls in turn, and what the program leaves. -/

noncomputable section

open Idealize.ShloMosaic Idealize.ShloMosaic.TcCoe Idealize.SL Idealize.SL.Sem

namespace Cert.Kernel7Ideal.Chain

open Cert.Kernel7Ideal Cert.Kernel7Ideal.Gen

/-- The result at a row and a column. -/
def goal (p : Vec Ideal S32768x1024 .f32) (wt : Vec Ideal S32768x8 .f32) (x : Fin 4 → Vec Ideal S4x8x8192x128 .i32)
    (g b : Vec Ideal S1024 .f32) (i : Fin 32768) (e : Fin 1024) : EReal :=
  Layer.lnorm (Finish.row (fun e => p (ix2 i e)) (fun j => wt (ix2 i j))
    (fun k j l => x ⟨i.val / 8192, by omega⟩ (ix4 k j ⟨i.val % 8192, Nat.mod_lt _ (by decide)⟩ l)))
    (fun e => g (ix1 e)) (fun e => b (ix1 e)) e

/-- The rows after the first `n` calls: theirs are done, the others as given. -/
def upto (n : Nat) (p : Vec Ideal S32768x1024 .f32) (wt : Vec Ideal S32768x8 .f32) (x : Fin 4 → Vec Ideal S4x8x8192x128 .i32)
    (g b : Vec Ideal S1024 .f32) (i : Fin 32768) (e : Fin 1024) : EReal :=
  if i.val / 8192 < n then goal p wt x g b i e else p (ix2 i e)

/-- One more call. -/
theorem stage (n : Fin 4) {p A B : Vec Ideal S32768x1024 .f32} {wt wt' : Vec Ideal S32768x8 .f32} {x : Fin 4 → Vec Ideal S4x8x8192x128 .i32}
    {y : Vec Ideal S4x8x8192x128 .i32} {g b : Vec Ideal S1024 .f32} {g' b' : Vec Ideal S1x1024 .f32}
    (hA : ∀ i e, A (ix2 i e) = upto n.val p wt x g b i e) (hw : wt' = wt) (hy : y = x n) (hg : ∀ e, g' (ix2 0 e) = g (ix1 e)) (hb : ∀ e, b' (ix2 0 e) = b (ix1 e))
    (rows : ∀ (i : Fin 32768) (r : Fin 8192) (e : Fin 1024), i.val = 8192 * n.val + r.val → B (ix2 i e) = Whole.target A wt' y g' b' i r e)
    (rest : ∀ (i : Fin 32768) (e : Fin 1024), i.val / 8192 ≠ n.val → B (ix2 i e) = A (ix2 i e)) (i : Fin 32768) (e : Fin 1024) :
    B (ix2 i e) = upto (n.val + 1) p wt x g b i e := by
  subst hw hy
  by_cases h : i.val / 8192 = n.val
  · have hn : n = ⟨i.val / 8192, by omega⟩ := Fin.ext h.symm
    rw [rows i ⟨i.val % 8192, Nat.mod_lt _ (by decide)⟩ e (by show i.val = 8192 * n.val + i.val % 8192; omega)]
    unfold upto
    rw [if_pos (by omega)]
    exact Layer.lnorm_congr (Finish.row_congr (fun e => (hA i e).trans (if_neg (by omega))) (fun _ => rfl) (fun _ _ _ => congrFun (congrArg x hn) _)) hg hb e
  · rw [rest i e h, hA]
    unfold upto
    by_cases h' : i.val / 8192 < n.val
    · rw [if_pos h', if_pos (by omega)]
    · rw [if_neg h', if_neg (by omega)]

variable (m : (ℓ : Loc nD τ sig) → Buf (Elt Ideal) ℓ) (ρ : Dev nD → PrngReg) (c : Dev nD)

/-- The words of the four calls. -/
def words : Fin 4 → Vec Ideal S4x8x8192x128 .i32 :=
  ![m ((c : Thread nD τ).loc main_arg2), m ((c : Thread nD τ).loc main_arg3), m ((c : Thread nD τ).loc main_arg4), m ((c : Thread nD τ).loc main_arg5)]

/-- The factors of the normalisation as the first call finds them. -/
theorem W1_v0 (e : Fin 1024) : V1 m ρ c main_v0 (ix2 0 e) = m ((c : Thread nD τ).loc main_arg6) (ix1 e) := by
  show StableHlo.after hostOps0 (W0 m ρ c) (Proc.devRef .tc main_v0) (ix2 0 e) = _
  simp only [hostOps0]
  after_results
  rw [← W0_args m ρ c main_arg6 (by decide)]
  exact broadcastInDim_apply ![1] bcast_S1024_S1x1024_1 _ (ix2 0 e) (ix1 e) (fun a => match a with | 0 => rfl)

/-- The summands of the normalisation as the first call finds them. -/
theorem W1_v1 (e : Fin 1024) : V1 m ρ c main_v1 (ix2 0 e) = m ((c : Thread nD τ).loc main_arg7) (ix1 e) := by
  show StableHlo.after hostOps0 (W0 m ρ c) (Proc.devRef .tc main_v1) (ix2 0 e) = _
  simp only [hostOps0]
  after_results
  rw [← W0_args m ρ c main_arg7 (by decide)]
  exact broadcastInDim_apply ![1] bcast_S1024_S1x1024_1 _ (ix2 0 e) (ix1 e) (fun a => match a with | 0 => rfl)

/-- The array the first call writes into starts as the one before it. -/
theorem W1_v2 : V1 m ρ c main_v2 = V1 m ρ c main_arg0 := by
  show StableHlo.after hostOps0 (W0 m ρ c) (Proc.devRef .tc main_v2) = StableHlo.after hostOps0 (W0 m ρ c) (Proc.devRef .tc main_arg0)
  simp only [hostOps0]
  after_results
  rfl

/-- The factors of the normalisation as the second call finds them. -/
theorem W3_v3 (e : Fin 1024) : V3 m ρ c main_v3 (ix2 0 e) = m ((c : Thread nD τ).loc main_arg6) (ix1 e) := by
  show StableHlo.after hostOps1 (W2 m ρ c) (Proc.devRef .tc main_v3) (ix2 0 e) = _
  simp only [hostOps1]
  after_results
  rw [← W2_args m ρ c main_arg6 (by decide)]
  exact broadcastInDim_apply ![1] bcast_S1024_S1x1024_1 _ (ix2 0 e) (ix1 e) (fun a => match a with | 0 => rfl)

/-- The summands of the normalisation as the second call finds them. -/
theorem W3_v4 (e : Fin 1024) : V3 m ρ c main_v4 (ix2 0 e) = m ((c : Thread nD τ).loc main_arg7) (ix1 e) := by
  show StableHlo.after hostOps1 (W2 m ρ c) (Proc.devRef .tc main_v4) (ix2 0 e) = _
  simp only [hostOps1]
  after_results
  rw [← W2_args m ρ c main_arg7 (by decide)]
  exact broadcastInDim_apply ![1] bcast_S1024_S1x1024_1 _ (ix2 0 e) (ix1 e) (fun a => match a with | 0 => rfl)

/-- The array the second call writes into starts as the one before it. -/
theorem W3_v5 : V3 m ρ c main_v5 = V3 m ρ c main_v2 := by
  show StableHlo.after hostOps1 (W2 m ρ c) (Proc.devRef .tc main_v5) = StableHlo.after hostOps1 (W2 m ρ c) (Proc.devRef .tc main_v2)
  simp only [hostOps1]
  after_results
  rfl

/-- The factors of the normalisation as the third call finds them. -/
theorem W5_v6 (e : Fin 1024) : V5 m ρ c main_v6 (ix2 0 e) = m ((c : Thread nD τ).loc main_arg6) (ix1 e) := by
  show StableHlo.after hostOps2 (W4 m ρ c) (Proc.devRef .tc main_v6) (ix2 0 e) = _
  simp only [hostOps2]
  after_results
  rw [← W4_args m ρ c main_arg6 (by decide)]
  exact broadcastInDim_apply ![1] bcast_S1024_S1x1024_1 _ (ix2 0 e) (ix1 e) (fun a => match a with | 0 => rfl)

/-- The summands of the normalisation as the third call finds them. -/
theorem W5_v7 (e : Fin 1024) : V5 m ρ c main_v7 (ix2 0 e) = m ((c : Thread nD τ).loc main_arg7) (ix1 e) := by
  show StableHlo.after hostOps2 (W4 m ρ c) (Proc.devRef .tc main_v7) (ix2 0 e) = _
  simp only [hostOps2]
  after_results
  rw [← W4_args m ρ c main_arg7 (by decide)]
  exact broadcastInDim_apply ![1] bcast_S1024_S1x1024_1 _ (ix2 0 e) (ix1 e) (fun a => match a with | 0 => rfl)

/-- The array the third call writes into starts as the one before it. -/
theorem W5_v8 : V5 m ρ c main_v8 = V5 m ρ c main_v5 := by
  show StableHlo.after hostOps2 (W4 m ρ c) (Proc.devRef .tc main_v8) = StableHlo.after hostOps2 (W4 m ρ c) (Proc.devRef .tc main_v5)
  simp only [hostOps2]
  after_results
  rfl

/-- The factors of the normalisation as the fourth call finds them. -/
theorem W7_v9 (e : Fin 1024) : V7 m ρ c main_v9 (ix2 0 e) = m ((c : Thread nD τ).loc main_arg6) (ix1 e) := by
  show StableHlo.after hostOps3 (W6 m ρ c) (Proc.devRef .tc main_v9) (ix2 0 e) = _
  simp only [hostOps3]
  after_results
  rw [← W6_args m ρ c main_arg6 (by decide)]
  exact broadcastInDim_apply ![1] bcast_S1024_S1x1024_1 _ (ix2 0 e) (ix1 e) (fun a => match a with | 0 => rfl)

/-- The summands of the normalisation as the fourth call finds them. -/
theorem W7_v10 (e : Fin 1024) : V7 m ρ c main_v10 (ix2 0 e) = m ((c : Thread nD τ).loc main_arg7) (ix1 e) := by
  show StableHlo.after hostOps3 (W6 m ρ c) (Proc.devRef .tc main_v10) (ix2 0 e) = _
  simp only [hostOps3]
  after_results
  rw [← W6_args m ρ c main_arg7 (by decide)]
  exact broadcastInDim_apply ![1] bcast_S1024_S1x1024_1 _ (ix2 0 e) (ix1 e) (fun a => match a with | 0 => rfl)

/-- The array the fourth call writes into starts as the one before it. -/
theorem W7_v11 : V7 m ρ c main_v11 = V7 m ρ c main_v8 := by
  show StableHlo.after hostOps3 (W6 m ρ c) (Proc.devRef .tc main_v11) = StableHlo.after hostOps3 (W6 m ρ c) (Proc.devRef .tc main_v8)
  simp only [hostOps3]
  after_results
  rfl

/-- The rows after the first call. -/
theorem after0 (i : Fin 32768) (e : Fin 1024) :
    W2 m ρ c (Proc.devRef .tc main_v2) (ix2 i e) =
      upto 1 (m ((c : Thread nD τ).loc main_arg0)) (m ((c : Thread nD τ).loc main_arg1)) (words m c)
        (m ((c : Thread nD τ).loc main_arg6)) (m ((c : Thread nD τ).loc main_arg7)) i e :=
  stage 0 (A := V1 m ρ c main_arg0) (B := W2 m ρ c (Proc.devRef .tc main_v2))
    (fun i e => ((congrFun (W1_args m ρ c main_arg0 (by decide)) (ix2 i e)).trans (if_neg (Nat.not_lt_zero _)).symm))
    (W1_args m ρ c main_arg1 (by decide)) (W1_args m ρ c main_arg2 (by decide)) (W1_v0 m ρ c) (W1_v1 m ρ c)
    (fun i r e hi => (congrFun (W2_arr m ρ c 5) (ix2 i e)).trans (Whole.rows0 (V1 m ρ) c i r e hi))
    (fun i e hi => (congrFun (W2_arr m ρ c 5) (ix2 i e)).trans ((Whole.rest0 (V1 m ρ) c i e hi).trans
      (congrFun (W1_v2 m ρ c) (ix2 i e)))) i e

/-- The rows after the second call. -/
theorem after1 (i : Fin 32768) (e : Fin 1024) :
    W4 m ρ c (Proc.devRef .tc main_v5) (ix2 i e) =
      upto 2 (m ((c : Thread nD τ).loc main_arg0)) (m ((c : Thread nD τ).loc main_arg1)) (words m c)
        (m ((c : Thread nD τ).loc main_arg6)) (m ((c : Thread nD τ).loc main_arg7)) i e :=
  stage 1 (A := V3 m ρ c main_v2) (B := W4 m ρ c (Proc.devRef .tc main_v5))
    (fun i e => (congrFun (W3_of m ρ c main_v2 (by decide)) (ix2 i e)).trans (after0 m ρ c i e))
    (W3_args m ρ c main_arg1 (by decide)) (W3_args m ρ c main_arg3 (by decide)) (W3_v3 m ρ c) (W3_v4 m ρ c)
    (fun i r e hi => (congrFun (W4_arr m ρ c 5) (ix2 i e)).trans (Whole.rows1 (V3 m ρ) c i r e hi))
    (fun i e hi => (congrFun (W4_arr m ρ c 5) (ix2 i e)).trans ((Whole.rest1 (V3 m ρ) c i e hi).trans
      (congrFun (W3_v5 m ρ c) (ix2 i e)))) i e

/-- The rows after the third call. -/
theorem after2 (i : Fin 32768) (e : Fin 1024) :
    W6 m ρ c (Proc.devRef .tc main_v8) (ix2 i e) =
      upto 3 (m ((c : Thread nD τ).loc main_arg0)) (m ((c : Thread nD τ).loc main_arg1)) (words m c)
        (m ((c : Thread nD τ).loc main_arg6)) (m ((c : Thread nD τ).loc main_arg7)) i e :=
  stage 2 (A := V5 m ρ c main_v5) (B := W6 m ρ c (Proc.devRef .tc main_v8))
    (fun i e => (congrFun (W5_of m ρ c main_v5 (by decide)) (ix2 i e)).trans (after1 m ρ c i e))
    (W5_args m ρ c main_arg1 (by decide)) (W5_args m ρ c main_arg4 (by decide)) (W5_v6 m ρ c) (W5_v7 m ρ c)
    (fun i r e hi => (congrFun (W6_arr m ρ c 5) (ix2 i e)).trans (Whole.rows2 (V5 m ρ) c i r e hi))
    (fun i e hi => (congrFun (W6_arr m ρ c 5) (ix2 i e)).trans ((Whole.rest2 (V5 m ρ) c i e hi).trans
      (congrFun (W5_v8 m ρ c) (ix2 i e)))) i e

/-- The rows after the fourth call. -/
theorem after3 (i : Fin 32768) (e : Fin 1024) :
    W8 m ρ c (Proc.devRef .tc main_v11) (ix2 i e) =
      upto 4 (m ((c : Thread nD τ).loc main_arg0)) (m ((c : Thread nD τ).loc main_arg1)) (words m c)
        (m ((c : Thread nD τ).loc main_arg6)) (m ((c : Thread nD τ).loc main_arg7)) i e :=
  stage 3 (A := V7 m ρ c main_v8) (B := W8 m ρ c (Proc.devRef .tc main_v11))
    (fun i e => (congrFun (W7_of m ρ c main_v8 (by decide)) (ix2 i e)).trans (after2 m ρ c i e))
    (W7_args m ρ c main_arg1 (by decide)) (W7_args m ρ c main_arg5 (by decide)) (W7_v9 m ρ c) (W7_v10 m ρ c)
    (fun i r e hi => (congrFun (W8_arr m ρ c 5) (ix2 i e)).trans (Whole.rows3 (V7 m ρ) c i r e hi))
    (fun i e hi => (congrFun (W8_arr m ρ c 5) (ix2 i e)).trans ((Whole.rest3 (V7 m ρ) c i e hi).trans
      (congrFun (W7_v11 m ρ c) (ix2 i e)))) i e

/-- The result after the whole program. -/
theorem result_apply (i : Fin 32768) (e : Fin 1024) :
    W8 m ρ c (Proc.devRef .tc main_v11) (ix2 i e) =
      goal (m ((c : Thread nD τ).loc main_arg0)) (m ((c : Thread nD τ).loc main_arg1)) (words m c)
        (m ((c : Thread nD τ).loc main_arg6)) (m ((c : Thread nD τ).loc main_arg7)) i e :=
  (after3 m ρ c i e).trans (if_pos (by omega))

end Cert.Kernel7Ideal.Chain

end
-- ==== Proof.FinishRef.lean ====
module

public import proofs.«01_k».proof.Proof.FinishChain
public import proofs.«01_k».proof.Proof.Gen.Reference7Ideal.Read
public import Idealize.ShloMosaic.Lib.BitcastConvert

@[expose] public section

set_option maxRecDepth 16384

/-! The last normalisation: the reference at a row and a column. -/

noncomputable section

open Idealize.ShloMosaic Idealize.ShloMosaic.TcCoe Idealize.SL.Sem

namespace Cert.Reference7Ideal.RefValue

open Cert.Reference7Ideal Cert.Reference7Ideal.Gen Cert.Reference7Ideal.Read

/-- The four arrays of words one after another along the tokens. -/
theorem v0_apply (x : Fin 4 → Vec Ideal S4x8x8192x128 .i32) (s : Fin 4) (j : Fin 8) (i : Fin 32768) (l : Fin 128) :
    val_main_v0 (F := Ideal) (x 0) (x 1) (x 2) (x 3) (ix4 s j i l) =
      x ⟨i.val / 8192, by omega⟩ (ix4 s j ⟨i.val % 8192, Nat.mod_lt _ (by decide)⟩ l) := by
  unfold val_main_v0
  exact concatenate_ofFn_apply (t := S4x8x32768x128) (s₁ := S4x8x8192x128) 2 x _ rfl 8192 rfl (ix4 s j i l)
    ⟨i.val / 8192, by omega⟩ rfl (ix4 s j ⟨i.val % 8192, Nat.mod_lt _ (by decide)⟩ l) rfl
    (fun b hb => match b, hb with | 0, _ => rfl | 1, _ => rfl | 2, hb => absurd rfl hb | 3, _ => rfl)

/-- Half `q` of a word as a number. -/
theorem v2_apply (x : Fin 4 → Vec Ideal S4x8x8192x128 .i32) (s : Fin 4) (j : Fin 8) (i : Fin 32768) (l : Fin 128) (q : Fin 2) :
    val_main_v2 (F := Ideal) (x 0) (x 1) (x 2) (x 3) (ix5 s j i l q) =
      Ideal.ofBits .bf16 ((x ⟨i.val / 8192, by omega⟩ (ix4 s j ⟨i.val % 8192, Nat.mod_lt _ (by decide)⟩ l) : BitVec 32).extractLsb'
        (q.val * 16) 16) := by
  rw [val_main_v2_apply, ← v0_apply x s j i l]
  unfold val_main_v1
  show Ideal.ofBits .bf16 (Host.bitcastConvertNarrow S4x8x32768x128x2 16 (val_main_v0 (F := Ideal) (x 0) (x 1) (x 2) (x 3)) _ (ix5 s j i l q)) = _
  rw [Host.bitcastConvertNarrow_apply]
  refine congrArg (fun k => Ideal.ofBits .bf16 (BitVec.extractLsb' (q.val * 16) 16 (val_main_v0 (F := Ideal) (x 0) (x 1) (x 2) (x 3) k))) ?_
  exact funext fun a => match a with | 0 => rfl | 1 => rfl | 2 => rfl | 3 => rfl

/-- An expert's row of a token. -/
theorem v4_apply (x : Fin 4 → Vec Ideal S4x8x8192x128 .i32) (i : Fin 32768) (j : Fin 8) (e : Fin 1024) :
    val_main_v4 (F := Ideal) (x 0) (x 1) (x 2) (x 3) (ix3 i j e) =
      Finish.num e (x ⟨i.val / 8192, by omega⟩ (ix4 ⟨e.val / 128 % 4, Nat.mod_lt _ (by decide)⟩ j ⟨i.val % 8192, Nat.mod_lt _ (by decide)⟩
        ⟨e.val % 128, Nat.mod_lt _ (by decide)⟩)) := by
  have hi := i.isLt
  have hj := j.isLt
  have he := e.isLt
  rw [val_main_v4_apply, val_main_v3_apply,
    show (idx_main_v3 (idx_main_v4 (ix3 i j e)) : S4x8x32768x128x2.Idx) =
      ix5 ⟨e.val / 128 % 4, by omega⟩ j i ⟨e.val % 128, by omega⟩ ⟨e.val / 512, by omega⟩ from funext fun a => by
      match a with
      | 0 => exact Fin.ext (by show ((i.val * 8 + j.val) * 1024 + e.val) / 128 % 4 = e.val / 128 % 4; omega)
      | 1 => exact Fin.ext (by show ((i.val * 8 + j.val) * 1024 + e.val) / 1024 % 8 = j.val; omega)
      | 2 => exact Fin.ext (by show ((i.val * 8 + j.val) * 1024 + e.val) / 8192 = i.val; omega)
      | 3 => exact Fin.ext (by show ((i.val * 8 + j.val) * 1024 + e.val) % 128 = e.val % 128; omega)
      | 4 => exact Fin.ext (by show ((i.val * 8 + j.val) * 1024 + e.val) / 512 % 2 = e.val / 512; omega),
    v2_apply]
  unfold Finish.num
  by_cases h : e.val < 512
  · rw [if_pos h]
    show Ideal.ofBits .bf16 (BitVec.extractLsb' (e.val / 512 * 16) 16 _) = _
    rw [show e.val / 512 * 16 = 0 by omega]
  · rw [if_neg h]
    show Ideal.ofBits .bf16 (BitVec.extractLsb' (e.val / 512 * 16) 16 _) = _
    rw [show e.val / 512 * 16 = 16 by omega]

variable (p : Vec Ideal S32768x1024 .f32) (wt : Vec Ideal S32768x8 .f32) (x : Fin 4 → Vec Ideal S4x8x8192x128 .i32)
  (g b : Vec Ideal S1024 .f32)

/-- A token's row before the normalisation. -/
def zed (i : Fin 32768) : Fin 1024 → EReal :=
  Finish.row (fun e => p (ix2 i e)) (fun j => wt (ix2 i j))
    (fun k j l => x ⟨i.val / 8192, by omega⟩ (ix4 k j ⟨i.val % 8192, Nat.mod_lt _ (by decide)⟩ l))

/-- The reference's sum of the given row and the weighted rows. -/
theorem v9_apply (i : Fin 32768) (e : Fin 1024) :
    val_main_v9 (F := Ideal) p wt (x 0) (x 1) (x 2) (x 3) (ix2 i e) = zed p wt x i e := by
  rw [val_main_v9_apply, val_main_v8_apply]
  refine congrArg (p (ix2 i e) + ·) ((congrArg (· + _) Ideal.ofBits_zero_f32).trans ((zero_add _).trans ?_))
  refine Finset.sum_congr rfl fun j _ => ?_
  rw [show (idx_main_v8 (ix2 i e) j : S32768x8x1024.Idx) = ix3 i j e from funext fun a => match a with | 0 => rfl | 1 => rfl | 2 => rfl,
    val_main_v7_apply, v4_apply, val_main_v6_apply, val_main_v5_apply]
  exact congrArg (· * _) (congrArg wt (funext fun a => match a with | 0 => rfl | 1 => rfl))

/-- The mean of a row. -/
theorem v13_apply (i : Fin 32768) (y : Fin 1) :
    val_main_v13 (F := Ideal) p wt (x 0) (x 1) (x 2) (x 3) (ix2 i y) = Layer.mean (zed p wt x i) := by
  rw [val_main_v13_apply, val_main_v12_apply, val_main_v11_apply, val_main_v10_apply]
  refine congrArg (Ideal.div · _) ?_
  refine (congrArg (· + _) Ideal.ofBits_zero_f32).trans ((zero_add _).trans ?_)
  refine Finset.sum_congr rfl fun k _ => ?_
  rw [← v9_apply]
  exact congrArg (val_main_v9 (F := Ideal) p wt (x 0) (x 1) (x 2) (x 3)) (funext fun a => match a with | 0 => rfl | 1 => rfl)

/-- A coordinate less the mean of its row. -/
theorem v15_apply (i : Fin 32768) (e : Fin 1024) :
    val_main_v15 (F := Ideal) p wt (x 0) (x 1) (x 2) (x 3) (ix2 i e) = zed p wt x i e - Layer.mean (zed p wt x i) := by
  rw [val_main_v15_apply, val_main_v14_apply, v9_apply,
    show (idx_main_v14 (ix2 i e) : S32768x1.Idx) = ix2 i 0 from funext fun a => match a with | 0 => rfl | 1 => rfl, v13_apply]
  rfl

/-- The reference's result. -/
theorem v33_apply (i : Fin 32768) (e : Fin 1024) :
    val_main_v33 (F := Ideal) p wt (x 0) (x 1) (x 2) (x 3) g b (ix2 i e) = Kernel7Ideal.Chain.goal p wt x g b i e := by
  rw [val_main_v33_apply, val_main_v30_apply, val_main_v27_apply, val_main_v22_apply, val_main_v21_apply, v9_apply,
    show (idx_main_v21 (ix2 i e) : S32768x1.Idx) = ix2 i 0 from funext fun a => match a with | 0 => rfl | 1 => rfl, v13_apply,
    val_main_v26_apply, val_main_v25_apply, val_main_v24_apply, val_main_v20_apply, val_main_v19_apply, val_main_v23_apply,
    val_main_v18_apply, val_main_v17_apply, val_main_v29_apply, val_main_v28_apply, val_main_v32_apply, val_main_v31_apply]
  show _ = Layer.lnorm (zed p wt x i) (fun e => g (ix1 e)) (fun e => b (ix1 e)) e
  unfold Layer.lnorm
  refine congrArg₂ (· + ·) (congrArg₂ (· * ·) (congrArg (fun u : EReal => (zed p wt x i e - Layer.mean (zed p wt x i))
      * Ideal.rsqrt (Ideal.div u (Ideal.ofBits .f32 0x44800000#32) + Ideal.ofBits .f32 0x3727C5AC#32)) ?_) ?_) ?_
  · refine (congrArg (· + _) Ideal.ofBits_zero_f32).trans ((zero_add _).trans ?_)
    refine Finset.sum_congr rfl fun k _ => ?_
    rw [val_main_v16_apply,
      show (idx_main_v17 _ k : S32768x1024.Idx) = ix2 i k from funext fun a => match a with | 0 => rfl | 1 => rfl, v15_apply]
    rfl
  · exact congrArg g (funext fun a => match a with | 0 => rfl)
  · exact congrArg b (funext fun a => match a with | 0 => rfl)

end Cert.Reference7Ideal.RefValue

end
-- ==== Proof.FinishClaims.lean ====
module

public import proofs.«01_k».proof.Defs
public import proofs.«01_k».proof.Proof.FinishRef
public import proofs.«01_k».proof.Proof.Gen.Reference7Ideal.Run

@[expose] public section

set_option maxRecDepth 16384

/-! The claims about the last normalisation. -/

noncomputable section

namespace Cert.Kernel7Ideal.Chain

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run ends with each array of a device holding what the last of the four calls leaves there. -/
theorem run_arrays : θ_run defs (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Htok; imodintro
      isplitl [Htok]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Htok
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Harr, -, Hord, -, Hreg, -⟩, -⟩
      imodintro
      isplitl [Harr]; · iexact Harr
      isplitl [Hreg]; · iexists _; iexact Hreg
      iexists ∅; iexact Hord)
    (QY := fun c s => ∀ b ∈ Pipeline.ucRefs τ sig, s.mem (((c : Thread nD τ)).1, b) = W8 m ρ c b)
    (hfin := fun c s' => by
      iintro ⟨⟨Harr, -⟩, Hstate⟩
      unfold StableHlo.held
      imodintro
      iapply (pointsTo_read_all (Pipeline.ucRefs τ sig) (fun b => (((c : Thread nD τ)).1, b)) (W8 m ρ c) s')
      isplitl [Harr] <;> iassumption)
    (hQ := fun _ h _ => h)

end Cert.Kernel7Ideal.Chain

namespace Cert.Proof

open Idealize.ShloMosaic Idealize.ShloMosaic.TcCoe Idealize.SL.Sem Cert

/-- The reference runs and leaves its arguments as they were; it has no semaphore. -/
theorem frame_reference7 : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- No rewriting lies between the kernel and its idealization. -/
theorem preserves_finish : Cert.preserves_Kernel7_Kernel7Ideal := trivial

/-- The last normalisation: the kernel's result is the reference's. -/
theorem algebraic_finish : Cert.algebraic_Kernel7Ideal_Reference7Ideal := by
  intro m g m' g' _ hagree
  refine ⟨fun c => Cert.Kernel7Ideal.Gen.W8 m g c (Proc.devRef .tc Cert.Kernel7Ideal.main_v11), ?_, ?_⟩
  · exact (θ_run Cert.Kernel7Ideal.defs _ _).mono (fun r h c =>
      ⟨h c _ (Cert.Kernel7Ideal.Gen.mem_uc Cert.Kernel7Ideal.main_v11 (by decide)),
       (h c _ (Cert.Kernel7Ideal.Gen.mem_uc Cert.Kernel7Ideal.main_arg0 (by decide))).trans (Cert.Kernel7Ideal.Gen.W8_main_arg0 m g c),
       (h c _ (Cert.Kernel7Ideal.Gen.mem_uc Cert.Kernel7Ideal.main_arg1 (by decide))).trans (Cert.Kernel7Ideal.Gen.W8_main_arg1 m g c),
       (h c _ (Cert.Kernel7Ideal.Gen.mem_uc Cert.Kernel7Ideal.main_arg2 (by decide))).trans (Cert.Kernel7Ideal.Gen.W8_main_arg2 m g c),
       (h c _ (Cert.Kernel7Ideal.Gen.mem_uc Cert.Kernel7Ideal.main_arg3 (by decide))).trans (Cert.Kernel7Ideal.Gen.W8_main_arg3 m g c),
       (h c _ (Cert.Kernel7Ideal.Gen.mem_uc Cert.Kernel7Ideal.main_arg4 (by decide))).trans (Cert.Kernel7Ideal.Gen.W8_main_arg4 m g c),
       (h c _ (Cert.Kernel7Ideal.Gen.mem_uc Cert.Kernel7Ideal.main_arg5 (by decide))).trans (Cert.Kernel7Ideal.Gen.W8_main_arg5 m g c),
       (h c _ (Cert.Kernel7Ideal.Gen.mem_uc Cert.Kernel7Ideal.main_arg6 (by decide))).trans (Cert.Kernel7Ideal.Gen.W8_main_arg6 m g c),
       (h c _ (Cert.Kernel7Ideal.Gen.mem_uc Cert.Kernel7Ideal.main_arg7 (by decide))).trans (Cert.Kernel7Ideal.Gen.W8_main_arg7 m g c)⟩)
      (Cert.Kernel7Ideal.Chain.run_arrays m g)
  refine (θ_run Cert.Reference7Ideal.defs _ _).mono (fun r h c => ⟨?_, (h c).2⟩)
    (Cert.Reference7Ideal.Value.run (F := Ideal) m' g')
  refine (h c).1.trans ?_
  rw [Cert.Reference7Ideal.Read.val_main_v33_eq]
  obtain ⟨h0, h1, h2, h3, h4, h5, h6, h7⟩ := hagree c
  rw [h0, h1, h2, h3, h4, h5, h6, h7]
  refine funext fun (j : Cert.Kernel7Ideal.S32768x1024.Idx) => ?_
  obtain ⟨i, e, rfl⟩ : ∃ (i : Fin 32768) (e : Fin 1024), j = ix2 i e := ⟨j 0, j 1, eq_ix2 j⟩
  exact (Cert.Reference7Ideal.RefValue.v33_apply _ _ (Cert.Kernel7Ideal.Chain.words m c) _ _ i e).trans
    (Cert.Kernel7Ideal.Chain.result_apply m g c i e).symm

end Cert.Proof

end
-- ==== Proof.DestBlock.lean ====
module

public import proofs.«01_k».proof.Defs
public import proofs.«01_k».proof.Proof.Gen.Kernel8Ideal.Value
public import Idealize.ShloMosaic.Lib.Pipeline.Value
public import Idealize.ShloMosaic.Lib.Pipeline.ValueKit
public import Idealize.ShloMosaic.Lib.Pointwise
public import Idealize.ShloMosaic.Lib.WordCmp
public import Idealize.ShloMosaic.Lib.Tactic

@[expose] public section

set_option maxRecDepth 16384

/-! The numbering of the rows at one grid point: eight rows of 512 choices. -/

noncomputable section

open Idealize.ShloMosaic Idealize.ShloMosaic.TcCoe Idealize.SL.Sem

namespace Cert.Kernel8Ideal.Block

open Cert.Kernel8Ideal Cert.Kernel8Ideal.Gen

/-- A word turned into a number and back is the word. -/
theorem word_back (v : BitVec 32) : Ideal.fptosi 32 (((v.toInt : ℝ) : EReal)) = v := by
  have h1 := BitVec.toInt_lt (x := v)
  have h2 := BitVec.le_toInt (x := v)
  unfold Ideal.fptosi
  rw [Ideal.toIntClamped_coe]
  simp only [Int.floor_intCast, Int.ceil_intCast, ite_self]
  rw [min_eq_right (by omega), max_eq_right (by omega), BitVec.ofInt_toInt]

/-- Of the 256 starts `f`, the sum of those whose number is the word `k`, which is one of them. -/
theorem pick (f : Fin 256 → EReal) (k : BitVec 32) (e : Fin 256) (he : k.toNat = e.val) :
    (∑ j : Fin 256, Scalar.select (IntOp.cmpi .eq (BitVec.ofNat 32 j.val) k) (f j) 0) = f e := by
  refine (Finset.sum_eq_single e (fun j _ hj => ?_) fun h => absurd (Finset.mem_univ e) h).trans ?_
  · rw [WordCmp.cmpi_eq_eq_toNat, decide_eq_false]
    · rfl
    · rw [BitVec.toNat_ofNat, he]
      intro h
      have := j.isLt
      exact hj (Fin.ext (by omega))
  · rw [WordCmp.cmpi_eq_eq_toNat, decide_eq_true]
    · rfl
    · have := e.isLt
      rw [BitVec.toNat_ofNat, he]
      omega

/-- A stored row: where the choice is the expert `e` whose start is the word `v`, that word plus the rank. -/
theorem pay5_apply (ps : Vec Ideal S256x128 .f32) (k r : Vec Ideal S1x512 .i32) (p : Fin 512) (e : Fin 256) (v : BitVec 32)
    (hk : (k (ix2 0 p)).toNat = e.val) (hv : ∀ l, ps (ix2 e l) = ((v.toInt : ℝ) : EReal)) :
    k0_pay5 (F := Ideal) ps k r (ix2 0 p) = v + r (ix2 0 p) := by
  pointwise [k0_pay5, k0_pay4]
  refine congrArg (· + r (ix2 0 p)) ?_
  refine Eq.trans (congrArg (Ideal.fptosi 32) (pick _ (k (ix2 0 p)) e hk)) ?_
  refine Eq.trans (congrArg (Ideal.fptosi 32) ?_) (word_back v)
  split_ifs <;> exact hv _

/-- A row of a block, loaded. -/
theorem ld_row (x : Vec Ideal S8x512 .i32) (n : Nat) (h : ∀ a, ![n, 0] a + S1x512.size a ≤ S8x512.size a) (b : Fin 8) (p : Fin 512)
    (hb : b.val = n) : View.ld x (Rect.unit (s := S8x512) ![n, 0] S1x512.size h) (ix2 0 p) = x (ix2 b p) :=
  View.ld_unit_apply_of x _ _ _ _ (ix2 b p) fun a => match a with
    | 0 => by show b.val = n + 0; omega
    | 1 => by show p.val = 0 + p.val; omega

/-- A list of two zeros is the zero offset. -/
theorem hz2 : (![0, 0] : Fin 2 → Nat) = fun _ => 0 := funext fun a => by fin_cases a <;> rfl

/-- A stored row of the block. -/
theorem row (x0 x1 : Vec Ideal S8x512 .i32) (x2 : Vec Ideal S256x128 .f32) (n : Nat)
    (h : ∀ a, ![n, 0] a + S1x512.size a ≤ S8x512.size a) (b : Fin 8) (p : Fin 512) (hb : b.val = n) (e : Fin 256) (v : BitVec 32)
    (hk : (x0 (ix2 b p)).toNat = e.val) (hv : ∀ l, x2 (ix2 e l) = ((v.toInt : ℝ) : EReal)) :
    k0_pay5 (F := Ideal) (View.ld x2 r0_0) (View.ld x0 (Rect.unit (s := S8x512) ![n, 0] S1x512.size h))
      (View.ld x1 (Rect.unit (s := S8x512) ![n, 0] S1x512.size h)) (ix2 0 p) = v + x1 (ix2 b p) := by
  rw [View.ld_unit_zero (S := S256x128) hz2]
  refine (pay5_apply x2 _ _ p e v ((congrArg BitVec.toNat (ld_row x0 n h b p hb)).trans hk) hv).trans ?_
  rw [ld_row x1 n h b p hb]

/-- The block of numbers. -/
theorem out3_apply (x0 x1 : Vec Ideal S8x512 .i32) (x2 : Vec Ideal S256x128 .f32) (b : Fin 8) (p : Fin 512) (e : Fin 256) (v : BitVec 32)
    (hk : (x0 (ix2 b p)).toNat = e.val) (hv : ∀ l, x2 (ix2 e l) = ((v.toInt : ℝ) : EReal)) :
    out0_3 (F := Ideal) x0 x1 x2 (ix2 b p) = v + x1 (ix2 b p) := by
  canon_tiles x h using cover0_3 ..
  all_goals
    obtain ⟨z, l, rfl⟩ : ∃ z l, x = ix2 z l := ⟨x 0, x 1, eq_ix2 x⟩
    obtain rfl : z = 0 := Subsingleton.elim _ _
    obtain rfl : p = l := Fin.ext h1
    have hs : b.val = _ := h0
    simp at hs
    exact row x0 x1 x2 _ _ b p (by simp [hs]) e v hk hv

end Cert.Kernel8Ideal.Block

end
-- ==== Proof.DestClaims.lean ====
module

public import proofs.«01_k».proof.Defs
public import proofs.«01_k».proof.Proof.DestBlock
public import proofs.«01_k».proof.Proof.Pre
public import proofs.«01_k».proof.Proof.Gen.Reference8Ideal.Run
public import proofs.«01_k».proof.Proof.Gen.Reference8Ideal.Read
public import proofs.«01_k».proof.Proof.Gen.Pre_in_range
public import Idealize.ShloMosaic.Lib.ReduceAll
public import Idealize.ShloMosaic.Lib.ValueIdxCore

@[expose] public section

set_option maxRecDepth 16384

/-! The claims about the numbering of the rows: the start of the chosen expert's rows plus the rank within them. -/

noncomputable section

open Idealize.ShloMosaic Idealize.ShloMosaic.TcCoe Idealize.SL.Sem

namespace Cert.Pre_in_range

open Cert.Pre_in_range.Gen

/-- A word from 0 to 255, read with its sign, is the number of an expert. -/
theorem small (x : BitVec 32) (h0 : 0 ≤ x.toInt) (h1 : x.toInt < 256) : x.toNat < 256 := by
  have := x.isLt
  rw [BitVec.toInt_eq_toNat_cond] at h0 h1
  split at h0 <;> split at h1 <;> omega

/-- The precondition says that every choice is the number of an expert. -/
theorem decode (x0 x1 : Vec Ideal S8x32768 .i32) (x2 : Vec Ideal S256 .i32) (j : S_.Idx) (h : fn (F := Ideal) x0 x1 x2 j = 1#1)
    (i : S8x32768.Idx) : (x0 i).toNat < 256 := by
  have : Subsingleton S_.Idx := ⟨fun a b => funext fun k => k.elim0⟩
  obtain ⟨hl, hu⟩ := Attn.both_one _ _ (Host.reduce_andi_all _ _ _ _ j h i)
  have hl' : BitVec.ofBool (decide ((0#32 : BitVec 32).toInt ≤ (x0 i).toInt)) = 1#1 := hl
  have hu' : BitVec.ofBool (decide ((x0 i).toInt < (256#32 : BitVec 32).toInt)) = 1#1 := hu
  refine small _ ?_ ?_
  · by_contra hn
    rw [decide_eq_false (by simpa using hn)] at hl'
    exact absurd hl' (by decide)
  · by_contra hn
    rw [decide_eq_false (by simpa using hn)] at hu'
    exact absurd hu' (by decide)

end Cert.Pre_in_range

namespace Cert.Reference8Ideal.RefValue

open Cert.Reference8Ideal Cert.Reference8Ideal.Gen Cert.Reference8Ideal.Read

/-- The reference's result where the choice is the expert `e`. -/
theorem v7_apply (x0 x1 : Vec Ideal S8x32768 .i32) (x2 : Vec Ideal S256 .i32) (i : S8x32768.Idx) (e : Fin 256) (he : (x0 i).toNat = e.val) :
    val_main_v7 (F := Ideal) x0 x1 x2 i = x2 (ix1 e) + x1 i := by
  have hlt := e.isLt
  have hint : (x0 i).toInt = e.val := by rw [BitVec.toInt_eq_toNat_cond, he, if_pos (by omega)]
  rw [val_main_v7_apply]
  refine congrArg (· + x1 i) ?_
  refine (ValueIdx.gather_take_apply (by decide) _ x2 (val_main_v5 (F := Ideal) x0) i).trans ?_
  refine congrArg (fun k => x2 (ix1 k)) (Fin.ext ?_)
  show min (val_main_v5 (F := Ideal) x0 (ValueIdx.takeIdx i)).toInt.toNat 255 = e.val
  rw [val_main_v5_apply,
    show (idx_main_v5 (ValueIdx.takeIdx i) : S8x32768.Idx) = i from funext fun a => match a with | 0 => rfl | 1 => rfl,
    val_main_v4_apply, val_main_v1_apply, val_main_v0_apply, val_main_c_apply, WordCmp.cmpi_slt_eq, hint,
    decide_eq_false (by simp)]
  show min (x0 i).toInt.toNat 255 = e.val
  rw [hint]
  omega

end Cert.Reference8Ideal.RefValue

namespace Cert.Kernel8Ideal.Whole

open Cert.Kernel8Ideal Cert.Kernel8Ideal.Gen
open Idealize.ShloMosaic.Pipeline (Dat)

variable (m : (ℓ : Loc nD τ sig) → Buf (Elt Ideal) ℓ)

/-- The starts as the region finds them: each as a number, along 128 columns. -/
theorem V_v2 (c : Dev nD) (e : Fin 256) (l : Fin 128) :
    V m c main_v2 (ix2 e l) = (((m ((c : Thread nD τ).loc main_arg2) (ix1 e) : BitVec 32).toInt : ℝ) : EReal) := by
  have h : V m c main_v2 = broadcastInDim S256x128 ![0, 1] bcast_S256x1_S256x128_0_1
      (broadcastInDim S256x1 ![0] bcast_S256_S256x1_0 (sitofp (F := Ideal) .f32 (m ((c : Thread nD τ).loc main_arg2)))) := by
    unfold V
    simp only [hostOps0]
    after_results
  rw [h]
  refine (broadcastInDim_apply _ bcast_S256x1_S256x128_0_1 _ (ix2 e l) (ix2 e 0) fun a => match a with | 0 => ?_ | 1 => ?_).trans
    ((broadcastInDim_apply _ bcast_S256_S256x1_0 _ (ix2 e 0) (ix1 e) fun a => match a with | 0 => ?_).trans rfl)
  · show e.val = if (256 : Nat) = 1 then 0 else e.val
    rw [if_neg (by decide)]
  · show 0 = if (1 : Nat) = 1 then 0 else l.val
    rw [if_pos rfl]
  · show e.val = if (256 : Nat) = 1 then 0 else e.val
    rw [if_neg (by decide)]

/-- The blocks at grid point `t`: the columns from `512 t` on, and the whole of the starts. -/
theorem index_all : ∀ t : Fin cfg0.N,
    (win0_0.index t 0 = 0 ∧ win0_0.index t 1 = t.val) ∧ (win0_1.index t 0 = 0 ∧ win0_1.index t 1 = t.val)
    ∧ (win0_2.index t 0 = 0 ∧ win0_2.index t 1 = 0) ∧ (win0_3.index t 0 = 0 ∧ win0_3.index t 1 = t.val) :=
  (by decide +kernel : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = 0) ∧ (win0_3.index t 0 = 0 ∧ win0_3.index t 1 = t.val))

variable (c : Dev nD) (t : Fin cfg0.N)

/-- The block of choices at grid point `t`. -/
theorem blk0 (b : Fin 8) (p : Fin 512) (q : Fin 32768) (hq : q.val = 512 * t.val + p.val) :
    iblk m c 0 t (ix2 b p) = m ((c : Thread nD τ).loc main_arg0) (ix2 b q) := by
  refine Eq.trans (congrArg (V m c main_arg0) (funext fun a => Fin.ext ?_)) (congrFun (V_main_arg0 m c) (ix2 b q))
  obtain ⟨⟨e0, e1⟩, -⟩ := index_all t
  refine (win0_0.rect_emb_val t (ix2 b p) a).trans ?_
  match a with
  | 0 => show win0_0.index t 0 * 8 + b.val = b.val; rw [e0]; omega
  | 1 => show win0_0.index t 1 * 512 + p.val = q.val; rw [e1]; omega

/-- The block of ranks at grid point `t`. -/
theorem blk1 (b : Fin 8) (p : Fin 512) (q : Fin 32768) (hq : q.val = 512 * t.val + p.val) :
    iblk m c 1 t (ix2 b p) = m ((c : Thread nD τ).loc main_arg1) (ix2 b q) := by
  refine Eq.trans (congrArg (V m c main_arg1) (funext fun a => Fin.ext ?_)) (congrFun (V_main_arg1 m c) (ix2 b q))
  obtain ⟨-, ⟨e0, e1⟩, -⟩ := index_all t
  refine (win0_1.rect_emb_val t (ix2 b p) a).trans ?_
  match a with
  | 0 => show win0_1.index t 0 * 8 + b.val = b.val; rw [e0]; omega
  | 1 => show win0_1.index t 1 * 512 + p.val = q.val; rw [e1]; omega

/-- The block of starts. -/
theorem blk2 (e : Fin 256) (l : Fin 128) :
    iblk m c 2 t (ix2 e l) = (((m ((c : Thread nD τ).loc main_arg2) (ix1 e) : BitVec 32).toInt : ℝ) : EReal) := by
  refine Eq.trans (congrArg (V m c main_v2) (funext fun a => Fin.ext ?_)) (V_v2 m c e l)
  obtain ⟨-, -, ⟨e0, e1⟩, -⟩ := index_all t
  refine (win0_2.rect_emb_val t (ix2 e l) a).trans ?_
  match a with
  | 0 => show win0_2.index t 0 * 256 + e.val = e.val; rw [e0]; omega
  | 1 => show win0_2.index t 1 * 128 + l.val = l.val; rw [e1]; omega

/-- The kernel's result after the whole grid has run, where the choice is the expert `e`. -/
theorem final_apply (b : Fin 8) (q : Fin 32768) (e : Fin 256)
    (he : (m ((c : Thread nD τ).loc main_arg0) (ix2 b q) : BitVec 32).toNat = e.val) :
    (dats m 0 c).arrAt 3 cfg0.N (ix2 b q) =
      (show BitVec 32 from m ((c : Thread nD τ).loc main_arg2) (ix1 e)) + (show BitVec 32 from m ((c : Thread nD τ).loc main_arg1) (ix2 b q)) := by
  have hN : cfg0.N = 64 := N_0
  have hlt := q.isLt
  obtain ⟨t, ht⟩ : ∃ t : Fin cfg0.N, t.val = q.val / 512 := ⟨⟨q.val / 512, by omega⟩, rfl⟩
  obtain ⟨p, hp⟩ : ∃ p : Fin 512, p.val = q.val % 512 := ⟨⟨q.val % 512, by omega⟩, rfl⟩
  have hq : q.val = 512 * t.val + p.val := by omega
  have hb := congrFun (Cert.Kernel8Ideal.Value.blocks3 m c t (flush0_3 t)) (ix2 b p)
  rw [Cert.Kernel8Ideal.Value.flushed3] at hb
  have hi : ((cfg0.win 3).blk t).view.emb (ix2 b p) = ix2 b q := by
    funext a
    obtain ⟨-, -, -, e0, e1⟩ := index_all t
    refine Fin.ext ((win0_3.rect_emb_val t (ix2 b p) a).trans ?_)
    match a with
    | 0 => show win0_3.index t 0 * 8 + b.val = b.val; rw [e0]; omega
    | 1 => show win0_3.index t 1 * 512 + p.val = q.val; rw [e1]; omega
  rw [← hi]
  refine hb.trans ?_
  rw [hi]
  show out0_3 (iblk m c 0 t) (iblk m c 1 t) (iblk m c 2 t) (ix2 b p) = _
  refine (Block.out3_apply (iblk m c 0 t) (iblk m c 1 t) (iblk m c 2 t) b p e _
    ((congrArg BitVec.toNat (blk0 m c t b p q hq)).trans he) (blk2 m c t e)).trans ?_
  rw [blk1 m c t b p q hq]

end Cert.Kernel8Ideal.Whole

namespace Cert.Proof

/-- The reference of the numbering runs and leaves its arguments as they were; it has no semaphore. -/
theorem frame_reference8 : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- The numbering of the rows: the kernel's result is the reference's where every choice is the number of an expert. -/
theorem algebraic_dest : Cert.algebraic_Kernel8Ideal_Reference8Ideal_pre_in_range := by
  intro m g m' g' hpre hagree
  refine ⟨fun c => (Cert.Kernel8Ideal.Gen.dats m 0 c).arrAt 3 Cert.Kernel8Ideal.cfg0.N, Cert.Kernel8Ideal.Value.run_blocks m g, ?_⟩
  refine (θ_run Cert.Reference8Ideal.defs _ _).mono (fun r h c => ⟨?_, (h c).2⟩)
    (Cert.Reference8Ideal.Value.run (F := Ideal) m' g')
  refine (h c).1.trans ?_
  rw [Cert.Reference8Ideal.Read.val_main_v7_eq]
  obtain ⟨h0, h1, h2⟩ := hagree c
  rw [h0, h1, h2]
  refine funext fun (j : Cert.Kernel8Ideal.S8x32768.Idx) => ?_
  obtain ⟨b, q, rfl⟩ : ∃ (b : Fin 8) (q : Fin 32768), j = ix2 b q := ⟨j 0, j 1, eq_ix2 j⟩
  obtain ⟨e, he⟩ : ∃ e : Fin 256, (m ((c.tc : Thread Cert.Kernel8Ideal.nD Cert.Kernel8Ideal.τ).loc Cert.Kernel8Ideal.main_arg0) (ix2 b q) : BitVec 32).toNat = e.val :=
    ⟨⟨_, Cert.Pre_in_range.decode _ _ _ _ (congrFun (hpre c) fun k => k.elim0) (ix2 b q)⟩, rfl⟩
  exact (Cert.Reference8Ideal.RefValue.v7_apply _ _ _ (ix2 b q) e he).trans (Cert.Kernel8Ideal.Whole.final_apply m c b q e he).symm

end Cert.Proof

end
-- ==== Proof.lean ====
/-
  The calls of the layer that the statement takes up, each against its reference: every claim stated there, proved.
  The attention is in Proof/Attention.lean, the input projection in Proof/InprojClaims.lean, the merge of the branches and the shared expert in
  Proof/MixShared.lean, the Fourier branch in Proof/FourClaims.lean, the weighted sum of the experts' rows and the last normalisation
  in Proof/FinishClaims.lean, the numbering of the rows in Proof/DestClaims.lean; each of them says where its parts are.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Kernel7.Frame
public import proofs.«01_k».proof.Proof.Gen.Kernel7Ideal.Frame
public import proofs.«01_k».proof.Proof.Gen.Kernel8.Frame
public import proofs.«01_k».proof.Proof.Gen.Kernel8Ideal.Frame
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Kernel3
public import proofs.«01_k».proof.Proof.Gen.Kernel3Ideal
public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal
public import proofs.«01_k».proof.Proof.Gen.Kernel7
public import proofs.«01_k».proof.Proof.Gen.Kernel7Ideal
public import proofs.«01_k».proof.Proof.Gen.Kernel8
public import proofs.«01_k».proof.Proof.Gen.Kernel8Ideal
public import proofs.«01_k».proof.Proof.Gen.ReferenceIdeal
public import proofs.«01_k».proof.Proof.Gen.Reference3Ideal
public import proofs.«01_k».proof.Proof.Gen.Reference4Ideal
public import proofs.«01_k».proof.Proof.Gen.Reference5Ideal
public import proofs.«01_k».proof.Proof.Gen.Reference6Ideal
public import proofs.«01_k».proof.Proof.Gen.Reference7Ideal
public import proofs.«01_k».proof.Proof.Gen.Reference8Ideal
public import proofs.«01_k».proof.Proof.Gen.Pre_finite
public import proofs.«01_k».proof.Proof.Gen.Pre_finite_qk
public import proofs.«01_k».proof.Proof.Gen.Pre_in_range
public import proofs.«01_k».proof.Proof.Attention
public import proofs.«01_k».proof.Proof.InprojClaims
public import proofs.«01_k».proof.Proof.MixShared
public import proofs.«01_k».proof.Proof.FourClaims
public import proofs.«01_k».proof.Proof.FinishClaims
public import proofs.«01_k».proof.Proof.DestClaims
public import Idealize.ShloMosaic.Adequacy
public import Idealize.ShloMosaic.Init

@[expose] public section

noncomputable section

namespace Cert.Proof

open Idealize.ShloMosaic Idealize.SL.Sem Cert

/-- All the claims. -/
theorem claim : Cert.Claim := ⟨Cert.Kernel.Gen.facts, Cert.KernelIdeal.Gen.facts, Cert.ReferenceIdeal.Gen.facts, Cert.Kernel2.Gen.facts, Cert.Kernel2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite.Gen.facts, Cert.Pre_finite_qk.Gen.facts, Cert.Pre_in_range.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => frame_reference m g trivial,
  fun m g _ => Cert.Kernel2.Gen.frame m g,
  fun m g _ => Cert.Kernel2Ideal.Gen.frame m g,
  fun m g _ => Cert.Kernel2Ideal.Gen.frame m g,
  fun m g _ => Cert.Kernel3.Gen.frame m g,
  fun m g _ => Cert.Kernel3Ideal.Gen.frame m g,
  frame_reference3,
  fun m g _ => Cert.Kernel4.Gen.frame m g,
  fun m g _ => Cert.Kernel4Ideal.Gen.frame m g,
  frame_reference4,
  fun m g _ => Cert.Kernel5.Gen.frame m g,
  fun m g _ => Cert.Kernel5Ideal.Gen.frame m g,
  frame_reference5,
  fun m g _ => Cert.Kernel6.Gen.frame m g,
  fun m g _ => Cert.Kernel6Ideal.Gen.frame m g,
  frame_reference6,
  fun m g _ => Cert.Kernel7.Gen.frame m g,
  fun m g _ => Cert.Kernel7Ideal.Gen.frame m g,
  frame_reference7,
  fun m g _ => Cert.Kernel8.Gen.frame m g,
  fun m g _ => Cert.Kernel8Ideal.Gen.frame m g,
  fun m g _ => Cert.Kernel8Ideal.Gen.frame m g,
  frame_reference8,
  fun m g _ => frame_reference8 m g trivial,
  trivial, algebraic_bounded, trivial, algebraic_greatest,
  preserves_inproj, algebraic_inproj,
  preserves_mix, algebraic_mix, preserves_shared, algebraic_shared,
  preserves_fourier, algebraic_fourier, preserves_finish, algebraic_finish,
  trivial, algebraic_dest⟩

end Cert.Proof

end
